-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)) (v3 : (c : Dev Cert.Kernel2Ideal.nD) → Buf (Elt Ideal) ((c.tc : Thread Cert.Kernel2Ideal.nD Cert.Kernel2Ideal.τ).loc Cert.Kernel2Ideal.main_v3_3)) (v4 : (c : Dev Cert.Kernel2Ideal.nD) → Buf (Elt Ideal) ((c.tc : Thread Cert.Kernel2Ideal.nD Cert.Kernel2Ideal.τ).loc Cert.Kernel2Ideal.main_v3_4)) (v5 : (c : Dev Cert.Kernel2Ideal.nD) → Buf (Elt Ideal) ((c.tc : Thread Cert.Kernel2Ideal.nD Cert.Kernel2Ideal.τ).loc Cert.Kernel2Ideal.main_v3_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_v3_3) = v3 c
          ∧ r.2.mem ((c.tc : Thread Cert.Kernel2Ideal.nD Cert.Kernel2Ideal.τ).loc Cert.Kernel2Ideal.main_v3_4) = v4 c
          ∧ r.2.mem ((c.tc : Thread Cert.Kernel2Ideal.nD Cert.Kernel2Ideal.τ).loc Cert.Kernel2Ideal.main_v3_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_v35) = v1 c
          ∧ r.2.mem ((c.tc : Thread Cert.Reference2Ideal.nD Cert.Reference2Ideal.τ).loc Cert.Reference2Ideal.main_v36) = v2 c
          ∧ r.2.mem ((c.tc : Thread Cert.Reference2Ideal.nD Cert.Reference2Ideal.τ).loc Cert.Reference2Ideal.main_v37) = v3 c
          ∧ r.2.mem ((c.tc : Thread Cert.Reference2Ideal.nD Cert.Reference2Ideal.τ).loc Cert.Reference2Ideal.main_v38) = v4 c
          ∧ r.2.mem ((c.tc : Thread Cert.Reference2Ideal.nD Cert.Reference2Ideal.τ).loc Cert.Reference2Ideal.main_v39) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v41)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v41) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v56) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_inputs.lean ====
abbrev S49152x512 : Shape := ⟨2, ![49152, 512]⟩
abbrev S49152x128 : Shape := ⟨2, ![49152, 128]⟩
abbrev S64 : Shape := ⟨1, ![64]⟩
abbrev S8 : Shape := ⟨1, ![8]⟩
abbrev S_ : Shape := ⟨0, ![]⟩

class Facts : Prop where
  bcast_S_S49152x512 : S_.BroadcastsInDim S49152x512 (![] : Fin 0 → Fin S49152x512.rank)
  reducesTo_S49152x512_S_d0_1 : S49152x512.ReducesTo [0, 1] S_
  h_S_ : 0 < S_.numel
  bcast_S_S49152x128 : S_.BroadcastsInDim S49152x128 (![] : Fin 0 → Fin S49152x128.rank)
  reducesTo_S49152x128_S_d0_1 : S49152x128.ReducesTo [0, 1] S_
  bcast_S_S64 : S_.BroadcastsInDim S64 (![] : Fin 0 → Fin S64.rank)
  reducesTo_S64_S_d0 : S64.ReducesTo [0] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S8 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_cst_6 : FVec F S_ .f32 := constant S_ .f32 0x7F800000#32
  let main_v19 : FVec F S8 .f32 := broadcastInDim S8 ![] bcast_S_S8 main_cst_6
  let main_v20 : IVec S8 1 := cmpf .olt main_arg5 main_v19
  let main_c_7 : IVec S_ 1 := constantI S_ 1 1#1
  let main_v21 : IVec S_ 1 := (fun x v => Host.reduce IntOp.andi x v reducesTo_S8_S_d0 h_S_) main_v20 main_c_7
  let main_v22 : IVec S_ 1 := andi main_v18 main_v21
  main_v22

def fn {F : FTy → Type} [FloatOps F] (main_arg0 : FVec F S49152x512 .f32) (main_arg1 : FVec F S49152x128 .f32) (main_arg2 : FVec F S49152x128 .f32) (main_arg3 : FVec F S64 .f32) (main_arg4 : FVec F S64 .f32) (main_arg5 : FVec F S8 .f32) : IVec S_ 1 :=
  let main_v0 : FVec F S49152x512 .f32 := Host.absf main_arg0
  let main_cst : FVec F S_ .f32 := constant S_ .f32 0x7F800000#32
  let main_v1 : FVec F S49152x512 .f32 := broadcastInDim S49152x512 ![] bcast_S_S49152x512 main_cst
  let main_v2 : IVec S49152x512 1 := cmpf .olt main_v0 main_v1
  let main_c : IVec S_ 1 := constantI S_ 1 1#1
  let main_v3 : IVec S_ 1 := (fun x v => Host.reduce IntOp.andi x v reducesTo_S49152x512_S_d0_1 h_S_) main_v2 main_c
  let main_v4 : FVec F S49152x128 .f32 := Host.absf main_arg1
  let main_cst_0 : FVec F S_ .f32 := constant S_ .f32 0x7F800000#32
  let main_v5 : FVec F S49152x128 .f32 := broadcastInDim S49152x128 ![] bcast_S_S49152x128 main_cst_0
  let main_v6 : IVec S49152x128 1 := cmpf .olt main_v4 main_v5
  let main_c_1 : IVec S_ 1 := constantI S_ 1 1#1
  let main_v7 : IVec S_ 1 := (fun x v => Host.reduce IntOp.andi x v reducesTo_S49152x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_v13 main_v16
-- ==== Kernel.lean ====
abbrev S49152x512 : Shape := ⟨2, ![49152, 512]⟩
abbrev S49152x128 : Shape := ⟨2, ![49152, 128]⟩
abbrev S64 : Shape := ⟨1, ![64]⟩
abbrev S8 : Shape := ⟨1, ![8]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S8x1 : Shape := ⟨2, ![8, 1]⟩
abbrev S8x128 : Shape := ⟨2, ![8, 128]⟩
abbrev S2048x512 : Shape := ⟨2, ![2048, 512]⟩
abbrev S4x2048x128 : Shape := ⟨3, ![4, 2048, 128]⟩
abbrev S128x128 : Shape := ⟨2, ![128, 128]⟩
abbrev S1x2048x128 : Shape := ⟨3, ![1, 2048, 128]⟩
abbrev S128x384 : Shape := ⟨2, ![128, 384]⟩
abbrev S1x384x128 : Shape := ⟨3, ![1, 384, 128]⟩
abbrev S384x128 : Shape := ⟨2, ![384, 128]⟩
abbrev S1x1 : Shape := ⟨2, ![1, 1]⟩
abbrev S128x1 : Shape := ⟨2, ![128, 1]⟩

abbrev nBuf : Space → Nat
  | .hbm => 47
  | .vmem => 16
  | .smem => 0
  | _ => 0

abbrev bufTy : (tb : Table) → Fin (tcTables nBuf tb) → BufTy
  | .hbm, ⟨0, _⟩ => ⟨S49152x512, .f32⟩
  | .hbm, ⟨1, _⟩ => ⟨S49152x128, .f32⟩
  | .hbm, ⟨2, _⟩ => ⟨S49152x128, .f32⟩
  | .hbm, ⟨3, _⟩ => ⟨S64, .f32⟩
  | .hbm, ⟨4, _⟩ => ⟨S64, .f32⟩
  | .hbm, ⟨5, _⟩ => ⟨S8, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S2048, .f32⟩
  | .hbm, ⟨21, _⟩ => ⟨S2048x1, .f32⟩
  | .hbm, ⟨22, _⟩ => ⟨S1x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S1x2048x1x32, .f32⟩
  | .hbm, ⟨28, _⟩ => ⟨S1x2048x4x32, .f32⟩
  | .hbm, ⟨29, _⟩ => ⟨S2048x128, .f32⟩
  | .hbm, ⟨30, _⟩ => ⟨S2048x32, .f32⟩
  | .hbm, ⟨31, _⟩ => ⟨S2048x32, .f32⟩
  | .hbm, ⟨32, _⟩ => ⟨S2048x64, .f32⟩
  | .hbm, ⟨33, _⟩ => ⟨S1x2048x1x64, .f32⟩
  | .hbm, ⟨34, _⟩ => ⟨S1x2048x2x64, .f32⟩
  | .hbm, ⟨35, _⟩ => ⟨S2048x128, .f32⟩
  | .hbm, ⟨36, _⟩ => ⟨S1x64, .f32⟩
  | .hbm, ⟨37, _⟩ => ⟨S2x64, .f32⟩
  | .hbm, ⟨38, _⟩ => ⟨S128, .f32⟩
  | .hbm, ⟨39, _⟩ => ⟨S1x128, .f32⟩
  | .hbm, ⟨40, _⟩ => ⟨S1x64, .f32⟩
  | .hbm, ⟨41, _⟩ => ⟨S2x64, .f32⟩
  | .hbm, ⟨42, _⟩ => ⟨S128, .f32⟩
  | .hbm, ⟨43, _⟩ => ⟨S1x128, .f32⟩
  | .hbm, ⟨44, _⟩ => ⟨S8x1, .f32⟩
  | .hbm, ⟨45, _⟩ => ⟨S8x128, .f32⟩
  | .hbm, ⟨46, _⟩ => ⟨S49152x512, .f32⟩
  | .local _ .vmem, ⟨0, _⟩ => ⟨S2048x512, .f32⟩
  | .local _ .vmem, ⟨1, _⟩ => ⟨S2048x512, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S1x128, .f32⟩
  | .local _ .vmem, ⟨9, _⟩ => ⟨S1x128, .f32⟩
  | .local _ .vmem, ⟨10, _⟩ => ⟨S8x128, .f32⟩
  | .local _ .vmem, ⟨11, _⟩ => ⟨S2048x512, .f32⟩
  | .local _ .vmem, ⟨12, _⟩ => ⟨S2048x512, .f32⟩
  | .local _ .vmem, ⟨13, _⟩ => ⟨S2048x512, .bf16⟩
  | .local _ .vmem, ⟨14, _⟩ => ⟨S4x2048x128, .bf16⟩
  | .local _ .vmem, ⟨15, _⟩ => ⟨S4x2048x128, .bf16⟩
  | _, _ => ⟨S49152x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![24], ![false]⟩

@[reducible] def k0_t1_loop : Scf.Loop 32 :=
  let c0_i32_109 : BitVec 32 := 0#32
  let c16_i32 : BitVec 32 := 16#32
  let v300 : BitVec 32 := Scalar.addi c0_i32_109 c16_i32
  let c1_i32_110 : BitVec 32 := 1#32
  ⟨c0_i32_109, v300, c1_i32_110⟩
def k0_mult1 (k0_t1 : Fin k0_t1_loop.trips) : BitVec 32 :=
  let c0_i32_109 : BitVec 32 := 0#32
  let c1_i32_110 : BitVec 32 := 1#32
  let arg13 : BitVec 32 := Scf.iv c0_i32_109 c1_i32_110 k0_t1
  let c128_i32 : BitVec 32 := 128#32
  let v301 : BitVec 32 := Scalar.muli arg13 c128_i32
  v301
def k0_mult2 (k0_t1 : Fin k0_t1_loop.trips) : BitVec 32 :=
  let c1664_i32 : BitVec 32 := 1664#32
  let c0_i32_114 : BitVec 32 := 0#32
  let c0_i32_109 : BitVec 32 := 0#32
  let c1_i32_110 : BitVec 32 := 1#32
  let arg13 : BitVec 32 := Scf.iv c0_i32_109 c1_i32_110 k0_t1
  let c1_i32_112 : BitVec 32 := 1#32
  let v303 : BitVec 32 := Scalar.subi arg13 c1_i32_112
  let c128_i32_113 : BitVec 32 := 128#32
  let v304 : BitVec 32 := Scalar.muli v303 c128_i32_113
  let v305 : BitVec 32 := Scalar.maxsi c0_i32_114 v304
  let v306 : BitVec 32 := Scalar.minsi c1664_i32 v305
  v306
def k0_off1 (k0_t1 : Fin k0_t1_loop.trips) : Fin 2 → Nat :=
  let c0_i32_109 : BitVec 32 := 0#32
  let c1_i32_110 : BitVec 32 := 1#32
  let arg13 : BitVec 32 := Scf.iv c0_i32_109 c1_i32_110 k0_t1
  let c128_i32 : BitVec 32 := 128#32
  let v301 : BitVec 32 := Scalar.muli arg13 c128_i32
  let v302 : BitVec 32 := v301
  let v315 : Index := Scalar.indexCast v302
  let c0_116 : Index := 0#32
  ![v315.toNat, 0]
def k0_off2 (k0_t1 : Fin k0_t1_loop.trips) : Fin 3 → Nat :=
  let c0_118 : Index := 0#32
  let c1664_i32 : BitVec 32 := 1664#32
  let c0_i32_114 : BitVec 32 := 0#32
  let c0_i32_109 : BitVec 32 := 0#32
  let c1_i32_110 : BitVec 32 := 1#32
  let arg13 : BitVec 32 := Scf.iv c0_i32_109 c1_i32_110 k0_t1
  let c1_i32_112 : BitVec 32 := 1#32
  let v303 : BitVec 32 := Scalar.subi arg13 c1_i32_112
  let c128_i32_113 : BitVec 32 := 128#32
  let v304 : BitVec 32 := Scalar.muli v303 c128_i32_113
  let v305 : BitVec 32 := Scalar.maxsi c0_i32_114 v304
  let v306 : BitVec 32 := Scalar.minsi c1664_i32 v305
  let v307 : BitVec 32 := v306
  let v318 : Index := Scalar.indexCast v307
  let c0_119 : Index := 0#32
  ![0, v318.toNat, 0]
def k0_off3 (k0_t1 : Fin k0_t1_loop.trips) : Fin 3 → Nat :=
  let c1_130 : Index := 1#32
  let c1664_i32 : BitVec 32 := 1664#32
  let c0_i32_114 : BitVec 32 := 0#32
  let c0_i32_109 : BitVec 32 := 0#32
  let c1_i32_110 : BitVec 32 := 1#32
  let arg13 : BitVec 32 := Scf.iv c0_i32_109 c1_i32_110 k0_t1
  let c1_i32_112 : BitVec 32 := 1#32
  let v303 : BitVec 32 := Scalar.subi arg13 c1_i32_112
  let c128_i32_113 : BitVec 32 := 128#32
  let v304 : BitVec 32 := Scalar.muli v303 c128_i32_113
  let v305 : BitVec 32 := Scalar.maxsi c0_i32_114 v304
  let v306 : BitVec 32 := Scalar.minsi c1664_i32 v305
  let v307 : BitVec 32 := v306
  let v349 : Index := Scalar.indexCast v307
  let c0_131 : Index := 0#32
  ![1, v349.toNat, 0]
def k0_off4 (k0_t1 : Fin k0_t1_loop.trips) : Fin 2 → Nat :=
  let c0_i32_109 : BitVec 32 := 0#32
  let c1_i32_110 : BitVec 32 := 1#32
  let arg13 : BitVec 32 := Scf.iv c0_i32_109 c1_i32_110 k0_t1
  let c128_i32 : BitVec 32 := 128#32
  let v301 : BitVec 32 := Scalar.muli arg13 c128_i32
  let v302 : BitVec 32 := v301
  let v382 : Index := Scalar.indexCast v302
  let c128_143 : Index := 128#32
  ![v382.toNat, 128]
def k0_off5 (k0_t1 : Fin k0_t1_loop.trips) : Fin 2 → Nat :=
  let c0_i32_109 : BitVec 32 := 0#32
  let c1_i32_110 : BitVec 32 := 1#32
  let arg13 : BitVec 32 := Scf.iv c0_i32_109 c1_i32_110 k0_t1
  let c128_i32 : BitVec 32 := 128#32
  let v301 : BitVec 32 := Scalar.muli arg13 c128_i32
  let v302 : BitVec 32 := v301
  let v449 : Index := Scalar.indexCast v302
  let c256_170 : Index := 256#32
  ![v449.toNat, 256]
def k0_off6 (k0_t1 : Fin k0_t1_loop.trips) : Fin 3 → Nat :=
  let c2_172 : Index := 2#32
  let c1664_i32 : BitVec 32 := 1664#32
  let c0_i32_114 : BitVec 32 := 0#32
  let c0_i32_109 : BitVec 32 := 0#32
  let c1_i32_110 : BitVec 32 := 1#32
  let arg13 : BitVec 32 := Scf.iv c0_i32_109 c1_i32_110 k0_t1
  let c1_i32_112 : BitVec 32 := 1#32
  let v303 : BitVec 32 := Scalar.subi arg13 c1_i32_112
  let c128_i32_113 : BitVec 32 := 128#32
  let v304 : BitVec 32 := Scalar.muli v303 c128_i32_113
  let v305 : BitVec 32 := Scalar.maxsi c0_i32_114 v304
  let v306 : BitVec 32 := Scalar.minsi c1664_i32 v305
  let v307 : BitVec 32 := v306
  let v452 : Index := Scalar.indexCast v307
  let c0_173 : Index := 0#32
  ![2, v452.toNat, 0]
def k0_off7 (k0_t1 : Fin k0_t1_loop.trips) : Fin 3 → Nat :=
  let c3_183 : Index := 3#32
  let c1664_i32 : BitVec 32 := 1664#32
  let c0_i32_114 : BitVec 32 := 0#32
  let c0_i32_109 : BitVec 32 := 0#32
  let c1_i32_110 : BitVec 32 := 1#32
  let arg13 : BitVec 32 := Scf.iv c0_i32_109 c1_i32_110 k0_t1
  let c1_i32_112 : BitVec 32 := 1#32
  let v303 : BitVec 32 := Scalar.subi arg13 c1_i32_112
  let c128_i32_113 : BitVec 32 := 128#32
  let v304 : BitVec 32 := Scalar.muli v303 c128_i32_113
  let v305 : BitVec 32 := Scalar.maxsi c0_i32_114 v304
  let v306 : BitVec 32 := Scalar.minsi c1664_i32 v305
  let v307 : BitVec 32 := v306
  let v483 : Index := Scalar.indexCast v307
  let c0_184 : Index := 0#32
  ![3, v483.toNat, 0]
def k0_off8 (k0_t1 : Fin k0_t1_loop.trips) : Fin 2 → Nat :=
  let c0_i32_109 : BitVec 32 := 0#32
  let c1_i32_110 : BitVec 32 := 1#32
  let arg13 : BitVec 32 := Scf.iv c0_i32_109 c1_i32_110 k0_t1
  let c128_i32 : BitVec 32 := 128#32
  let v301 : BitVec 32 := Scalar.muli arg13 c128_i32
  let v302 : BitVec 32 := v301
  let v516 : Index := Scalar.indexCast v302
  let c384_195 : Index := 384#32
  ![v516.toNat, 384]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S49152x512 : Shape := ⟨2, ![49152, 512]⟩
abbrev S49152x128 : Shape := ⟨2, ![49152, 128]⟩
abbrev S64 : Shape := ⟨1, ![64]⟩
abbrev S8 : Shape := ⟨1, ![8]⟩
abbrev S24x2048x8x64 : Shape := ⟨4, ![24, 2048, 8, 64]⟩
abbrev S_ : Shape := ⟨0, ![]⟩
abbrev S24x2048x8 : Shape := ⟨3, ![24, 2048, 8]⟩
abbrev S24x2048x8x1 : Shape := ⟨4, ![24, 2048, 8, 1]⟩
abbrev S1x1x1x64 : Shape := ⟨4, ![1, 1, 1, 64]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S24x2048x8x32 : Shape := ⟨4, ![24, 2048, 8, 32]⟩
abbrev S24x2048x2x64 : Shape := ⟨4, ![24, 2048, 2, 64]⟩
abbrev S24x2048x2 : Shape := ⟨3, ![24, 2048, 2]⟩
abbrev S24x2048x2x1 : Shape := ⟨4, ![24, 2048, 2, 1]⟩
abbrev S24x2048x2x32 : Shape := ⟨4, ![24, 2048, 2, 32]⟩
abbrev S24x16x128x2x4x64 : Shape := ⟨6, ![24, 16, 128, 2, 4, 64]⟩
abbrev S24x2304x2x64 : Shape := ⟨4, ![24, 2304, 2, 64]⟩
abbrev S24x18x128x2x64 : Shape := ⟨5, ![24, 18, 128, 2, 64]⟩
abbrev S24x16x128x2x64 : Shape := ⟨5, ![24, 16, 128, 2, 64]⟩
abbrev S24x16x384x2x64 : Shape := ⟨5, ![24, 16, 384, 2, 64]⟩
abbrev S24x16x2x384x128x4 : Shape := ⟨6, ![24, 16, 2, 384, 128, 4]⟩
abbrev S24x16x2x4x128x384 : Shape := ⟨6, ![24, 16, 2, 4, 128, 384]⟩
abbrev S16 : Shape := ⟨1, ![16]⟩
abbrev S16x1x1 : Shape := ⟨3, ![16, 1, 1]⟩
abbrev S128 : Shape := ⟨1, ![128]⟩
abbrev S1x128x1 : Shape := ⟨3, ![1, 128, 1]⟩
abbrev S16x128x1 : Shape := ⟨3, ![16, 128, 1]⟩
abbrev S384 : Shape := ⟨1, ![384]⟩
abbrev S1x1x384 : Shape := ⟨3, ![1, 1, 384]⟩
abbrev S16x1x384 : Shape := ⟨3, ![16, 1, 384]⟩
abbrev S16x128x384 : Shape := ⟨3, ![16, 128, 384]⟩
abbrev S1x16x1x1x128x384 : Shape := ⟨6, ![1, 16, 1, 1, 128, 384]⟩
abbrev S2x4 : Shape := ⟨2, ![2, 4]⟩
abbrev S1x1x2x4x1x1 : Shape := ⟨6, ![1, 1, 2, 4, 1, 1]⟩
abbrev S24x16x2x4x128 : Shape := ⟨5, ![24, 16, 2, 4, 128]⟩
abbrev S24x16x2x4x128x1 : Shape := ⟨6, ![24, 16, 2, 4, 128, 1]⟩
abbrev S24x16x2x64x4x128 : Shape := ⟨6, ![24, 16, 2, 64, 4, 128]⟩

abbrev nBuf : Space → Nat
  | .hbm => 200
  | .vmem => 0
  | .smem => 0
  | _ => 0

abbrev hbmTy0_0 (i : Nat) : BufTy := match i % 128 with
  | 0 => ⟨S49152x512, .f32⟩
  | 1 => ⟨S49152x128, .f32⟩
  | 2 => ⟨S49152x128, .f32⟩
  | 3 => ⟨S64, .f32⟩
  | 4 => ⟨S64, .f32⟩
  | 5 => ⟨S8, .f32⟩
  | 6 => ⟨S24x2048x8x64, .f32⟩
  | 7 => ⟨S24x2048x8x64, .f32⟩
  | 8 => ⟨S_, .f32⟩
  | 9 => ⟨S24x2048x8, .f32⟩
  | 10 => ⟨S24x2048x8x1, .f32⟩
  | 11 => ⟨S_, .f32⟩
  | 12 => ⟨S24x2048x8x1, .f32⟩
  | 13 => ⟨S24x2048x8x1, .f32⟩
  | 14 => ⟨S_, .f32⟩
  | 15 => ⟨S24x2048x8x1, .f32⟩
  | 16 => ⟨S24x2048x8x1, .f32⟩
  | 17 => ⟨S24x2048x8x1, .f32⟩
  | 18 => ⟨S24x2048x8x64, .f32⟩
  | 19 => ⟨S24x2048x8x64, .f32⟩
  | 20 => ⟨S1x1x1x64, .f32⟩
  | 21 => ⟨S24x2048x8x64, .f32⟩
  | 22 => ⟨S24x2048x8x64, .f32⟩
  | 23 => ⟨S32, .f32⟩
  | 24 => ⟨S_, .f32⟩
  | 25 => ⟨S32, .f32⟩
  | 26 => ⟨S32, .f32⟩
  | 27 => ⟨S_, .f32⟩
  | 28 => ⟨S32, .f32⟩
  | 29 => ⟨S32, .f32⟩
  | 30 => ⟨S32, .f32⟩
  | 31 => ⟨S_, .f32⟩
  | 32 => ⟨S32, .f32⟩
  | 33 => ⟨S32, .f32⟩
  | 34 => ⟨S_, .f32⟩
  | 35 => ⟨S32, .f32⟩
  | 36 => ⟨S32, .f32⟩
  | 37 => ⟨S2048, .f32⟩
  | 38 => ⟨S2048x1, .f32⟩
  | 39 => ⟨S1x32, .f32⟩
  | 40 => ⟨S2048x32, .f32⟩
  | 41 => ⟨S2048x32, .f32⟩
  | 42 => ⟨S2048x32, .f32⟩
  | 43 => ⟨S2048x32, .f32⟩
  | 44 => ⟨S1x2048x1x32, .f32⟩
  | 45 => ⟨S2048x32, .f32⟩
  | 46 => ⟨S1x2048x1x32, .f32⟩
  | 47 => ⟨S24x2048x8x32, .f32⟩
  | 48 => ⟨S24x2048x8x32, .f32⟩
  | 49 => ⟨S24x2048x8x32, .f32⟩
  | 50 => ⟨S24x2048x8x32, .f32⟩
  | 51 => ⟨S24x2048x8x32, .f32⟩
  | 52 => ⟨S24x2048x8x32, .f32⟩
  | 53 => ⟨S24x2048x8x32, .f32⟩
  | 54 => ⟨S24x2048x8x32, .f32⟩
  | 55 => ⟨S24x2048x8x32, .f32⟩
  | 56 => ⟨S24x2048x8x32, .f32⟩
  | 57 => ⟨S24x2048x8x32, .f32⟩
  | 58 => ⟨S24x2048x8x32, .f32⟩
  | 59 => ⟨S24x2048x8x64, .f32⟩
  | 60 => ⟨S24x2048x2x64, .f32⟩
  | 61 => ⟨S24x2048x2x64, .f32⟩
  | 62 => ⟨S_, .f32⟩
  | 63 => ⟨S24x2048x2, .f32⟩
  | 64 => ⟨S24x2048x2x1, .f32⟩
  | 65 => ⟨S_, .f32⟩
  | 66 => ⟨S24x2048x2x1, .f32⟩
  | 67 => ⟨S24x2048x2x1, .f32⟩
  | 68 => ⟨S_, .f32⟩
  | 69 => ⟨S24x2048x2x1, .f32⟩
  | 70 => ⟨S24x2048x2x1, .f32⟩
  | 71 => ⟨S24x2048x2x1, .f32⟩
  | 72 => ⟨S24x2048x2x64, .f32⟩
  | 73 => ⟨S24x2048x2x64, .f32⟩
  | 74 => ⟨S1x1x1x64, .f32⟩
  | 75 => ⟨S24x2048x2x64, .f32⟩
  | 76 => ⟨S24x2048x2x64, .f32⟩
  | 77 => ⟨S32, .f32⟩
  | 78 => ⟨S_, .f32⟩
  | 79 => ⟨S32, .f32⟩
  | 80 => ⟨S32, .f32⟩
  | 81 => ⟨S_, .f32⟩
  | 82 => ⟨S32, .f32⟩
  | 83 => ⟨S32, .f32⟩
  | 84 => ⟨S32, .f32⟩
  | 85 => ⟨S_, .f32⟩
  | 86 => ⟨S32, .f32⟩
  | 87 => ⟨S32, .f32⟩
  | 88 => ⟨S_, .f32⟩
  | 89 => ⟨S32, .f32⟩
  | 90 => ⟨S32, .f32⟩
  | 91 => ⟨S2048, .f32⟩
  | 92 => ⟨S2048x1, .f32⟩
  | 93 => ⟨S1x32, .f32⟩
  | 94 => ⟨S2048x32, .f32⟩
  | 95 => ⟨S2048x32, .f32⟩
  | 96 => ⟨S2048x32, .f32⟩
  | 97 => ⟨S2048x32, .f32⟩
  | 98 => ⟨S1x2048x1x32, .f32⟩
  | 99 => ⟨S2048x32, .f32⟩
  | 100 => ⟨S1x2048x1x32, .f32⟩
  | 101 => ⟨S24x2048x2x32, .f32⟩
  | 102 => ⟨S24x2048x2x32, .f32⟩
  | 103 => ⟨S24x2048x2x32, .f32⟩
  | 104 => ⟨S24x2048x2x32, .f32⟩
  | 105 => ⟨S24x2048x2x32, .f32⟩
  | 106 => ⟨S24x2048x2x32, .f32⟩
  | 107 => ⟨S24x2048x2x32, .f32⟩
  | 108 => ⟨S24x2048x2x32, .f32⟩
  | 109 => ⟨S24x2048x2x32, .f32⟩
  | 110 => ⟨S24x2048x2x32, .f32⟩
  | 111 => ⟨S24x2048x2x32, .f32⟩
  | 112 => ⟨S24x2048x2x32, .f32⟩
  | 113 => ⟨S24x2048x2x64, .f32⟩
  | 114 => ⟨S24x2048x2x64, .f32⟩
  | 115 => ⟨S24x16x128x2x4x64, .f32⟩
  | 116 => ⟨S_, .i32⟩
  | 117 => ⟨S_, .f32⟩
  | 118 => ⟨S24x2304x2x64, .f32⟩
  | 119 => ⟨S24x18x128x2x64, .f32⟩
  | 120 => ⟨S_, .i32⟩
  | 121 => ⟨S_, .f32⟩
  | 122 => ⟨S24x2304x2x64, .f32⟩
  | 123 => ⟨S24x18x128x2x64, .f32⟩
  | 124 => ⟨S24x16x128x2x64, .f32⟩
  | 125 => ⟨S24x16x128x2x64, .f32⟩
  | 126 => ⟨S24x16x128x2x64, .f32⟩
  | 127 => ⟨S24x16x384x2x64, .f32⟩
  | _ => ⟨S49152x512, .f32⟩

abbrev hbmTy0_1 (i : Nat) : BufTy := match i % 128 with
  | 0 => ⟨S24x16x128x2x64, .f32⟩
  | 1 => ⟨S24x16x128x2x64, .f32⟩
  | 2 => ⟨S24x16x128x2x64, .f32⟩
  | 3 => ⟨S24x16x384x2x64, .f32⟩
  | 4 => ⟨S24x16x2x384x128x4, .f32⟩
  | 5 => ⟨S24x16x2x4x128x384, .f32⟩
  | 6 => ⟨S_, .f32⟩
  | 7 => ⟨S24x16x2x4x128x384, .f32⟩
  | 8 => ⟨S24x16x2x4x128x384, .f32⟩
  | 9 => ⟨S16, .i32⟩
  | 10 => ⟨S16x1x1, .i32⟩
  | 11 => ⟨S_, .i32⟩
  | 12 => ⟨S16x1x1, .i32⟩
  | 13 => ⟨S16x1x1, .i32⟩
  | 14 => ⟨S128, .i32⟩
  | 15 => ⟨S1x128x1, .i32⟩
  | 16 => ⟨S16x128x1, .i32⟩
  | 17 => ⟨S16x128x1, .i32⟩
  | 18 => ⟨S16x128x1, .i32⟩
  | 19 => ⟨S_, .i32⟩
  | 20 => ⟨S16x1x1, .i32⟩
  | 21 => ⟨S16x1x1, .i32⟩
  | 22 => ⟨S384, .i32⟩
  | 23 => ⟨S1x1x384, .i32⟩
  | 24 => ⟨S16x1x384, .i32⟩
  | 25 => ⟨S16x1x384, .i32⟩
  | 26 => ⟨S16x1x384, .i32⟩
  | 27 => ⟨S16x128x384, .i32⟩
  | 28 => ⟨S16x128x384, .i32⟩
  | 29 => ⟨S16x128x384, .i32⟩
  | 30 => ⟨S16x128x384, .i32⟩
  | 31 => ⟨S_, .i32⟩
  | 32 => ⟨S16x128x384, .i32⟩
  | 33 => ⟨S16x128x384, .i1⟩
  | 34 => ⟨S_, .i32⟩
  | 35 => ⟨S16x1x384, .i32⟩
  | 36 => ⟨S16x1x384, .i1⟩
  | 37 => ⟨S16x128x384, .i1⟩
  | 38 => ⟨S16x128x384, .i1⟩
  | 39 => ⟨S_, .i32⟩
  | 40 => ⟨S16x1x384, .i32⟩
  | 41 => ⟨S16x1x384, .i1⟩
  | 42 => ⟨S16x128x384, .i1⟩
  | 43 => ⟨S16x128x384, .i1⟩
  | 44 => ⟨S1x16x1x1x128x384, .i1⟩
  | 45 => ⟨S_, .f32⟩
  | 46 => ⟨S_, .f32⟩
  | 47 => ⟨S24x16x2x4x128x384, .i1⟩
  | 48 => ⟨S24x16x2x4x128x384, .f32⟩
  | 49 => ⟨S24x16x2x4x128x384, .f32⟩
  | 50 => ⟨S2x4, .f32⟩
  | 51 => ⟨S1x1x2x4x1x1, .f32⟩
  | 52 => ⟨S_, .f32⟩
  | 53 => ⟨S24x16x2x4x128, .f32⟩
  | 54 => ⟨S24x16x2x4x128x1, .f32⟩
  | 55 => ⟨S24x16x2x4x128x1, .f32⟩
  | 56 => ⟨S24x16x2x4x128x1, .f32⟩
  | 57 => ⟨S24x16x2x4x128x384, .f32⟩
  | 58 => ⟨S24x16x2x4x128x384, .f32⟩
  | 59 => ⟨S24x16x2x4x128x384, .f32⟩
  | 60 => ⟨S_, .f32⟩
  | 61 => ⟨S24x16x2x4x128, .f32⟩
  | 62 => ⟨S24x16x2x4x128x1, .f32⟩
  | 63 => ⟨S24x16x2x4x128x1, .f32⟩
  | 64 => ⟨S24x16x2x4x128x1, .f32⟩
  | 65 => ⟨S24x16x2x4x128x1, .f32⟩
  | 66 => ⟨S24x16x2x4x128x1, .f32⟩
  | 67 => ⟨S24x16x2x4x128x384, .f32⟩
  | 68 => ⟨S24x16x2x4x128x384, .f32⟩
  | 69 => ⟨S24x16x2x64x4x128, .f32⟩
  | 70 => ⟨S24x16x128x2x4x64, .f32⟩
  | 71 => ⟨S49152x512, .f32⟩
  | _ => ⟨S49152x512, .f32⟩

abbrev hbmTy (i : Nat) : BufTy := match i / 128 with
  | 0 => hbmTy0_0 i
  | 1 => hbmTy0_1 i
  | _ => ⟨S49152x512, .f32⟩

abbrev bufTy : (tb : Table) → Fin (tcTables nBuf tb) → BufTy
  | .hbm, ⟨i, _⟩ => hbmTy i
  | _, _ => ⟨S49152x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_6 : Ref sig .tc := ⟨.hbm, 62, rfl⟩
abbrev main_v49 : Ref sig .tc := ⟨.hbm, 63, rfl⟩
abbrev main_v50 : Ref sig .tc := ⟨.hbm, 64, rfl⟩
abbrev main_cst_7 : Ref sig .tc := ⟨.hbm, 65, rfl⟩
abbrev main_v51 : Ref sig .tc := ⟨.hbm, 66, rfl⟩
abbrev main_v52 : Ref sig .tc := ⟨.hbm, 67, rfl⟩
abbrev main_cst_8 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_9 : Ref sig .tc := ⟨.hbm, 78, rfl⟩
abbrev main_v62 : Ref sig .tc := ⟨.hbm, 79, rfl⟩
abbrev main_v63 : Ref sig .tc := ⟨.hbm, 80, rfl⟩
abbrev main_cst_10 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_11 : Ref sig .tc := ⟨.hbm, 85, rfl⟩
abbrev main_v67 : Ref sig .tc := ⟨.hbm, 86, rfl⟩
abbrev main_v68 : Ref sig .tc := ⟨.hbm, 87, rfl⟩
abbrev main_cst_12 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_c : Ref sig .tc := ⟨.hbm, 116, rfl⟩
abbrev main_call0_v0 : Ref sig .tc := ⟨.hbm, 117, rfl⟩
abbrev main_v96 : Ref sig .tc := ⟨.hbm, 118, rfl⟩
abbrev main_v97 : Ref sig .tc := ⟨.hbm, 119, rfl⟩
abbrev main_c_13 : Ref sig .tc := ⟨.hbm, 120, rfl⟩
abbrev main_call1_v0 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_cst_14 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_c_15 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_c_16 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_c_17 : Ref sig .tc := ⟨.hbm, 159, rfl⟩
abbrev main_v132 : Ref sig .tc := ⟨.hbm, 160, rfl⟩
abbrev main_v133 : Ref sig .tc := ⟨.hbm, 161, rfl⟩
abbrev main_c_18 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_c_19 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_cst_20 : Ref sig .tc := ⟨.hbm, 173, rfl⟩
abbrev main_call2_v0 : Ref sig .tc := ⟨.hbm, 174, rfl⟩
abbrev main_call2_v1 : Ref sig .tc := ⟨.hbm, 175, rfl⟩
abbrev main_call2_v2 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_cst_21 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_cst_22 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩

abbrev nD : Nat := 1
abbrev τ : Topo := Topo.v7x

variable {F : FTy → Type} [FloatOps F]
-- ==== Kernel2.lean ====
abbrev S49152x1024 : Shape := ⟨2, ![49152, 1024]⟩
abbrev S24x6144 : Shape := ⟨2, ![24, 6144]⟩
abbrev S1024 : Shape := ⟨1, ![1024]⟩
abbrev S1024x4352 : Shape := ⟨2, ![1024, 4352]⟩
abbrev S24x6x1024 : Shape := ⟨3, ![24, 6, 1024]⟩
abbrev S1x1024 : Shape := ⟨2, ![1, 1024]⟩
abbrev S49152x1536 : Shape := ⟨2, ![49152, 1536]⟩
abbrev S49152x512 : Shape := ⟨2, ![49152, 512]⟩
abbrev S49152x128 : Shape := ⟨2, ![49152, 128]⟩
abbrev S256x1024 : Shape := ⟨2, ![256, 1024]⟩
abbrev S1x6x1024 : Shape := ⟨3, ![1, 6, 1024]⟩
abbrev S256x1536 : Shape := ⟨2, ![256, 1536]⟩
abbrev S256x512 : Shape := ⟨2, ![256, 512]⟩
abbrev S256x128 : Shape := ⟨2, ![256, 128]⟩
abbrev S6x1024 : Shape := ⟨2, ![6, 1024]⟩
abbrev S256 : Shape := ⟨1, ![256]⟩
abbrev S256x1 : Shape := ⟨2, ![256, 1]⟩
abbrev S256x4352 : Shape := ⟨2, ![256, 4352]⟩

abbrev nBuf : Space → Nat
  | .hbm => 13
  | .vmem => 18
  | .smem => 0
  | _ => 0

abbrev bufTy : (tb : Table) → Fin (tcTables nBuf tb) → BufTy
  | .hbm, ⟨0, _⟩ => ⟨S49152x1024, .f32⟩
  | .hbm, ⟨1, _⟩ => ⟨S24x6144, .f32⟩
  | .hbm, ⟨2, _⟩ => ⟨S1024, .f32⟩
  | .hbm, ⟨3, _⟩ => ⟨S1024x4352, .f32⟩
  | .hbm, ⟨4, _⟩ => ⟨S24x6x1024, .f32⟩
  | .hbm, ⟨5, _⟩ => ⟨S1024x4352, .bf16⟩
  | .hbm, ⟨6, _⟩ => ⟨S1x1024, .f32⟩
  | .hbm, ⟨7, _⟩ => ⟨S49152x1536, .f32⟩
  | .hbm, ⟨8, _⟩ => ⟨S49152x512, .f32⟩
  | .hbm, ⟨9, _⟩ => ⟨S49152x128, .f32⟩
  | .hbm, ⟨10, _⟩ => ⟨S49152x128, .f32⟩
  | .hbm, ⟨11, _⟩ => ⟨S49152x1024, .f32⟩
  | .hbm, ⟨12, _⟩ => ⟨S49152x1024, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x4352, .bf16⟩
  | .local _ .vmem, ⟨6, _⟩ => ⟨S256x1536, .f32⟩
  | .local _ .vmem, ⟨7, _⟩ => ⟨S256x1536, .f32⟩
  | .local _ .vmem, ⟨8, _⟩ => ⟨S256x512, .f32⟩
  | .local _ .vmem, ⟨9, _⟩ => ⟨S256x512, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![192], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4352 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S49152x1024 : Shape := ⟨2, ![49152, 1024]⟩
abbrev S24x6144 : Shape := ⟨2, ![24, 6144]⟩
abbrev S1024 : Shape := ⟨1, ![1024]⟩
abbrev S1024x4352 : Shape := ⟨2, ![1024, 4352]⟩
abbrev S24x2048x1024 : Shape := ⟨3, ![24, 2048, 1024]⟩
abbrev S24x1024 : Shape := ⟨2, ![24, 1024]⟩
abbrev S24x1x1024 : Shape := ⟨3, ![24, 1, 1024]⟩
abbrev S_ : Shape := ⟨0, ![]⟩
abbrev S24x2048 : Shape := ⟨2, ![24, 2048]⟩
abbrev S24x2048x1 : Shape := ⟨3, ![24, 2048, 1]⟩
abbrev S1x1x1024 : Shape := ⟨3, ![1, 1, 1024]⟩
abbrev S24x2048x4352 : Shape := ⟨3, ![24, 2048, 4352]⟩
abbrev S49152x4352 : Shape := ⟨2, ![49152, 4352]⟩
abbrev S49152x1536 : Shape := ⟨2, ![49152, 1536]⟩
abbrev S49152x512 : Shape := ⟨2, ![49152, 512]⟩
abbrev S49152x128 : Shape := ⟨2, ![49152, 128]⟩

abbrev nBuf : Space → Nat
  | .hbm => 48
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S24x6144, .f32⟩
  | .hbm, ⟨2, _⟩ => ⟨S1024, .f32⟩
  | .hbm, ⟨3, _⟩ => ⟨S1024x4352, .f32⟩
  | .hbm, ⟨4, _⟩ => ⟨S24x2048x1024, .f32⟩
  | .hbm, ⟨5, _⟩ => ⟨S24x1024, .f32⟩
  | .hbm, ⟨6, _⟩ => ⟨S24x1024, .f32⟩
  | .hbm, ⟨7, _⟩ => ⟨S24x1024, .f32⟩
  | .hbm, ⟨8, _⟩ => ⟨S24x1024, .f32⟩
  | .hbm, ⟨9, _⟩ => ⟨S24x1024, .f32⟩
  | .hbm, ⟨10, _⟩ => ⟨S24x1024, .f32⟩
  | .hbm, ⟨11, _⟩ => ⟨S24x1x1024, .f32⟩
  | .hbm, ⟨12, _⟩ => ⟨S24x1x1024, .f32⟩
  | .hbm, ⟨13, _⟩ => ⟨S24x1x1024, .f32⟩
  | .hbm, ⟨14, _⟩ => ⟨S24x1x1024, .f32⟩
  | .hbm, ⟨15, _⟩ => ⟨S24x1x1024, .f32⟩
  | .hbm, ⟨16, _⟩ => ⟨S24x1x1024, .f32⟩
  | .hbm, ⟨17, _⟩ => ⟨S24x2048x1024, .f32⟩
  | .hbm, ⟨18, _⟩ => ⟨S_, .f32⟩
  | .hbm, ⟨19, _⟩ => ⟨S24x2048, .f32⟩
  | .hbm, ⟨20, _⟩ => ⟨S24x2048x1, .f32⟩
  | .hbm, ⟨21, _⟩ => ⟨S_, .f32⟩
  | .hbm, ⟨22, _⟩ => ⟨S24x2048x1, .f32⟩
  | .hbm, ⟨23, _⟩ => ⟨S24x2048x1, .f32⟩
  | .hbm, ⟨24, _⟩ => ⟨S_, .f32⟩
  | .hbm, ⟨25, _⟩ => ⟨S24x2048x1, .f32⟩
  | .hbm, ⟨26, _⟩ => ⟨S24x2048x1, .f32⟩
  | .hbm, ⟨27, _⟩ => ⟨S24x2048x1, .f32⟩
  | .hbm, ⟨28, _⟩ => ⟨S24x2048x1024, .f32⟩
  | .hbm, ⟨29, _⟩ => ⟨S24x2048x1024, .f32⟩
  | .hbm, ⟨30, _⟩ => ⟨S1x1x1024, .f32⟩
  | .hbm, ⟨31, _⟩ => ⟨S24x2048x1024, .f32⟩
  | .hbm, ⟨32, _⟩ => ⟨S24x2048x1024, .f32⟩
  | .hbm, ⟨33, _⟩ => ⟨S_, .f32⟩
  | .hbm, ⟨34, _⟩ => ⟨S24x1x1024, .f32⟩
  | .hbm, ⟨35, _⟩ => ⟨S24x1x1024, .f32⟩
  | .hbm, ⟨36, _⟩ => ⟨S24x2048x1024, .f32⟩
  | .hbm, ⟨37, _⟩ => ⟨S24x2048x1024, .f32⟩
  | .hbm, ⟨38, _⟩ => ⟨S24x2048x1024, .f32⟩
  | .hbm, ⟨39, _⟩ => ⟨S24x2048x1024, .f32⟩
  | .hbm, ⟨40, _⟩ => ⟨S24x2048x4352, .f32⟩
  | .hbm, ⟨41, _⟩ => ⟨S49152x4352, .f32⟩
  | .hbm, ⟨42, _⟩ => ⟨S49152x1536, .f32⟩
  | .hbm, ⟨43, _⟩ => ⟨S49152x512, .f32⟩
  | .hbm, ⟨44, _⟩ => ⟨S49152x128, .f32⟩
  | .hbm, ⟨45, _⟩ => ⟨S49152x128, .f32⟩
  | .hbm, ⟨46, _⟩ => ⟨S49152x1024, .f32⟩
  | .hbm, ⟨47, _⟩ => ⟨S49152x1024, .f32⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩

abbrev nD : Nat := 1
abbrev τ : Topo := Topo.v7x

variable {F : FTy → Type} [FloatOps F]
-- ==== Kernel3.lean ====
abbrev S49152x1024 : Shape := ⟨2, ![49152, 1024]⟩
abbrev S24x6144 : Shape := ⟨2, ![24, 6144]⟩
abbrev S49152x512 : Shape := ⟨2, ![49152, 512]⟩
abbrev S512x1024 : Shape := ⟨2, ![512, 1024]⟩
abbrev S1024x1024 : Shape := ⟨2, ![1024, 1024]⟩
abbrev S24x6x1024 : Shape := ⟨3, ![24, 6, 1024]⟩
abbrev S1x6x1024 : Shape := ⟨3, ![1, 6, 1024]⟩
abbrev S512x512 : Shape := ⟨2, ![512, 512]⟩
abbrev S6x1024 : Shape := ⟨2, ![6, 1024]⟩
abbrev S1x1024 : Shape := ⟨2, ![1, 1024]⟩

abbrev nBuf : Space → Nat
  | .hbm => 14
  | .vmem => 17
  | .smem => 0
  | _ => 0

abbrev bufTy : (tb : Table) → Fin (tcTables nBuf tb) → BufTy
  | .hbm, ⟨0, _⟩ => ⟨S49152x1024, .f32⟩
  | .hbm, ⟨1, _⟩ => ⟨S24x6144, .f32⟩
  | .hbm, ⟨2, _⟩ => ⟨S49152x512, .f32⟩
  | .hbm, ⟨3, _⟩ => ⟨S49152x512, .f32⟩
  | .hbm, ⟨4, _⟩ => ⟨S49152x1024, .f32⟩
  | .hbm, ⟨5, _⟩ => ⟨S49152x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S24x6x1024, .f32⟩
  | .hbm, ⟨10, _⟩ => ⟨S512x1024, .bf16⟩
  | .hbm, ⟨11, _⟩ => ⟨S512x1024, .bf16⟩
  | .hbm, ⟨12, _⟩ => ⟨S1024x1024, .bf16⟩
  | .hbm, ⟨13, _⟩ => ⟨S49152x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S49152x1024 : Shape := ⟨2, ![49152, 1024]⟩
abbrev S24x6144 : Shape := ⟨2, ![24, 6144]⟩
abbrev S49152x512 : Shape := ⟨2, ![49152, 512]⟩
abbrev S512x1024 : Shape := ⟨2, ![512, 1024]⟩
abbrev S1024x1024 : Shape := ⟨2, ![1024, 1024]⟩
abbrev S24x2048x1024 : Shape := ⟨3, ![24, 2048, 1024]⟩
abbrev S24x2048x512 : Shape := ⟨3, ![24, 2048, 512]⟩
abbrev S24x1024 : Shape := ⟨2, ![24, 1024]⟩
abbrev S24x1x1024 : Shape := ⟨3, ![24, 1, 1024]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S24x6144, .f32⟩
  | .hbm, ⟨2, _⟩ => ⟨S49152x512, .f32⟩
  | .hbm, ⟨3, _⟩ => ⟨S49152x512, .f32⟩
  | .hbm, ⟨4, _⟩ => ⟨S49152x1024, .f32⟩
  | .hbm, ⟨5, _⟩ => ⟨S49152x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S24x2048x1024, .f32⟩
  | .hbm, ⟨10, _⟩ => ⟨S24x2048x512, .f32⟩
  | .hbm, ⟨11, _⟩ => ⟨S24x2048x512, .f32⟩
  | .hbm, ⟨12, _⟩ => ⟨S24x2048x1024, .f32⟩
  | .hbm, ⟨13, _⟩ => ⟨S24x2048x1024, .f32⟩
  | .hbm, ⟨14, _⟩ => ⟨S24x1024, .f32⟩
  | .hbm, ⟨15, _⟩ => ⟨S24x1024, .f32⟩
  | .hbm, ⟨16, _⟩ => ⟨S24x1024, .f32⟩
  | .hbm, ⟨17, _⟩ => ⟨S24x1024, .f32⟩
  | .hbm, ⟨18, _⟩ => ⟨S24x1024, .f32⟩
  | .hbm, ⟨19, _⟩ => ⟨S24x1024, .f32⟩
  | .hbm, ⟨20, _⟩ => ⟨S24x1x1024, .f32⟩
  | .hbm, ⟨21, _⟩ => ⟨S24x1x1024, .f32⟩
  | .hbm, ⟨22, _⟩ => ⟨S24x1x1024, .f32⟩
  | .hbm, ⟨23, _⟩ => ⟨S24x1x1024, .f32⟩
  | .hbm, ⟨24, _⟩ => ⟨S24x1x1024, .f32⟩
  | .hbm, ⟨25, _⟩ => ⟨S24x1x1024, .f32⟩
  | .hbm, ⟨26, _⟩ => ⟨S24x2048x1024, .f32⟩
  | .hbm, ⟨27, _⟩ => ⟨S24x2048x1024, .f32⟩
  | .hbm, ⟨28, _⟩ => ⟨S_, .f32⟩
  | .hbm, ⟨29, _⟩ => ⟨S24x2048x1024, .f32⟩
  | .hbm, ⟨30, _⟩ => ⟨S24x2048x1024, .f32⟩
  | .hbm, ⟨31, _⟩ => ⟨S_, .f32⟩
  | .hbm, ⟨32, _⟩ => ⟨S24x2048x1024, .f32⟩
  | .hbm, ⟨33, _⟩ => ⟨S24x2048x1024, .f32⟩
  | .hbm, ⟨34, _⟩ => ⟨S24x2048x1024, .f32⟩
  | .hbm, ⟨35, _⟩ => ⟨S24x2048x1024, .f32⟩
  | .hbm, ⟨36, _⟩ => ⟨S24x2048x1024, .f32⟩
  | .hbm, ⟨37, _⟩ => ⟨S24x2048x1024, .f32⟩
  | .hbm, ⟨38, _⟩ => ⟨S_, .f32⟩
  | .hbm, ⟨39, _⟩ => ⟨S24x2048x1024, .f32⟩
  | .hbm, ⟨40, _⟩ => ⟨S24x2048x1024, .f32⟩
  | .hbm, ⟨41, _⟩ => ⟨S_, .f32⟩
  | .hbm, ⟨42, _⟩ => ⟨S24x2048x1024, .f32⟩
  | .hbm, ⟨43, _⟩ => ⟨S24x2048x1024, .f32⟩
  | .hbm, ⟨44, _⟩ => ⟨S24x2048x1024, .f32⟩
  | .hbm, ⟨45, _⟩ => ⟨S24x2048x1024, .f32⟩
  | .hbm, ⟨46, _⟩ => ⟨S24x2048x1024, .f32⟩
  | .hbm, ⟨47, _⟩ => ⟨S24x2048x1024, .f32⟩
  | .hbm, ⟨48, _⟩ => ⟨S24x2048x1024, .f32⟩
  | .hbm, ⟨49, _⟩ => ⟨S24x2048x1024, .f32⟩
  | .hbm, ⟨50, _⟩ => ⟨S24x2048x1024, .f32⟩
  | .hbm, ⟨51, _⟩ => ⟨S49152x1024, .f32⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel4.lean ====
abbrev S24x1024 : Shape := ⟨2, ![24, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x24x6144 : Shape := ⟨3, ![2, 24, 6144]⟩
abbrev S1x1024x1536 : Shape := ⟨3, ![1, 1024, 1536]⟩
abbrev S1x1x1536 : Shape := ⟨3, ![1, 1, 1536]⟩
abbrev S1x24x1536 : Shape := ⟨3, ![1, 24, 1536]⟩
abbrev S1024x1536 : Shape := ⟨2, ![1024, 1536]⟩
abbrev S24x1536 : Shape := ⟨2, ![24, 1536]⟩
abbrev S1x1536 : Shape := ⟨2, ![1, 1536]⟩

abbrev nBuf : Space → Nat
  | .hbm => 6
  | .vmem => 7
  | .smem => 0
  | _ => 0

abbrev bufTy : (tb : Table) → Fin (tcTables nBuf tb) → BufTy
  | .hbm, ⟨0, _⟩ => ⟨S24x1024, .f32⟩
  | .hbm, ⟨1, _⟩ => ⟨S2x1024x6144, .f32⟩
  | .hbm, ⟨2, _⟩ => ⟨S2x6144, .f32⟩
  | .hbm, ⟨3, _⟩ => ⟨S2x1024x6144, .bf16⟩
  | .hbm, ⟨4, _⟩ => ⟨S2x1x6144, .f32⟩
  | .hbm, ⟨5, _⟩ => ⟨S2x24x6144, .f32⟩
  | .local _ .vmem, ⟨0, _⟩ => ⟨S24x1024, .f32⟩
  | .local _ .vmem, ⟨1, _⟩ => ⟨S1x1024x1536, .bf16⟩
  | .local _ .vmem, ⟨2, _⟩ => ⟨S1x1024x1536, .bf16⟩
  | .local _ .vmem, ⟨3, _⟩ => ⟨S1x1x1536, .f32⟩
  | .local _ .vmem, ⟨4, _⟩ => ⟨S1x1x1536, .f32⟩
  | .local _ .vmem, ⟨5, _⟩ => ⟨S1x24x1536, .f32⟩
  | .local _ .vmem, ⟨6, _⟩ => ⟨S1x24x1536, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S24x1024 : Shape := ⟨2, ![24, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S24x6144 : Shape := ⟨2, ![24, 6144]⟩
abbrev S1x6144 : Shape := ⟨2, ![1, 6144]⟩
abbrev S6144 : Shape := ⟨1, ![6144]⟩
abbrev S1x24x6144 : Shape := ⟨3, ![1, 24, 6144]⟩
abbrev S2x24x6144 : Shape := ⟨3, ![2, 24, 6144]⟩

abbrev nBuf : Space → Nat
  | .hbm => 40
  | .vmem => 0
  | .smem => 0
  | _ => 0

abbrev bufTy : (tb : Table) → Fin (tcTables nBuf tb) → BufTy
  | .hbm, ⟨0, _⟩ => ⟨S24x1024, .f32⟩
  | .hbm, ⟨1, _⟩ => ⟨S2x1024x6144, .f32⟩
  | .hbm, ⟨2, _⟩ => ⟨S2x6144, .f32⟩
  | .hbm, ⟨3, _⟩ => ⟨S24x1024, .f32⟩
  | .hbm, ⟨4, _⟩ => ⟨S24x1024, .f32⟩
  | .hbm, ⟨5, _⟩ => ⟨S_, .f32⟩
  | .hbm, ⟨6, _⟩ => ⟨S24x1024, .f32⟩
  | .hbm, ⟨7, _⟩ => ⟨S24x1024, .f32⟩
  | .hbm, ⟨8, _⟩ => ⟨S_, .f32⟩
  | .hbm, ⟨9, _⟩ => ⟨S24x1024, .f32⟩
  | .hbm, ⟨10, _⟩ => ⟨S24x1024, .f32⟩
  | .hbm, ⟨11, _⟩ => ⟨S24x1024, .f32⟩
  | .hbm, ⟨12, _⟩ => ⟨S1x1024x6144, .f32⟩
  | .hbm, ⟨13, _⟩ => ⟨S1024x6144, .f32⟩
  | .hbm, ⟨14, _⟩ => ⟨S24x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S24x6144, .f32⟩
  | .hbm, ⟨19, _⟩ => ⟨S24x6144, .f32⟩
  | .hbm, ⟨20, _⟩ => ⟨S24x1024, .f32⟩
  | .hbm, ⟨21, _⟩ => ⟨S24x1024, .f32⟩
  | .hbm, ⟨22, _⟩ => ⟨S_, .f32⟩
  | .hbm, ⟨23, _⟩ => ⟨S24x1024, .f32⟩
  | .hbm, ⟨24, _⟩ => ⟨S24x1024, .f32⟩
  | .hbm, ⟨25, _⟩ => ⟨S_, .f32⟩
  | .hbm, ⟨26, _⟩ => ⟨S24x1024, .f32⟩
  | .hbm, ⟨27, _⟩ => ⟨S24x1024, .f32⟩
  | .hbm, ⟨28, _⟩ => ⟨S24x1024, .f32⟩
  | .hbm, ⟨29, _⟩ => ⟨S1x1024x6144, .f32⟩
  | .hbm, ⟨30, _⟩ => ⟨S1024x6144, .f32⟩
  | .hbm, ⟨31, _⟩ => ⟨S24x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S24x6144, .f32⟩
  | .hbm, ⟨36, _⟩ => ⟨S24x6144, .f32⟩
  | .hbm, ⟨37, _⟩ => ⟨S1x24x6144, .f32⟩
  | .hbm, ⟨38, _⟩ => ⟨S1x24x6144, .f32⟩
  | .hbm, ⟨39, _⟩ => ⟨S2x24x6144, .f32⟩
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Kernel5.lean ====
abbrev S33x64 : Shape := ⟨2, ![33, 64]⟩
abbrev S64 : Shape := ⟨1, ![64]⟩
abbrev S64x64 : Shape := ⟨2, ![64, 64]⟩
abbrev S64x2048 : Shape := ⟨2, ![64, 2048]⟩
abbrev S_ : Shape := ⟨0, ![]⟩
abbrev S2047 : Shape := ⟨1, ![2047]⟩
abbrev S1 : Shape := ⟨1, ![1]⟩
abbrev S2048 : Shape := ⟨1, ![2048]⟩
abbrev S2048x1 : Shape := ⟨2, ![2048, 1]⟩
abbrev S15 : Shape := ⟨1, ![15]⟩
abbrev S16 : Shape := ⟨1, ![16]⟩
abbrev S1x16 : Shape := ⟨2, ![1, 16]⟩
abbrev S2048x16 : Shape := ⟨2, ![2048, 16]⟩
abbrev S2048x33 : Shape := ⟨2, ![2048, 33]⟩
abbrev S2048x128 : Shape := ⟨2, ![2048, 128]⟩
abbrev S1x128 : Shape := ⟨2, ![1, 128]⟩
abbrev S2047x128 : Shape := ⟨2, ![2047, 128]⟩
abbrev S1x2048x128 : Shape := ⟨3, ![1, 2048, 128]⟩
abbrev S2x2048x128 : Shape := ⟨3, ![2, 2048, 128]⟩
abbrev S128x64 : Shape := ⟨2, ![128, 64]⟩
abbrev S64x2x2x512 : Shape := ⟨4, ![64, 2, 2, 512]⟩
abbrev S2x64x2x512 : Shape := ⟨4, ![2, 64, 2, 512]⟩
abbrev S2x64x1024 : Shape := ⟨3, ![2, 64, 1024]⟩
abbrev S511 : Shape := ⟨1, ![511]⟩
abbrev S512 : Shape := ⟨1, ![512]⟩
abbrev S1x512 : Shape := ⟨2, ![1, 512]⟩
abbrev S2x512 : Shape := ⟨2, ![2, 512]⟩
abbrev S1024 : Shape := ⟨1, ![1024]⟩
abbrev S1x1024 : Shape := ⟨2, ![1, 1024]⟩
abbrev S1x64 : Shape := ⟨2, ![1, 64]⟩
abbrev S2x2048x1024 : Shape := ⟨3, ![2, 2048, 1024]⟩
abbrev S1x512x128 : Shape := ⟨3, ![1, 512, 128]⟩
abbrev S1x64x1024 : Shape := ⟨3, ![1, 64, 1024]⟩
abbrev S1x512x1024 : Shape := ⟨3, ![1, 512, 1024]⟩
abbrev S512x128 : Shape := ⟨2, ![512, 128]⟩
abbrev S512x64 : Shape := ⟨2, ![512, 64]⟩
abbrev S64x1024 : Shape := ⟨2, ![64, 1024]⟩
abbrev S512x1024 : Shape := ⟨2, ![512, 1024]⟩
abbrev S512x1 : Shape := ⟨2, ![512, 1]⟩

abbrev nBuf : Space → Nat
  | .hbm => 120
  | .vmem => 12
  | .smem => 0
  | _ => 0

abbrev bufTy : (tb : Table) → Fin (tcTables nBuf tb) → BufTy
  | .hbm, ⟨0, _⟩ => ⟨S33x64, .f32⟩
  | .hbm, ⟨1, _⟩ => ⟨S64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2047, .f32⟩
  | .hbm, ⟨14, _⟩ => ⟨S_, .f32⟩
  | .hbm, ⟨15, _⟩ => ⟨S2047, .f32⟩
  | .hbm, ⟨16, _⟩ => ⟨S2047, .f32⟩
  | .hbm, ⟨17, _⟩ => ⟨S1, .f32⟩
  | .hbm, ⟨18, _⟩ => ⟨S_, .f32⟩
  | .hbm, ⟨19, _⟩ => ⟨S2047, .f32⟩
  | .hbm, ⟨20, _⟩ => ⟨S2047, .f32⟩
  | .hbm, ⟨21, _⟩ => ⟨S2047, .f32⟩
  | .hbm, ⟨22, _⟩ => ⟨S2047, .f32⟩
  | .hbm, ⟨23, _⟩ => ⟨S1, .f32⟩
  | .hbm, ⟨24, _⟩ => ⟨S2047, .f32⟩
  | .hbm, ⟨25, _⟩ => ⟨S2047, .f32⟩
  | .hbm, ⟨26, _⟩ => ⟨S2047, .f32⟩
  | .hbm, ⟨27, _⟩ => ⟨S1, .f32⟩
  | .hbm, ⟨28, _⟩ => ⟨S2048, .f32⟩
  | .hbm, ⟨29, _⟩ => ⟨S2048x1, .f32⟩
  | .hbm, ⟨30, _⟩ => ⟨S2048, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S_, .f32⟩
  | .hbm, ⟨39, _⟩ => ⟨S_, .i32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S15, .f32⟩
  | .hbm, ⟨46, _⟩ => ⟨S_, .f32⟩
  | .hbm, ⟨47, _⟩ => ⟨S15, .f32⟩
  | .hbm, ⟨48, _⟩ => ⟨S15, .f32⟩
  | .hbm, ⟨49, _⟩ => ⟨S1, .f32⟩
  | .hbm, ⟨50, _⟩ => ⟨S_, .f32⟩
  | .hbm, ⟨51, _⟩ => ⟨S15, .f32⟩
  | .hbm, ⟨52, _⟩ => ⟨S15, .f32⟩
  | .hbm, ⟨53, _⟩ => ⟨S15, .f32⟩
  | .hbm, ⟨54, _⟩ => ⟨S15, .f32⟩
  | .hbm, ⟨55, _⟩ => ⟨S1, .f32⟩
  | .hbm, ⟨56, _⟩ => ⟨S15, .f32⟩
  | .hbm, ⟨57, _⟩ => ⟨S15, .f32⟩
  | .hbm, ⟨58, _⟩ => ⟨S15, .f32⟩
  | .hbm, ⟨59, _⟩ => ⟨S1, .f32⟩
  | .hbm, ⟨60, _⟩ => ⟨S16, .f32⟩
  | .hbm, ⟨61, _⟩ => ⟨S1x16, .f32⟩
  | .hbm, ⟨62, _⟩ => ⟨S2048x16, .f32⟩
  | .hbm, ⟨63, _⟩ => ⟨S2048x16, .f32⟩
  | .hbm, ⟨64, _⟩ => ⟨S2048x16, .f32⟩
  | .hbm, ⟨65, _⟩ => ⟨S2048x16, .f32⟩
  | .hbm, ⟨66, _⟩ => ⟨S2048x16, .f32⟩
  | .hbm, ⟨67, _⟩ => ⟨S2048x16, .f32⟩
  | .hbm, ⟨68, _⟩ => ⟨S2048x16, .f32⟩
  | .hbm, ⟨69, _⟩ => ⟨S2048x16, .f32⟩
  | .hbm, ⟨70, _⟩ => ⟨S2048x16, .f32⟩
  | .hbm, ⟨71, _⟩ => ⟨S2048x33, .f32⟩
  | .hbm, ⟨72, _⟩ => ⟨S_, .i32⟩
  | .hbm, ⟨73, _⟩ => ⟨S_, .f32⟩
  | .hbm, ⟨74, _⟩ => ⟨S2048x128, .f32⟩
  | .hbm, ⟨75, _⟩ => ⟨S1x128, .f32⟩
  | .hbm, ⟨76, _⟩ => ⟨S2047x128, .f32⟩
  | .hbm, ⟨77, _⟩ => ⟨S2047x128, .f32⟩
  | .hbm, ⟨78, _⟩ => ⟨S2048x128, .f32⟩
  | .hbm, ⟨79, _⟩ => ⟨S1x2048x128, .f32⟩
  | .hbm, ⟨80, _⟩ => ⟨S1x2048x128, .f32⟩
  | .hbm, ⟨81, _⟩ => ⟨S2x2048x128, .f32⟩
  | .hbm, ⟨82, _⟩ => ⟨S_, .i32⟩
  | .hbm, ⟨83, _⟩ => ⟨S_, .f32⟩
  | .hbm, ⟨84, _⟩ => ⟨S128x64, .f32⟩
  | .hbm, ⟨85, _⟩ => ⟨S64x2x2x512, .f32⟩
  | .hbm, ⟨86, _⟩ => ⟨S2x64x2x512, .f32⟩
  | .hbm, ⟨87, _⟩ => ⟨S2x64x1024, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S511, .f32⟩
  | .hbm, ⟨96, _⟩ => ⟨S_, .f32⟩
  | .hbm, ⟨97, _⟩ => ⟨S511, .f32⟩
  | .hbm, ⟨98, _⟩ => ⟨S511, .f32⟩
  | .hbm, ⟨99, _⟩ => ⟨S1, .f32⟩
  | .hbm, ⟨100, _⟩ => ⟨S_, .f32⟩
  | .hbm, ⟨101, _⟩ => ⟨S511, .f32⟩
  | .hbm, ⟨102, _⟩ => ⟨S511, .f32⟩
  | .hbm, ⟨103, _⟩ => ⟨S511, .f32⟩
  | .hbm, ⟨104, _⟩ => ⟨S511, .f32⟩
  | .hbm, ⟨105, _⟩ => ⟨S1, .f32⟩
  | .hbm, ⟨106, _⟩ => ⟨S511, .f32⟩
  | .hbm, ⟨107, _⟩ => ⟨S511, .f32⟩
  | .hbm, ⟨108, _⟩ => ⟨S511, .f32⟩
  | .hbm, ⟨109, _⟩ => ⟨S1, .f32⟩
  | .hbm, ⟨110, _⟩ => ⟨S512, .f32⟩
  | .hbm, ⟨111, _⟩ => ⟨S512, .f32⟩
  | .hbm, ⟨112, _⟩ => ⟨S1x512, .f32⟩
  | .hbm, ⟨113, _⟩ => ⟨S2x512, .f32⟩
  | .hbm, ⟨114, _⟩ => ⟨S1024, .f32⟩
  | .hbm, ⟨115, _⟩ => ⟨S1x1024, .f32⟩
  | .hbm, ⟨116, _⟩ => ⟨S1x64, .f32⟩
  | .hbm, ⟨117, _⟩ => ⟨S1x64, .f32⟩
  | .hbm, ⟨118, _⟩ => ⟨S1x64, .f32⟩
  | .hbm, ⟨119, _⟩ => ⟨S2x2048x1024, .f32⟩
  | .local _ .vmem, ⟨0, _⟩ => ⟨S1x512x128, .f32⟩
  | .local _ .vmem, ⟨1, _⟩ => ⟨S1x512x128, .f32⟩
  | .local _ .vmem, ⟨2, _⟩ => ⟨S128x64, .f32⟩
  | .local _ .vmem, ⟨3, _⟩ => ⟨S1x64, .f32⟩
  | .local _ .vmem, ⟨4, _⟩ => ⟨S1x64, .f32⟩
  | .local _ .vmem, ⟨5, _⟩ => ⟨S64x64, .f32⟩
  | .local _ .vmem, ⟨6, _⟩ => ⟨S1x64, .f32⟩
  | .local _ .vmem, ⟨7, _⟩ => ⟨S1x64x1024, .f32⟩
  | .local _ .vmem, ⟨8, _⟩ => ⟨S1x64x1024, .f32⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | _, _ => ⟨S33x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_cst : Ref sig .tc := ⟨.hbm, 11, rfl⟩
abbrev main_call0_v3 : Ref sig .tc := ⟨.hbm, 12, rfl⟩
abbrev main_call0_v4 : Ref sig .tc := ⟨.hbm, 13, rfl⟩
abbrev main_call0_cst_0 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_cst_1 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst_1 : Ref sig .tc := ⟨.hbm, 32, rfl⟩
abbrev main_v4 : Ref sig .tc := ⟨.hbm, 33, rfl⟩
abbrev main_v5 : Ref sig .tc := ⟨.hbm, 34, rfl⟩
abbrev main_cst_2 : Ref sig .tc := ⟨.hbm, 35, rfl⟩
abbrev main_v6 : Ref sig .tc := ⟨.hbm, 36, rfl⟩
abbrev main_v7 : Ref sig .tc := ⟨.hbm, 37, rfl⟩
abbrev main_cst_3 : Ref sig .tc := ⟨.hbm, 38, rfl⟩
abbrev main_c : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_cst : Ref sig .tc := ⟨.hbm, 43, rfl⟩
abbrev main_call1_v3 : Ref sig .tc := ⟨.hbm, 44, rfl⟩
abbrev main_call1_v4 : Ref sig .tc := ⟨.hbm, 45, rfl⟩
abbrev main_call1_cst_0 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_cst_1 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_v15 : Ref sig .tc := ⟨.hbm, 58, rfl⟩
abbrev main_call1_v16 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_c_4 : Ref sig .tc := ⟨.hbm, 72, rfl⟩
abbrev main_call2_v0 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_c_5 : Ref sig .tc := ⟨.hbm, 82, rfl⟩
abbrev main_call3_v0 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_cst_6 : Ref sig .tc := ⟨.hbm, 88, rfl⟩
abbrev main_cst_7 : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_call4_cst : Ref sig .tc := ⟨.hbm, 93, rfl⟩
abbrev main_call4_v3 : Ref sig .tc := ⟨.hbm, 94, rfl⟩
abbrev main_call4_v4 : Ref sig .tc := ⟨.hbm, 95, rfl⟩
abbrev main_call4_cst_0 : Ref sig .tc := ⟨.hbm, 96, rfl⟩
abbrev main_call4_v5 : Ref sig .tc := ⟨.hbm, 97, rfl⟩
abbrev main_call4_v6 : Ref sig .tc := ⟨.hbm, 98, rfl⟩
abbrev main_call4_v7 : Ref sig .tc := ⟨.hbm, 99, rfl⟩
abbrev main_call4_cst_1 : Ref sig .tc := ⟨.hbm, 100, rfl⟩
abbrev main_call4_v8 : Ref sig .tc := ⟨.hbm, 101, rfl⟩
abbrev main_call4_v9 : Ref sig .tc := ⟨.hbm, 102, rfl⟩
abbrev main_call4_v10 : Ref sig .tc := ⟨.hbm, 103, rfl⟩
abbrev main_call4_v11 : Ref sig .tc := ⟨.hbm, 104, rfl⟩
abbrev main_call4_v12 : Ref sig .tc := ⟨.hbm, 105, rfl⟩
abbrev main_call4_v13 : Ref sig .tc := ⟨.hbm, 106, rfl⟩
abbrev main_call4_v14 : Ref sig .tc := ⟨.hbm, 107, rfl⟩
abbrev main_call4_v15 : Ref sig .tc := ⟨.hbm, 108, rfl⟩
abbrev main_call4_v16 : Ref sig .tc := ⟨.hbm, 109, rfl⟩
abbrev main_v32 : Ref sig .tc := ⟨.hbm, 110, rfl⟩
abbrev main_v33 : Ref sig .tc := ⟨.hbm, 111, rfl⟩
abbrev main_v34 : Ref sig .tc := ⟨.hbm, 112, rfl⟩
abbrev main_v35 : Ref sig .tc := ⟨.hbm, 113, rfl⟩
abbrev main_v36 : Ref sig .tc := ⟨.hbm, 114, rfl⟩
abbrev main_v37 : Ref sig .tc := ⟨.hbm, 115, rfl⟩
abbrev main_v38 : Ref sig .tc := ⟨.hbm, 116, rfl⟩
abbrev main_v39 : Ref sig .tc := ⟨.hbm, 117, rfl⟩
abbrev main_v40 : Ref sig .tc := ⟨.hbm, 118, rfl⟩
abbrev main_v41 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S33x64 : Shape := ⟨2, ![33, 64]⟩
abbrev S64 : Shape := ⟨1, ![64]⟩
abbrev S64x64 : Shape := ⟨2, ![64, 64]⟩
abbrev S64x2048 : Shape := ⟨2, ![64, 2048]⟩
abbrev S_ : Shape := ⟨0, ![]⟩
abbrev S2047 : Shape := ⟨1, ![2047]⟩
abbrev S1 : Shape := ⟨1, ![1]⟩
abbrev S2048 : Shape := ⟨1, ![2048]⟩
abbrev S2048x1 : Shape := ⟨2, ![2048, 1]⟩
abbrev S15 : Shape := ⟨1, ![15]⟩
abbrev S16 : Shape := ⟨1, ![16]⟩
abbrev S1x16 : Shape := ⟨2, ![1, 16]⟩
abbrev S2048x16 : Shape := ⟨2, ![2048, 16]⟩
abbrev S2048x33 : Shape := ⟨2, ![2048, 33]⟩
abbrev S2048x64 : Shape := ⟨2, ![2048, 64]⟩
abbrev S1x64 : Shape := ⟨2, ![1, 64]⟩
abbrev S2048x2048 : Shape := ⟨2, ![2048, 2048]⟩
abbrev S2048x2x2x512 : Shape := ⟨4, ![2048, 2, 2, 512]⟩
abbrev S511 : Shape := ⟨1, ![511]⟩
abbrev S512 : Shape := ⟨1, ![512]⟩
abbrev S1x512 : Shape := ⟨2, ![1, 512]⟩
abbrev S2048x512 : Shape := ⟨2, ![2048, 512]⟩
abbrev S2048x1x1x512 : Shape := ⟨4, ![2048, 1, 1, 512]⟩
abbrev S2048x2x1x512 : Shape := ⟨4, ![2048, 2, 1, 512]⟩
abbrev S2048x2x512 : Shape := ⟨3, ![2048, 2, 512]⟩
abbrev S1x2x512 : Shape := ⟨3, ![1, 2, 512]⟩
abbrev S2047x2x1x512 : Shape := ⟨4, ![2047, 2, 1, 512]⟩
abbrev S2047x2x512 : Shape := ⟨3, ![2047, 2, 512]⟩
abbrev S4096x2x512 : Shape := ⟨3, ![4096, 2, 512]⟩
abbrev S2x2048x1024 : Shape := ⟨3, ![2, 2048, 1024]⟩

abbrev nBuf : Space → Nat
  | .hbm => 132
  | .vmem => 0
  | .smem => 0
  | _ => 0

abbrev hbmTy0_0 (i : Nat) : BufTy := match i % 128 with
  | 0 => ⟨S33x64, .f32⟩
  | 1 => ⟨S64, .f32⟩
  | 2 => ⟨S64, .f32⟩
  | 3 => ⟨S64x64, .f32⟩
  | 4 => ⟨S64, .f32⟩
  | 5 => ⟨S64x2048, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S2047, .f32⟩
  | 14 => ⟨S_, .f32⟩
  | 15 => ⟨S2047, .f32⟩
  | 16 => ⟨S2047, .f32⟩
  | 17 => ⟨S1, .f32⟩
  | 18 => ⟨S_, .f32⟩
  | 19 => ⟨S2047, .f32⟩
  | 20 => ⟨S2047, .f32⟩
  | 21 => ⟨S2047, .f32⟩
  | 22 => ⟨S2047, .f32⟩
  | 23 => ⟨S1, .f32⟩
  | 24 => ⟨S2047, .f32⟩
  | 25 => ⟨S2047, .f32⟩
  | 26 => ⟨S2047, .f32⟩
  | 27 => ⟨S1, .f32⟩
  | 28 => ⟨S2048, .f32⟩
  | 29 => ⟨S2048x1, .f32⟩
  | 30 => ⟨S2048, .f32⟩
  | 31 => ⟨S2048x1, .f32⟩
  | 32 => ⟨S_, .f32⟩
  | 33 => ⟨S2048x1, .f32⟩
  | 34 => ⟨S2048x1, .f32⟩
  | 35 => ⟨S_, .f32⟩
  | 36 => ⟨S2048x1, .f32⟩
  | 37 => ⟨S2048x1, .f32⟩
  | 38 => ⟨S_, .f32⟩
  | 39 => ⟨S_, .i32⟩
  | 40 => ⟨S_, .f32⟩
  | 41 => ⟨S_, .f32⟩
  | 42 => ⟨S_, .f32⟩
  | 43 => ⟨S_, .f32⟩
  | 44 => ⟨S_, .f32⟩
  | 45 => ⟨S15, .f32⟩
  | 46 => ⟨S_, .f32⟩
  | 47 => ⟨S15, .f32⟩
  | 48 => ⟨S15, .f32⟩
  | 49 => ⟨S1, .f32⟩
  | 50 => ⟨S_, .f32⟩
  | 51 => ⟨S15, .f32⟩
  | 52 => ⟨S15, .f32⟩
  | 53 => ⟨S15, .f32⟩
  | 54 => ⟨S15, .f32⟩
  | 55 => ⟨S1, .f32⟩
  | 56 => ⟨S15, .f32⟩
  | 57 => ⟨S15, .f32⟩
  | 58 => ⟨S15, .f32⟩
  | 59 => ⟨S1, .f32⟩
  | 60 => ⟨S16, .f32⟩
  | 61 => ⟨S1x16, .f32⟩
  | 62 => ⟨S2048x16, .f32⟩
  | 63 => ⟨S2048x16, .f32⟩
  | 64 => ⟨S2048x16, .f32⟩
  | 65 => ⟨S2048x16, .f32⟩
  | 66 => ⟨S2048x16, .f32⟩
  | 67 => ⟨S2048x16, .f32⟩
  | 68 => ⟨S2048x16, .f32⟩
  | 69 => ⟨S2048x16, .f32⟩
  | 70 => ⟨S2048x16, .f32⟩
  | 71 => ⟨S2048x33, .f32⟩
  | 72 => ⟨S2048x64, .f32⟩
  | 73 => ⟨S1x64, .f32⟩
  | 74 => ⟨S2048x64, .f32⟩
  | 75 => ⟨S2048x64, .f32⟩
  | 76 => ⟨S1x64, .f32⟩
  | 77 => ⟨S2048x64, .f32⟩
  | 78 => ⟨S2048x64, .f32⟩
  | 79 => ⟨S2048x64, .f32⟩
  | 80 => ⟨S2048x64, .f32⟩
  | 81 => ⟨S1x64, .f32⟩
  | 82 => ⟨S2048x64, .f32⟩
  | 83 => ⟨S2048x64, .f32⟩
  | 84 => ⟨S1x64, .f32⟩
  | 85 => ⟨S2048x64, .f32⟩
  | 86 => ⟨S2048x64, .f32⟩
  | 87 => ⟨S2048x64, .f32⟩
  | 88 => ⟨S2048x2048, .f32⟩
  | 89 => ⟨S2048x2x2x512, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S511, .f32⟩
  | 98 => ⟨S_, .f32⟩
  | 99 => ⟨S511, .f32⟩
  | 100 => ⟨S511, .f32⟩
  | 101 => ⟨S1, .f32⟩
  | 102 => ⟨S_, .f32⟩
  | 103 => ⟨S511, .f32⟩
  | 104 => ⟨S511, .f32⟩
  | 105 => ⟨S511, .f32⟩
  | 106 => ⟨S511, .f32⟩
  | 107 => ⟨S1, .f32⟩
  | 108 => ⟨S511, .f32⟩
  | 109 => ⟨S511, .f32⟩
  | 110 => ⟨S511, .f32⟩
  | 111 => ⟨S1, .f32⟩
  | 112 => ⟨S512, .f32⟩
  | 113 => ⟨S2048x1, .f32⟩
  | 114 => ⟨S512, .f32⟩
  | 115 => ⟨S1x512, .f32⟩
  | 116 => ⟨S2048x512, .f32⟩
  | 117 => ⟨S2048x512, .f32⟩
  | 118 => ⟨S2048x512, .f32⟩
  | 119 => ⟨S2048x512, .f32⟩
  | 120 => ⟨S2048x1x1x512, .f32⟩
  | 121 => ⟨S2048x2x2x512, .f32⟩
  | 122 => ⟨S2048x2x2x512, .f32⟩
  | 123 => ⟨S2048x2x1x512, .f32⟩
  | 124 => ⟨S2048x2x512, .f32⟩
  | 125 => ⟨S_, .f32⟩
  | 126 => ⟨S1x2x512, .f32⟩
  | 127 => ⟨S2047x2x1x512, .f32⟩
  | _ => ⟨S33x64, .f32⟩

abbrev hbmTy0_1 (i : Nat) : BufTy := match i % 128 with
  | 0 => ⟨S2047x2x1x512, .f32⟩
  | 1 => ⟨S2047x2x512, .f32⟩
  | 2 => ⟨S4096x2x512, .f32⟩
  | 3 => ⟨S2x2048x1024, .f32⟩
  | _ => ⟨S33x64, .f32⟩

abbrev hbmTy (i : Nat) : BufTy := match i / 128 with
  | 0 => hbmTy0_0 i
  | 1 => hbmTy0_1 i
  | _ => ⟨S33x64, .f32⟩

abbrev bufTy : (tb : Table) → Fin (tcTables nBuf tb) → BufTy
  | .hbm, ⟨i, _⟩ => hbmTy i
  | _, _ => ⟨S33x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_cst : Ref sig .tc := ⟨.hbm, 11, rfl⟩
abbrev main_call0_v3 : Ref sig .tc := ⟨.hbm, 12, rfl⟩
abbrev main_call0_v4 : Ref sig .tc := ⟨.hbm, 13, rfl⟩
abbrev main_call0_cst_0 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_cst_1 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst_1 : Ref sig .tc := ⟨.hbm, 32, rfl⟩
abbrev main_v4 : Ref sig .tc := ⟨.hbm, 33, rfl⟩
abbrev main_v5 : Ref sig .tc := ⟨.hbm, 34, rfl⟩
abbrev main_cst_2 : Ref sig .tc := ⟨.hbm, 35, rfl⟩
abbrev main_v6 : Ref sig .tc := ⟨.hbm, 36, rfl⟩
abbrev main_v7 : Ref sig .tc := ⟨.hbm, 37, rfl⟩
abbrev main_cst_3 : Ref sig .tc := ⟨.hbm, 38, rfl⟩
abbrev main_c : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_cst : Ref sig .tc := ⟨.hbm, 43, rfl⟩
abbrev main_call1_v3 : Ref sig .tc := ⟨.hbm, 44, rfl⟩
abbrev main_call1_v4 : Ref sig .tc := ⟨.hbm, 45, rfl⟩
abbrev main_call1_cst_0 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_cst_1 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_v15 : Ref sig .tc := ⟨.hbm, 58, rfl⟩
abbrev main_call1_v16 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_cst_4 : Ref sig .tc := ⟨.hbm, 90, rfl⟩
abbrev main_cst_5 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_call2_cst : Ref sig .tc := ⟨.hbm, 95, rfl⟩
abbrev main_call2_v3 : Ref sig .tc := ⟨.hbm, 96, rfl⟩
abbrev main_call2_v4 : Ref sig .tc := ⟨.hbm, 97, rfl⟩
abbrev main_call2_cst_0 : Ref sig .tc := ⟨.hbm, 98, rfl⟩
abbrev main_call2_v5 : Ref sig .tc := ⟨.hbm, 99, rfl⟩
abbrev main_call2_v6 : Ref sig .tc := ⟨.hbm, 100, rfl⟩
abbrev main_call2_v7 : Ref sig .tc := ⟨.hbm, 101, rfl⟩
abbrev main_call2_cst_1 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_call2_v11 : Ref sig .tc := ⟨.hbm, 106, rfl⟩
abbrev main_call2_v12 : Ref sig .tc := ⟨.hbm, 107, rfl⟩
abbrev main_call2_v13 : Ref sig .tc := ⟨.hbm, 108, rfl⟩
abbrev main_call2_v14 : Ref sig .tc := ⟨.hbm, 109, rfl⟩
abbrev main_call2_v15 : Ref sig .tc := ⟨.hbm, 110, rfl⟩
abbrev main_call2_v16 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_cst_6 : Ref sig .tc := ⟨.hbm, 125, rfl⟩
abbrev main_v51 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩

abbrev nD : Nat := 1
abbrev τ : Topo := Topo.v7x

variable {F : FTy → Type} [FloatOps F]
-- ==== Kernel6.lean ====
abbrev S24576x128 : Shape := ⟨2, ![24576, 128]⟩
abbrev S49152x128 : Shape := ⟨2, ![49152, 128]⟩
abbrev S49152x1024 : Shape := ⟨2, ![49152, 1024]⟩
abbrev S2048x128 : Shape := ⟨2, ![2048, 128]⟩

abbrev nBuf : Space → Nat
  | .hbm => 4
  | .vmem => 6
  | .smem => 0
  | _ => 0

abbrev bufTy : (tb : Table) → Fin (tcTables nBuf tb) → BufTy
  | .hbm, ⟨0, _⟩ => ⟨S24576x128, .f32⟩
  | .hbm, ⟨1, _⟩ => ⟨S49152x128, .f32⟩
  | .hbm, ⟨2, _⟩ => ⟨S49152x1024, .f32⟩
  | .hbm, ⟨3, _⟩ => ⟨S24576x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | _, _ => ⟨S24576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S24576x128 : Shape := ⟨2, ![24576, 128]⟩
abbrev S49152x128 : Shape := ⟨2, ![49152, 128]⟩
abbrev S49152x1024 : Shape := ⟨2, ![49152, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S24576x128, .f32⟩
  | .hbm, ⟨1, _⟩ => ⟨S49152x128, .f32⟩
  | .hbm, ⟨2, _⟩ => ⟨S49152x1024, .f32⟩
  | .hbm, ⟨3, _⟩ => ⟨S24576x128, .f32⟩
  | .hbm, ⟨4, _⟩ => ⟨S_, .f32⟩
  | .hbm, ⟨5, _⟩ => ⟨S24576x128, .f32⟩
  | .hbm, ⟨6, _⟩ => ⟨S24576x128, .f32⟩
  | .hbm, ⟨7, _⟩ => ⟨S24576x128, .f32⟩
  | .hbm, ⟨8, _⟩ => ⟨S_, .f32⟩
  | .hbm, ⟨9, _⟩ => ⟨S24576x128, .f32⟩
  | .hbm, ⟨10, _⟩ => ⟨S24576x128, .f32⟩
  | .hbm, ⟨11, _⟩ => ⟨S24576x128, .f32⟩
  | .hbm, ⟨12, _⟩ => ⟨S24576x128, .f32⟩
  | .hbm, ⟨13, _⟩ => ⟨S24576x128, .f32⟩
  | _, _ => ⟨S24576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel7.lean ====
abbrev S49152x1024 : Shape := ⟨2, ![49152, 1024]⟩
abbrev S24x6144 : Shape := ⟨2, ![24, 6144]⟩
abbrev S24576x1024 : Shape := ⟨2, ![24576, 1024]⟩
abbrev S24x6x1024 : Shape := ⟨3, ![24, 6, 1024]⟩
abbrev S512x1024 : Shape := ⟨2, ![512, 1024]⟩
abbrev S1x6x1024 : Shape := ⟨3, ![1, 6, 1024]⟩
abbrev S6x1024 : Shape := ⟨2, ![6, 1024]⟩
abbrev S1x1024 : Shape := ⟨2, ![1, 1024]⟩

abbrev nBuf : Space → Nat
  | .hbm => 6
  | .vmem => 8
  | .smem => 0
  | _ => 0

abbrev bufTy : (tb : Table) → Fin (tcTables nBuf tb) → BufTy
  | .hbm, ⟨0, _⟩ => ⟨S49152x1024, .f32⟩
  | .hbm, ⟨1, _⟩ => ⟨S24x6144, .f32⟩
  | .hbm, ⟨2, _⟩ => ⟨S24576x1024, .f32⟩
  | .hbm, ⟨3, _⟩ => ⟨S49152x1024, .f32⟩
  | .hbm, ⟨4, _⟩ => ⟨S24x6x1024, .f32⟩
  | .hbm, ⟨5, _⟩ => ⟨S49152x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c48_i32 : BitVec 32 := 48#32
  let v0 : BitVec 32 := Scalar.addi arg0 c48_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c48_i32 : BitVec 32 := 48#32
  let v0 : BitVec 32 := Scalar.addi arg0 c48_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c48_i32 : BitVec 32 := 48#32
  let v0 : BitVec 32 := Scalar.addi arg0 c48_i32
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S49152x1024 : Shape := ⟨2, ![49152, 1024]⟩
abbrev S24x6144 : Shape := ⟨2, ![24, 6144]⟩
abbrev S24576x1024 : Shape := ⟨2, ![24576, 1024]⟩
abbrev S24x1024 : Shape := ⟨2, ![24, 1024]⟩
abbrev S24x2048x1024 : Shape := ⟨3, ![24, 2048, 1024]⟩

abbrev nBuf : Space → Nat
  | .hbm => 18
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S24x6144, .f32⟩
  | .hbm, ⟨2, _⟩ => ⟨S24576x1024, .f32⟩
  | .hbm, ⟨3, _⟩ => ⟨S49152x1024, .f32⟩
  | .hbm, ⟨4, _⟩ => ⟨S24x1024, .f32⟩
  | .hbm, ⟨5, _⟩ => ⟨S24x1024, .f32⟩
  | .hbm, ⟨6, _⟩ => ⟨S24x1024, .f32⟩
  | .hbm, ⟨7, _⟩ => ⟨S24x1024, .f32⟩
  | .hbm, ⟨8, _⟩ => ⟨S24x1024, .f32⟩
  | .hbm, ⟨9, _⟩ => ⟨S24x1024, .f32⟩
  | .hbm, ⟨10, _⟩ => ⟨S24x2048x1024, .f32⟩
  | .hbm, ⟨11, _⟩ => ⟨S49152x1024, .f32⟩
  | .hbm, ⟨12, _⟩ => ⟨S24576x1024, .f32⟩
  | .hbm, ⟨13, _⟩ => ⟨S24576x1024, .f32⟩
  | .hbm, ⟨14, _⟩ => ⟨S24576x1024, .f32⟩
  | .hbm, ⟨15, _⟩ => ⟨S24576x1024, .f32⟩
  | .hbm, ⟨16, _⟩ => ⟨S24576x1024, .f32⟩
  | .hbm, ⟨17, _⟩ => ⟨S49152x1024, .f32⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Proof.Math.lean ====
/-
  The mathematics of the windowed attention over the extended reals, apart from both programs: which values are
  real numbers, one row of the softmax with a sink over a masked window, and its invariance when the window is
  laid out in another order.
-/
module

public import Idealize.ShloMosaic.PureOps
public import Idealize.ShloMosaic.Lib.Pointwise

@[expose] public section

noncomputable section

namespace Cert.Att

open Idealize.ShloMosaic

/-- The value is a real number. -/
def IsReal (x : EReal) : Prop := ∃ r : ℝ, x = (r : EReal)

theorem IsReal.coe (r : ℝ) : IsReal (r : EReal) := ⟨r, rfl⟩

theorem IsReal.of_ne {x : EReal} (h : x ≠ ⊥) (h' : x ≠ ⊤) : IsReal x :=
  ⟨x.toReal, (EReal.coe_toReal h' h).symm⟩

theorem IsReal.ne_bot {x : EReal} (h : IsReal x) : x ≠ ⊥ := by
  obtain ⟨r, rfl⟩ := h; exact EReal.coe_ne_bot r

theorem IsReal.ne_top {x : EReal} (h : IsReal x) : x ≠ ⊤ := by
  obtain ⟨r, rfl⟩ := h; exact EReal.coe_ne_top r

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.sum {ι : Type} {s : Finset ι} {f : ι → EReal} (h : ∀ i, IsReal (f i)) : IsReal (∑ i ∈ s, f i) := by
  classical
  induction s using Finset.induction_on with
  | empty => simpa using IsReal.zero
  | insert a s ha ih => rw [Finset.sum_insert ha]; exact (h a).add ih

theorem IsReal.sub_self {x : EReal} (hx : IsReal x) : x - x = 0 := by
  obtain ⟨a, rfl⟩ := hx; rw [← EReal.coe_sub]; simp

/-! ### One row of attention -/

/-- The scores of one row, `-∞` outside the window. -/
def score (ok : Fin 384 → BitVec 1) (s : Fin 384 → EReal) (j : Fin 384) : EReal :=
  if ok j = 1#1 then s j else ⊥

/-- The largest of the row's scores and the sink. -/
def top (ok : Fin 384 → BitVec 1) (s : Fin 384 → EReal) (sk : EReal) : EReal :=
  max (Finset.univ.fold max ⊥ (score ok s)) sk

/-- The softmax's denominator: the sum of the exponentials and the sink's. -/
def den (ok : Fin 384 → BitVec 1) (s : Fin 384 → EReal) (sk : EReal) : EReal :=
  (∑ j, Ideal.exp (score ok s j - top ok s sk)) + Ideal.exp (sk - top ok s sk)

/-- One output of one row: the values weighted by the softmax of the masked scores with the sink. -/
def att (ok : Fin 384 → BitVec 1) (s : Fin 384 → EReal) (sk : EReal) (v : Fin 384 → EReal) : EReal :=
  ∑ j, Ideal.div (Ideal.exp (score ok s j - top ok s sk)) (den ok s sk) * v j

theorem exp_nonneg (x : EReal) : 0 ≤ Ideal.exp x := by
  induction x using EReal.rec with
  | bot => simp
  | top => simp
  | coe r => simpa using (Real.exp_pos r).le

theorem exp_pos_coe (r : ℝ) : 0 < Ideal.exp (r : EReal) := by
  simpa using Real.exp_pos r

theorem fold_max_eq_sup (f : Fin 384 → EReal) : Finset.univ.fold max ⊥ f = Finset.univ.sup f := rfl

/-- The denominator is not zero where one key is in the window, every score in the window is real and the sink is
    not `+∞`. -/
theorem den_ne_zero {ok : Fin 384 → BitVec 1} {s : Fin 384 → EReal} {sk : EReal} (hs : ∀ j, ok j = 1#1 → IsReal (s j))
    (hsk : sk ≠ ⊤) {j0 : Fin 384} (h0 : ok j0 = 1#1) : den ok s sk ≠ 0 := by
  have hsc : ∀ j, score ok s j ≠ ⊤ := by
    intro j
    unfold score
    split
    · exact (hs j ‹_›).ne_top
    · exact bot_ne_top
  have hr : IsReal (score ok s j0) := by
    unfold score
    rw [if_pos h0]
    exact hs j0 h0
  have htop : top ok s sk ≠ ⊤ := by
    unfold top
    rw [fold_max_eq_sup]
    apply ne_of_lt
    rw [max_lt_iff]
    refine ⟨?_, lt_top_iff_ne_top.2 hsk⟩
    rw [Finset.sup_lt_iff (by exact bot_lt_top)]
    exact fun j _ => lt_top_iff_ne_top.2 (hsc j)
  have hle : score ok s j0 ≤ top ok s sk := by
    unfold top
    rw [fold_max_eq_sup]
    exact (Finset.le_sup (f := score ok s) (Finset.mem_univ j0)).trans (le_max_left _ _)
  have hbot : top ok s sk ≠ ⊥ := by
    intro h
    rw [h, le_bot_iff] at hle
    exact hr.ne_bot hle
  obtain ⟨r, hr'⟩ := hr.sub (IsReal.of_ne hbot htop)
  have h1 : 0 < Ideal.exp (score ok s j0 - top ok s sk) := by
    rw [hr']; exact exp_pos_coe r
  have h2 : Ideal.exp (score ok s j0 - top ok s sk) ≤ ∑ j, Ideal.exp (score ok s j - top ok s sk) :=
    Finset.single_le_sum (f := fun j => Ideal.exp (score ok s j - top ok s sk)) (fun j _ => exp_nonneg _)
      (Finset.mem_univ j0)
  have h3 : 0 < den ok s sk :=
    lt_of_lt_of_le (h1.trans_le h2) (le_add_of_nonneg_right (exp_nonneg _))
  exact h3.ne'

theorem bot_sub (x : EReal) : ⊥ - x = ⊥ := by
  rw [sub_eq_add_neg, EReal.bot_add]

theorem div_zero_left {y : EReal} (h : y ≠ 0) : Ideal.div 0 y = 0 := by
  rw [Ideal.div, if_neg h, zero_mul]

/-- The row's output does not depend on the order in which the window's keys are laid out, nor on what stands outside
    the window, where the denominator is not zero. -/
theorem att_reindex (e : Fin 384 ≃ Fin 384) {ok ok' : Fin 384 → BitVec 1} {s s' v v' : Fin 384 → EReal} {sk : EReal}
    (hok : ∀ j, ok' (e j) = ok j) (hs : ∀ j, ok j = 1#1 → s' (e j) = s j)
    (hv : ∀ j, ok j = 1#1 → v' (e j) = v j) (hd : den ok s sk ≠ 0) :
    att ok s sk v = att ok' s' sk v' := by
  have hsc : ∀ j, score ok' s' (e j) = score ok s j := by
    intro j
    unfold score
    rw [hok]
    split
    · exact hs j ‹_›
    · rfl
  have htop : top ok' s' sk = top ok s sk := by
    unfold top
    rw [fold_max_eq_sup, fold_max_eq_sup]
    congr 1
    apply le_antisymm
    · refine Finset.sup_le fun j _ => ?_
      obtain ⟨i, rfl⟩ := e.surjective j
      rw [hsc]
      exact Finset.le_sup (f := score ok s) (Finset.mem_univ i)
    · refine Finset.sup_le fun j _ => ?_
      rw [← hsc]
      exact Finset.le_sup (f := score ok' s') (Finset.mem_univ (e j))
  have hden : den ok' s' sk = den ok s sk := by
    unfold den
    rw [htop]
    congr 1
    refine (Fintype.sum_equiv e _ _ fun j => ?_).symm
    rw [hsc]
  unfold att
  refine Fintype.sum_equiv e _ _ fun j => ?_
  rw [hsc, htop, hden]
  by_cases h : ok j = 1#1
  · rw [hv j h]
  · have hb : score ok s j = ⊥ := by unfold score; rw [if_neg h]
    rw [hb, bot_sub, Ideal.exp_bot, div_zero_left hd, zero_mul, zero_mul]

/-- Where the values are zero the row's output is zero. -/
theorem att_zero {ok : Fin 384 → BitVec 1} {s v : Fin 384 → EReal} {sk : EReal} (hv : ∀ j, v j = 0) :
    att ok s sk v = 0 := by
  unfold att
  exact Finset.sum_eq_zero fun j _ => by rw [hv, mul_zero]

/-! ### The norm and the rotation of one head's vector -/

/-- The reciprocal root of the mean square of a head's vector. -/
def inv (x : Fin 64 → EReal) : EReal :=
  Ideal.rsqrt (Ideal.div (∑ d, x d * x d) (Ideal.ofBits .f32 0x42800000#32) + Ideal.ofBits .f32 0x358637BD#32)

/-- The normalised and scaled vector. -/
def nrm (x g : Fin 64 → EReal) (d : Fin 64) : EReal := x d * inv x * g d

/-- The normalised vector rotated by the angle of its position, half against half. -/
def rot (x g : Fin 64 → EReal) (c s : Fin 32 → EReal) (d : Fin 64) : EReal :=
  if h : d.val < 32 then nrm x g d * c ⟨d.val, h⟩ - nrm x g ⟨d.val + 32, by omega⟩ * s ⟨d.val, h⟩
  else nrm x g d * c ⟨d.val - 32, by omega⟩ + nrm x g ⟨d.val - 32, by omega⟩ * s ⟨d.val - 32, by omega⟩

theorem lit_64 : Ideal.ofBits .f32 0x42800000#32 = ((64 : ℝ) : EReal) := by
  simp [Ideal.ofBits, Ideal.ieee, -EReal.coe_mul]; norm_num

theorem lit_inv64 : Ideal.ofBits .f32 0x3C800000#32 = ((1 / 64 : ℝ) : EReal) := by
  simp [Ideal.ofBits, Ideal.ieee, -EReal.coe_mul]; norm_num

theorem lit_eighth : IsReal (Ideal.ofBits .f32 0x3E000000#32) :=
  ⟨_, by simp [Ideal.ofBits, Ideal.ieee, -EReal.coe_mul]; rfl⟩

theorem lit_eps : ∃ r : ℝ, 0 < r ∧ Ideal.ofBits .f32 0x358637BD#32 = (r : EReal) :=
  ⟨(2 ^ 23 + 407485 : ℕ) * (2 : ℝ) ^ (-43 : ℤ), by positivity, by
    simp [Ideal.ofBits, Ideal.ieee, -EReal.coe_mul]⟩

theorem lit_ninf : Ideal.ofBits .f32 0xFF800000#32 = (⊥ : EReal) := by
  simp [Ideal.ofBits, Ideal.ieee]

theorem lit_inf : Ideal.ofBits .f32 0x7F800000#32 = (⊤ : EReal) := by
  simp [Ideal.ofBits, Ideal.ieee]

/-- The mean square and its correction: the kernel's product with `1/64` is the quotient by 64. -/
theorem inv_eq (x : Fin 64 → EReal) : inv x =
    Ideal.rsqrt ((∑ d, x d * x d) * Ideal.ofBits .f32 0x3C800000#32 + Ideal.ofBits .f32 0x358637BD#32) := by
  unfold inv
  rw [lit_64, lit_inv64, Ideal.div_coe (by norm_num)]

theorem inv_real {x : Fin 64 → EReal} (hx : ∀ d, IsReal (x d)) : IsReal (inv x) := by
  choose a ha using hx
  obtain ⟨e, he, heq⟩ := lit_eps
  have h0 : ∀ d, 0 ≤ a d * a d := fun d => mul_self_nonneg _
  have h1 : (∑ d, x d * x d) = ((∑ d, a d * a d : ℝ) : EReal) := by
    have : ∀ s : Finset (Fin 64), (∑ d ∈ s, x d * x d) = ((∑ d ∈ s, a d * a d : ℝ) : EReal) := by
      intro s
      induction s using Finset.induction_on with
      | empty => simp
      | insert i s hi ih => rw [Finset.sum_insert hi, Finset.sum_insert hi, ih, ha, EReal.coe_add, EReal.coe_mul]
    exact this _
  rw [inv_eq, h1, lit_inv64, heq, ← EReal.coe_mul, ← EReal.coe_add]
  have hpos : 0 < (∑ d, a d * a d) * (1 / 64) + e :=
    add_pos_of_nonneg_of_pos (mul_nonneg (Finset.sum_nonneg fun d _ => h0 d) (by norm_num)) he
  rw [Ideal.rsqrt_coe, if_neg (not_lt.2 hpos.le), if_neg hpos.ne']
  exact IsReal.coe _

theorem nrm_real {x g : Fin 64 → EReal} (hx : ∀ d, IsReal (x d)) (hg : ∀ d, IsReal (g d)) (d : Fin 64) :
    IsReal (nrm x g d) := ((hx d).mul (inv_real hx)).mul (hg d)

/-- A finite vector's rotation is finite. -/
theorem rot_real {x g : Fin 64 → EReal} {c s : Fin 32 → EReal} (hx : ∀ d, IsReal (x d)) (hg : ∀ d, IsReal (g d))
    (hc : ∀ d, IsReal (c d)) (hs : ∀ d, IsReal (s d)) (d : Fin 64) : IsReal (rot x g c s d) := by
  unfold rot
  split
  · exact ((nrm_real hx hg _).mul (hc _)).sub ((nrm_real hx hg _).mul (hs _))
  · exact ((nrm_real hx hg _).mul (hc _)).add ((nrm_real hx hg _).mul (hs _))

/-! ### Lanes of two heads -/

/-- A sum over the 128 lanes of which only one head's count is the sum over that head's 64. -/
theorem sum_heads (f : Fin 128 → EReal) (q : ℕ) (hq : q < 2) :
    (∑ r : Fin 128, if r.val / 64 = q then f r else 0) = ∑ d : Fin 64, f ⟨64 * q + d.val, by omega⟩ := by
  rw [← Finset.sum_filter]
  symm
  refine Finset.sum_bij (fun d _ => (⟨64 * q + d.val, by omega⟩ : Fin 128)) (fun d _ => ?_) (fun a _ b _ h => ?_)
    (fun r hr => ?_) (fun d _ => rfl)
  · simp only [Finset.mem_filter, Finset.mem_univ, true_and]; omega
  · simp only [Fin.mk.injEq] at h; omega
  · simp only [Finset.mem_filter, Finset.mem_univ, true_and] at hr
    exact ⟨⟨r.val - 64 * q, by omega⟩, Finset.mem_univ _, Fin.ext (by simp only; omega)⟩

/-- The rotation with the sine's table signed and the partner chosen by the half. -/
theorem rot_eq (x g : Fin 64 → EReal) (c s : Fin 32 → EReal) (d : Fin 64) : rot x g c s d =
    nrm x g d * c ⟨d.val % 32, by omega⟩ + nrm x g ⟨(d.val + 32) % 64, by omega⟩ *
      (if d.val < 32 then -s ⟨d.val % 32, by omega⟩ else s ⟨d.val % 32, by omega⟩) := by
  unfold rot
  split
  · rename_i h
    simp only [if_pos h, Nat.mod_eq_of_lt h, Nat.mod_eq_of_lt (show d.val + 32 < 64 by omega), sub_eq_add_neg,
      mul_neg]
  · rename_i h
    have h1 : d.val % 32 = d.val - 32 := by omega
    have h2 : (d.val + 32) % 64 = d.val - 32 := by omega
    simp only [if_neg h, h1, h2]

/-! ### Words -/

theorem ofNat_ofInt (n : ℕ) : BitVec.ofNat 32 n = BitVec.ofInt 32 (n : ℤ) := by
  simp

theorem subi_ofInt (a b : ℤ) : IntOp.subi (BitVec.ofInt 32 a) (BitVec.ofInt 32 b) = BitVec.ofInt 32 (a - b) := by
  simp only [IntOp.subi]
  rw [BitVec.sub_eq_add_neg, ← BitVec.ofInt_neg, ← BitVec.ofInt_add, ← sub_eq_add_neg]

theorem addi_ofInt (a b : ℤ) : IntOp.addi (BitVec.ofInt 32 a) (BitVec.ofInt 32 b) = BitVec.ofInt 32 (a + b) := by
  simp only [IntOp.addi]
  rw [← BitVec.ofInt_add]

theorem muli_ofInt (a b : ℤ) : IntOp.muli (BitVec.ofInt 32 a) (BitVec.ofInt 32 b) = BitVec.ofInt 32 (a * b) := by
  simp only [IntOp.muli]
  rw [← BitVec.ofInt_mul]

theorem toInt_ofInt (z : ℤ) (h : -4096 ≤ z ∧ z ≤ 4096) : (BitVec.ofInt 32 z).toInt = z :=
  BitVec.toInt_ofInt_eq_self (by norm_num) (by norm_num; omega) (by norm_num; omega)

/-- A signed comparison of small words is the comparison of the integers. -/
theorem sle_ofInt (a b : ℤ) (ha : -4096 ≤ a ∧ a ≤ 4096) (hb : -4096 ≤ b ∧ b ≤ 4096) :
    IntOp.cmpi CmpIPredicate.sle (BitVec.ofInt 32 a) (BitVec.ofInt 32 b) = if a ≤ b then 1#1 else 0#1 := by
  simp only [IntOp.cmpi, BitVec.sle, toInt_ofInt a ha, toInt_ofInt b hb]
  by_cases h : a ≤ b <;> simp [h]

theorem slt_ofInt (a b : ℤ) (ha : -4096 ≤ a ∧ a ≤ 4096) (hb : -4096 ≤ b ∧ b ≤ 4096) :
    IntOp.cmpi CmpIPredicate.slt (BitVec.ofInt 32 a) (BitVec.ofInt 32 b) = if a < b then 1#1 else 0#1 := by
  simp only [IntOp.cmpi, BitVec.slt, toInt_ofInt a ha, toInt_ofInt b hb]
  by_cases h : a < b <;> simp [h]

theorem sge_ofInt (a b : ℤ) (ha : -4096 ≤ a ∧ a ≤ 4096) (hb : -4096 ≤ b ∧ b ≤ 4096) :
    IntOp.cmpi CmpIPredicate.sge (BitVec.ofInt 32 a) (BitVec.ofInt 32 b) = if b ≤ a then 1#1 else 0#1 := by
  simp only [IntOp.cmpi, BitVec.sle, toInt_ofInt a ha, toInt_ofInt b hb]
  by_cases h : b ≤ a <;> simp [h]

theorem absi_ofInt (z : ℤ) (h : -4096 ≤ z ∧ z ≤ 4096) : IntOp.absi (BitVec.ofInt 32 z) = BitVec.ofInt 32 |z| := by
  unfold IntOp.absi
  rw [BitVec.msb_eq_toInt, toInt_ofInt z h]
  by_cases hz : z < 0
  · rw [abs_of_neg hz, if_pos (by simpa using hz), BitVec.ofInt_neg]
  · rw [abs_of_nonneg (not_lt.1 hz), if_neg (by simpa using hz)]

/-- The band's comparison of words. -/
theorem band_ofInt (z : ℤ) (h : -4096 ≤ z ∧ z ≤ 4096) :
    IntOp.cmpi CmpIPredicate.sle (IntOp.absi (BitVec.ofInt 32 z)) 128#32 = if -128 ≤ z ∧ z ≤ 128 then 1#1 else 0#1 := by
  have h' : |z| ≤ 4096 := abs_le.2 h
  rw [absi_ofInt z h, ofNat_ofInt, sle_ofInt _ _ ⟨by have := abs_nonneg z; omega, h'⟩ (by norm_num)]
  exact if_congr abs_le rfl rfl

/-! ### The rotation's angles -/

/-- The angle of coordinate pair `k` at position `t`. -/
def ang (t : Fin 2048) (k : Fin 32) : EReal :=
  FloatOps.sitofp (F := Ideal) .f32 (BitVec.ofNat 32 t.val) * Ideal.pow (Ideal.ofBits .f32 0x461C4000#32)
    (Ideal.div (-(Ideal.ofBits .f32 0x40000000#32 * FloatOps.sitofp (F := Ideal) .f32 (BitVec.ofNat 32 k.val)))
      (Ideal.ofBits .f32 0x42800000#32))

theorem sitofp_real (b : BitVec 32) : IsReal (FloatOps.sitofp (F := Ideal) .f32 b) := ⟨_, rfl⟩

theorem lit_two : IsReal (Ideal.ofBits .f32 0x40000000#32) :=
  ⟨_, by simp [Ideal.ofBits, Ideal.ieee, -EReal.coe_mul]; rfl⟩

theorem lit_theta : IsReal (Ideal.ofBits .f32 0x461C4000#32) :=
  ⟨_, by simp [Ideal.ofBits, Ideal.ieee, -EReal.coe_mul]; rfl⟩

theorem ang_real (t : Fin 2048) (k : Fin 32) : IsReal (ang t k) := by
  unfold ang
  refine (sitofp_real _).mul ?_
  rw [lit_64, Ideal.div_coe (by norm_num)]
  obtain ⟨a, ha⟩ := lit_theta
  obtain ⟨b, hb⟩ := (lit_two.mul (sitofp_real (BitVec.ofNat 32 k.val))).neg.mul (IsReal.coe (1 / 64))
  rw [ha, hb]
  exact ⟨_, Ideal.pow_coe_coe a b⟩

theorem cos_real {x : EReal} (h : IsReal x) : IsReal (Ideal.cos x) := by
  obtain ⟨a, rfl⟩ := h; exact ⟨Real.cos a, rfl⟩

theorem sin_real {x : EReal} (h : IsReal x) : IsReal (Ideal.sin x) := by
  obtain ⟨a, rfl⟩ := h; exact ⟨Real.sin a, rfl⟩

end Cert.Att

end
-- ==== Proof.Head.lean ====
/-
  One head of the kernel's attention over one block of queries, as an array, and its value at an index: a row of
  the softmax with a sink over the window.
-/
module

public import proofs.«01_k».proof.Proof.Gen.KernelIdeal.Value
public import proofs.«01_k».proof.Proof.Math

@[expose] public section

set_option maxRecDepth 16384

noncomputable section

namespace Cert.KernelIdeal.Att

open Idealize.ShloMosaic Idealize.ShloMosaic.TcCoe Idealize.ShloMosaic.Tactic
open Cert.KernelIdeal Cert.KernelIdeal.Gen

variable {F : FTy → Type} [FloatOps F]

/-- The masked scores of one head over one block of queries. -/
def hdScore (ok : IVec S128x384 1) (Q : FVec F S128x128 .bf16) (K : FVec F S1x384x128 .bf16) : FVec F S128x384 .f32 :=
  select ok
    (mulf (matmul dot_S128x128_S384x128_S128x384_1_1_0_0_n_n none Q (shapeCast S384x128 K shapeCasts_S1x384x128_S384x128)
      (constant S128x384 .f32 0x00000000#32)) (broadcast S128x384 (Scalar.ofBits .f32 0x3E000000#32)))
    (broadcast S128x384 (Scalar.ofBits .f32 0xFF800000#32))

/-- The largest of each row's scores and the sink. -/
def hdTop (S : FVec F S128x384 .f32) (sk : FVec F S1x1 .f32) : FVec F S128x1 .f32 :=
  maximumf (shapeCast S128x1 (multiReduction .maximumf [1] S128 S 0xFF800000#32 reduces_S128x384_S128 (.inl rfl) rfl)
    shapeCasts_S128_S128x1) (broadcastTo S128x1 (shapeCast S1x1 sk shapeCasts_S1x1_S1x1) broadcasts_S1x1_S128x1)

/-- The softmax of each row, with the sink in the denominator. -/
def hdProb (S : FVec F S128x384 .f32) (sk : FVec F S1x1 .f32) : FVec F S128x384 .f32 :=
  let e : FVec F S128x384 .f32 := exp (subf S (broadcastTo S128x384 (hdTop S sk) broadcasts_S128x1_S128x384))
  divf e (broadcastTo S128x384
    (addf (shapeCast S128x1 (multiReduction .add [1] S128 e 0x00000000#32 reduces_S128x384_S128 (.inl rfl) rfl)
      shapeCasts_S128_S128x1)
      (exp (subf (broadcastTo S128x1 (shapeCast S1x1 sk shapeCasts_S1x1_S1x1) broadcasts_S1x1_S128x1) (hdTop S sk))))
    broadcasts_S128x1_S128x384)

/-- One head's output over one block of queries. -/
def hd (ok : IVec S128x384 1) (Q : FVec F S128x128 .bf16) (K : FVec F S1x384x128 .bf16) (sk : FVec F S1x1 .f32)
    (V : FVec F S1x384x128 .bf16) : FVec F S128x128 .f32 :=
  matmul dot_S128x384_S384x128_S128x128_1_0_0_1_n_n none (truncf .bf16 (hdProb (hdScore ok Q K) sk) bitsLt_bf16_f32)
    (shapeCast S384x128 V shapeCasts_S1x384x128_S384x128) (constant S128x128 .f32 0x00000000#32)

/-- The two heads of a pair, added from zero. -/
def pair (ok : IVec S128x384 1) (Q : FVec F S128x128 .bf16) (K0 K1 : FVec F S1x384x128 .bf16) (sk0 sk1 : FVec F S1x1 .f32)
    (V0 V1 : FVec F S1x384x128 .bf16) : FVec F S128x128 .f32 :=
  addf (addf (broadcast S128x128 (Scalar.ofBits .f32 0x00000000#32)) (hd ok Q K0 sk0 V0)) (hd ok Q K1 sk1 V1)

section
variable (v298 v299 : IVec S128x384 32) (k : Fin k0_t1_loop.trips) (ok : IVec S128x384 1) (Q : FVec F S128x128 .bf16)
  (K0 K1 : FVec F S1x384x128 .bf16) (sk0 sk1 : FVec F S1x1 .f32) (V0 V1 : FVec F S1x384x128 .bf16)

/-- The first pair's stored block. -/
theorem pay_pair0 : k0_pay6 (k0_pay3 v298 v299 0#32 1#32 k) Q (k0_pay4 (F := F))
    (k0_pay5 v298 v299 0#32 1#32 k Q K0 sk0) V0 K1 sk1 V1 = pair (k0_pay3 v298 v299 0#32 1#32 k) Q K0 K1 sk0 sk1 V0 V1 := rfl

/-- The second pair's stored block. -/
theorem pay_pair1 : k0_pay9 (k0_pay7 ok Q (Scalar.ofBits .f32 0x00000000#32) K0 sk0 V0) (k0_pay8 ok Q K1) sk1 V1
    = pair ok Q K0 K1 sk0 sk1 V0 V1 := rfl

/-- The third pair's stored block. -/
theorem pay_pair2 : k0_pay18 (k0_pay15 (k0_pay10 (F := F)) (k0_pay12 sk0) (k0_pay13 ok Q K0 sk0) (k0_pay14 ok Q K0 sk0) V0)
    (k0_pay16 ok Q K1 sk1) (k0_pay17 V1) (constant S128x128 .f32 0x00000000#32) = pair ok Q K0 K1 sk0 sk1 V0 V1 := rfl

/-- The fourth pair's stored block. -/
theorem pay_pair3 : k0_pay2 ok Q (k0_pay19 ok Q K0 sk0 V0) (k0_pay20 K1) (constant S128x384 .f32 0x00000000#32) sk1 V1
    = pair ok Q K0 K1 sk0 sk1 V0 V1 := rfl
end

/-! ### At the extended reals -/

section
variable (ok : IVec S128x384 1) (Q : FVec Ideal S128x128 .bf16) (K : FVec Ideal S1x384x128 .bf16)
  (sk : FVec Ideal S1x1 .f32) (V : FVec Ideal S1x384x128 .bf16)

/-- The masked scores at an index. -/
theorem hdScore_apply (i : Fin 128) (j : Fin 384) : hdScore ok Q K (ix2 i j) =
    Cert.Att.score (fun j => ok (ix2 i j)) (fun j => (∑ l : Fin 128, Q (ix2 i l) * K (ix3 0 j l)) *
      Ideal.ofBits .f32 0x3E000000#32) j := by
  unfold Cert.Att.score
  pointwise [hdScore, Cert.Att.lit_ninf]
  rfl

theorem hdTop_apply (S : FVec Ideal S128x384 .f32) (i : Fin 128) : hdTop S sk (ix2 i 0) =
    max (Finset.univ.fold max ⊥ fun j : Fin 384 => S (ix2 i j)) (sk (ix2 0 0)) := by
  pointwise [hdTop, Cert.Att.lit_ninf]

theorem hdProb_apply (S : FVec Ideal S128x384 .f32) (i : Fin 128) (j : Fin 384) : hdProb S sk (ix2 i j) =
    Ideal.div (Ideal.exp (S (ix2 i j) - hdTop S sk (ix2 i 0)))
      ((∑ j : Fin 384, Ideal.exp (S (ix2 i j) - hdTop S sk (ix2 i 0))) + Ideal.exp (sk (ix2 0 0) - hdTop S sk (ix2 i 0))) := by
  pointwise [hdProb]

/-- One head's output at an index. -/
theorem hd_apply (i c : Fin 128) : hd ok Q K sk V (ix2 i c) =
    Cert.Att.att (fun j => ok (ix2 i j)) (fun j => (∑ l : Fin 128, Q (ix2 i l) * K (ix3 0 j l)) *
      Ideal.ofBits .f32 0x3E000000#32) (sk (ix2 0 0)) (fun j => V (ix3 0 j c)) := by
  unfold Cert.Att.att Cert.Att.den Cert.Att.top
  pointwise [hd]
  simp only [hdProb_apply, hdTop_apply, hdScore_apply]

/-- A pair's stored block at an index. -/
theorem pair_apply (K1 : FVec Ideal S1x384x128 .bf16) (sk1 : FVec Ideal S1x1 .f32) (V1 : FVec Ideal S1x384x128 .bf16)
    (i c : Fin 128) : pair ok Q K K1 sk sk1 V V1 (ix2 i c) =
      hd ok Q K sk V (ix2 i c) + hd ok Q K1 sk1 V1 (ix2 i c) := by
  pointwise [pair]
end

end Cert.KernelIdeal.Att

end
-- ==== Proof.Trip.lean ====
/-
  One trip of the kernel's loop over the blocks of queries: the four stored blocks, and what they hold at an index.
-/
module

public import proofs.«01_k».proof.Proof.Head

@[expose] public section

set_option maxRecDepth 16384

noncomputable section

namespace Cert.KernelIdeal.Att

open Idealize.ShloMosaic Idealize.ShloMosaic.TcCoe Idealize.ShloMosaic.Tactic
open Cert.KernelIdeal Cert.KernelIdeal.Gen

/-- The first key of the window of query block `n`. -/
def startN (n : ℕ) : ℕ := min 1664 ((n - 1) * 128)

theorem startN_le (n : ℕ) : startN n ≤ 1664 := min_le_left _ _

/-- Whether key `j` of the window is within 128 of query `i` of block `n`. -/
def okN (n : ℕ) (i : Fin 128) (j : Fin 384) : BitVec 1 :=
  if startN n + j.val ≤ 128 * n + i.val + 128 ∧ 128 * n + i.val ≤ startN n + j.val + 128 then 1#1 else 0#1

/-- One head's output of the kernel at an index, from the sinks, the queries, the keys and the values as kept. -/
def headv (X8 : S8x128.Idx → EReal) (X10 : S2048x512.Idx → EReal) (X11 X12 : S4x2048x128.Idx → EReal) (n : Fin 16)
    (p : Fin 4) (a : Fin 2) (i c : Fin 128) : EReal :=
  Cert.Att.att (okN n.val i)
    (fun j => (∑ l : Fin 128, X10 (ix2 ⟨128 * n.val + i.val, by omega⟩ ⟨128 * p.val + l.val, by omega⟩) *
      X11 (ix3 ⟨2 * (p.val / 2) + a.val, by omega⟩ ⟨startN n.val + j.val, by have := startN_le n.val; omega⟩ l)) *
        Ideal.ofBits .f32 0x3E000000#32)
    (X8 (ix2 ⟨2 * p.val + a.val, by omega⟩ 0))
    (fun j => X12 (ix3 ⟨2 * (p.val / 2) + a.val, by omega⟩ ⟨startN n.val + j.val, by have := startN_le n.val; omega⟩ c))

/-- The kernel's output at an index of a batch's block. -/
def outv (X8 : S8x128.Idx → EReal) (X10 : S2048x512.Idx → EReal) (X11 X12 : S4x2048x128.Idx → EReal)
    (y : S2048x512.Idx) : EReal :=
  headv X8 X10 X11 X12 ⟨(y 0).val / 128, by have : (y 0).val < 2048 := (y 0).isLt; omega⟩
      ⟨(y 1).val / 128, by have : (y 1).val < 512 := (y 1).isLt; omega⟩ 0 ⟨(y 0).val % 128, by omega⟩ ⟨(y 1).val % 128, by omega⟩ +
    headv X8 X10 X11 X12 ⟨(y 0).val / 128, by have : (y 0).val < 2048 := (y 0).isLt; omega⟩
      ⟨(y 1).val / 128, by have : (y 1).val < 512 := (y 1).isLt; omega⟩ 1 ⟨(y 0).val % 128, by omega⟩ ⟨(y 1).val % 128, by omega⟩

theorem trips_eq : k0_t1_loop.trips = 16 := by decide +kernel

theorem off1_eq : ∀ k : Fin k0_t1_loop.trips, k0_off1 k = ![128 * k.val, 0] := by decide +kernel
theorem off4_eq : ∀ k : Fin k0_t1_loop.trips, k0_off4 k = ![128 * k.val, 128] := by decide +kernel
theorem off5_eq : ∀ k : Fin k0_t1_loop.trips, k0_off5 k = ![128 * k.val, 256] := by decide +kernel
theorem off8_eq : ∀ k : Fin k0_t1_loop.trips, k0_off8 k = ![128 * k.val, 384] := by decide +kernel
theorem off2_eq : ∀ k : Fin k0_t1_loop.trips, k0_off2 k = ![0, startN k.val, 0] := by decide +kernel
theorem off3_eq : ∀ k : Fin k0_t1_loop.trips, k0_off3 k = ![1, startN k.val, 0] := by decide +kernel
theorem off6_eq : ∀ k : Fin k0_t1_loop.trips, k0_off6 k = ![2, startN k.val, 0] := by decide +kernel
theorem off7_eq : ∀ k : Fin k0_t1_loop.trips, k0_off7 k = ![3, startN k.val, 0] := by decide +kernel

/-- The window's mask as the kernel's words compute it. -/
abbrev mask (k : Fin k0_t1_loop.trips) : IVec S128x384 1 :=
  k0_pay3 (iota .tc S128x384 32 [0] iota_S128x384_d0_w32) (iota .tc S128x384 32 [1] iota_S128x384_d1_w32) 0#32 1#32 k

def dif (k : ℕ) : BitVec 32 :=
  Scalar.subi (Scalar.minsi 1664#32 (Scalar.maxsi 0#32 (Scalar.muli (Scalar.subi (Scf.iv 0#32 1#32 k) 1#32) 128#32)))
    (Scalar.muli (Scf.iv 0#32 1#32 k) 128#32)

theorem dif_eq : ∀ k : Fin k0_t1_loop.trips, dif k.val = BitVec.ofInt 32 ((startN k.val : ℤ) - 128 * k.val) := by
  decide +kernel

theorem dif_range (k : Fin k0_t1_loop.trips) : -256 ≤ (startN k.val : ℤ) - 128 * k.val ∧ (startN k.val : ℤ) - 128 * k.val ≤ 0 := by
  have hk : k.val < 16 := trips_eq ▸ k.isLt
  unfold startN
  omega

/-- The comparison of words is the comparison of positions. -/
theorem band_word (s q : ℕ) (i : Fin 128) (j : Fin 384) (h : -256 ≤ (s : ℤ) - q ∧ (s : ℤ) - q ≤ 0) :
    IntOp.cmpi CmpIPredicate.sle (IntOp.absi (IntOp.subi (IntOp.addi (BitVec.ofInt 32 ((s : ℤ) - q)) (BitVec.ofNat 32 j.val))
      (BitVec.ofNat 32 i.val))) 128#32 = if s + j.val ≤ q + i.val + 128 ∧ q + i.val ≤ s + j.val + 128 then 1#1 else 0#1 := by
  rw [Cert.Att.ofNat_ofInt j.val, Cert.Att.ofNat_ofInt i.val, Cert.Att.addi_ofInt, Cert.Att.subi_ofInt,
    Cert.Att.band_ofInt _ (by omega)]
  exact if_congr (by omega) rfl rfl

theorem mask_apply (k : Fin k0_t1_loop.trips) (i : Fin 128) (j : Fin 384) : mask k (ix2 i j) = okN k.val i j := by
  unfold mask
  pointwise [k0_pay3]
  change IntOp.cmpi CmpIPredicate.sle (IntOp.absi (IntOp.subi (IntOp.addi (dif k.val) (BitVec.ofNat 32 j.val))
    (BitVec.ofNat 32 i.val))) 128#32 = _
  rw [dif_eq]
  exact band_word _ (128 * k.val) i j (dif_range k)

theorem unit_emb {S : Shape} (off size : Fin S.rank → ℕ) (inb : ∀ a, off a + size a ≤ S.size a)
    (x : (Rect.unit off size inb).shape.Idx) (a : Fin S.rank) : ((Rect.unit off size inb).emb x a).val = off a + (x a).val :=
  congrArg (off a + ·) (Nat.one_mul _)

theorem ld_at {S : Shape} {e : EltTy} (X : S.Idx → Elt Ideal e) (off size : Fin S.rank → ℕ) (inb : ∀ a, off a + size a ≤ S.size a)
    (x : (Rect.unit off size inb).shape.Idx) (i : S.Idx) (hi : ∀ a, off a + (x a).val = (i a).val) :
    View.ld (Val := Elt Ideal) (e' := e) X (Rect.unit off size inb) x = X i :=
  congrArg X (funext fun a => Fin.ext ((unit_emb off size inb x a).trans (hi a)))

/-- The loads of the loop's body: queries, keys and values, and a sink. -/
abbrev ldQ (X : S2048x512.Idx → EReal) (off : Fin 2 → ℕ) (inb : ∀ a, off a + ![128, 128] a ≤ S2048x512.size a) :
    FVec Ideal S128x128 .bf16 :=
  View.ld (Val := Elt Ideal) (e' := .bf16) X (Rect.unit (s := S2048x512) off ![128, 128] inb)

abbrev ldK (X : S4x2048x128.Idx → EReal) (off : Fin 3 → ℕ) (inb : ∀ a, off a + ![1, 384, 128] a ≤ S4x2048x128.size a) :
    FVec Ideal S1x384x128 .bf16 :=
  View.ld (Val := Elt Ideal) (e' := .bf16) X (Rect.unit (s := S4x2048x128) off ![1, 384, 128] inb)

abbrev ldS (X : S8x128.Idx → EReal) (off : Fin 2 → ℕ) (inb : ∀ a, off a + ![1, 1] a ≤ S8x128.size a) :
    FVec Ideal S1x1 .f32 :=
  View.ld (Val := Elt Ideal) (e' := .f32) X (Rect.unit (s := S8x128) off ![1, 1] inb)

/-- One head's output, loaded from where it is kept. -/
theorem hd_val (X8 : S8x128.Idx → EReal) (X10 : S2048x512.Idx → EReal) (X11 X12 : S4x2048x128.Idx → EReal)
    (k : Fin k0_t1_loop.trips) (n : Fin 16) (hn : k.val = n.val) (p : Fin 4) (a : Fin 2) {q0 st co sl h : ℕ}
    (hq : q0 = 128 * n.val) (hst : st = startN n.val) (hco : co = 128 * p.val) (hsl : sl = 2 * (p.val / 2) + a.val)
    (hh : h = 2 * p.val + a.val) (i10 i11 i12 i8) (i c : Fin 128) :
    hd (F := Ideal) (mask k) (ldQ X10 ![q0, co] i10) (ldK X11 ![sl, st, 0] i11)
      (ldS X8 ![h, 0] i8) (ldK X12 ![sl, st, 0] i12) (ix2 i c) =
      headv X8 X10 X11 X12 n p a i c := by
  subst hq hst hco hsl hh
  have hst := startN_le n.val
  rw [hd_apply, headv]
  have e10 : ∀ l : Fin 128, ldQ X10 ![128 * n.val, 128 * p.val] i10 (ix2 i l) =
      X10 (ix2 ⟨128 * n.val + i.val, by omega⟩ ⟨128 * p.val + l.val, by omega⟩) := fun l =>
    ld_at _ _ _ _ _ _ fun a => by fin_cases a <;> rfl
  have e11 : ∀ (j : Fin 384) (l : Fin 128), ldK X11 ![2 * (p.val / 2) + a.val, startN n.val, 0] i11 (ix3 0 j l) =
      X11 (ix3 ⟨2 * (p.val / 2) + a.val, by omega⟩ ⟨startN n.val + j.val, by omega⟩ l) := fun j l =>
    ld_at _ _ _ _ _ _ fun b => by fin_cases b <;> simp
  have e12 : ∀ (j : Fin 384) (l : Fin 128), ldK X12 ![2 * (p.val / 2) + a.val, startN n.val, 0] i12 (ix3 0 j l) =
      X12 (ix3 ⟨2 * (p.val / 2) + a.val, by omega⟩ ⟨startN n.val + j.val, by omega⟩ l) := fun j l =>
    ld_at _ _ _ _ _ _ fun b => by fin_cases b <;> simp
  have e8 : ldS X8 ![2 * p.val + a.val, 0] i8 (ix2 0 0) =
      X8 (ix2 ⟨2 * p.val + a.val, by omega⟩ 0) :=
    ld_at _ _ _ _ _ _ fun b => by fin_cases b <;> simp
  simp only [mask_apply, hn]
  rw [e8]
  congr 1
  · funext j
    congr 1
    exact Finset.sum_congr rfl fun l _ => by rw [← e10, ← e11]
  · funext j
    exact e12 j c

/-- A pair's stored block holds the output at the indices it covers. -/
theorem piece_val (X8 : S8x128.Idx → EReal) (X10 : S2048x512.Idx → EReal) (X11 X12 : S4x2048x128.Idx → EReal)
    (k : Fin k0_t1_loop.trips) (p : Fin 4) {q0 st co s0 s1 h0 h1 : ℕ}
    (hq : q0 = 128 * k.val) (hst : st = startN k.val) (hco : co = 128 * p.val) (hs0 : s0 = 2 * (p.val / 2))
    (hs1 : s1 = 2 * (p.val / 2) + 1) (hh0 : h0 = 2 * p.val) (hh1 : h1 = 2 * p.val + 1) (i10 iK0 iK1 iV0 iV1 i80 i81 i9)
    (x : S128x128.Idx) :
    pair (F := Ideal) (mask k) (ldQ X10 ![q0, co] i10)
      (ldK X11 ![s0, st, 0] iK0) (ldK X11 ![s1, st, 0] iK1)
      (ldS X8 ![h0, 0] i80) (ldS X8 ![h1, 0] i81)
      (ldK X12 ![s0, st, 0] iV0) (ldK X12 ![s1, st, 0] iV1) x =
      outv X8 X10 X11 X12 ((Rect.unit (s := S2048x512) ![q0, co] ![128, 128] i9).emb x) := by
  have hk : k.val < 16 := trips_eq ▸ k.isLt
  obtain ⟨i, c, rfl⟩ : ∃ i c : Fin 128, x = ix2 i c := ⟨x 0, x 1, eq_ix2 x⟩
  rw [pair_apply, hd_val X8 X10 X11 X12 k ⟨k.val, hk⟩ rfl p 0 hq hst hco hs0 hh0,
    hd_val X8 X10 X11 X12 k ⟨k.val, hk⟩ rfl p 1 hq hst hco hs1 hh1]
  have h0 : ((Rect.unit (s := S2048x512) ![q0, co] ![128, 128] i9).emb (ix2 i c) 0).val = 128 * k.val + i.val :=
    (unit_emb _ _ i9 (ix2 i c) 0).trans (congrArg (· + i.val) hq)
  have h1 : ((Rect.unit (s := S2048x512) ![q0, co] ![128, 128] i9).emb (ix2 i c) 1).val = 128 * p.val + c.val :=
    (unit_emb _ _ i9 (ix2 i c) 1).trans (congrArg (· + c.val) hco)
  have a0 : (128 * k.val + i.val) / 128 = k.val := by omega
  have a1 : (128 * k.val + i.val) % 128 = i.val := by omega
  have b0 : (128 * p.val + c.val) / 128 = p.val := by omega
  have b1 : (128 * p.val + c.val) % 128 = c.val := by omega
  unfold outv
  simp only [h0, h1, a0, a1, b0, b1]

section
variable (v : Variants) (c : Dev nD) (b : Option v.V) (i : grid0.Coords)
  (arg1 : Memref sig .tc .vmem S2048x512 .f32) (harg1 : arg1.IsWhole)
  (arg2 : Memref sig .tc .vmem S2048x128 .f32) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S2048x128 .f32) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S8x128 .f32) (harg8 : arg8.IsWhole)
  (arg9 : Memref sig .tc .vmem S2048x512 .f32) (harg9 : arg9.IsWhole)
  (arg10 : Memref sig .tc .vmem S2048x512 .bf16) (harg10 : arg10.IsWhole)
  (arg11 : Memref sig .tc .vmem S4x2048x128 .bf16) (harg11 : arg11.IsWhole)
  (arg12 : Memref sig .tc .vmem S4x2048x128 .bf16) (harg12 : arg12.IsWhole)

theorem trip_pieces (X_arg8 : BufTy.Contents (Elt Ideal) arg8.view.ty) (X_arg10 : BufTy.Contents (Elt Ideal) arg10.view.ty)
    (X_arg11 : BufTy.Contents (Elt Ideal) arg11.view.ty) (X_arg12 : BufTy.Contents (Elt Ideal) arg12.view.ty)
    (k : Fin k0_t1_loop.trips) :
    ∀ pc ∈ tripL_k0_t1 v c b i arg1 harg1 arg2 harg2 arg3 harg3 arg4 harg4 arg5 harg5 arg6 harg6 arg7 harg7 arg8 harg8 arg9 harg9
      arg10 harg10 arg11 harg11 arg12 harg12 (iota .tc S128x384 32 [0] iota_S128x384_d0_w32)
      (iota .tc S128x384 32 [1] iota_S128x384_d1_w32) X_arg8 X_arg10 X_arg11 X_arg12 k,
    ∀ x : pc.1.shape.Idx, pc.2 x = outv (arg8.view.read (Elt Ideal) X_arg8) (arg10.view.read (Elt Ideal) X_arg10)
      (arg11.view.read (Elt Ideal) X_arg11) (arg12.view.read (Elt Ideal) X_arg12) (pc.1.emb x) := by
  unfold tripL_k0_t1 trip_k0_t1
  dsimp only
  sl_unfold_words
  simp only [View.readAt_eq_ld, List.forall_mem_cons]
  refine ⟨?_, ?_, ?_, ?_, fun _ h => absurd h List.not_mem_nil⟩
  · intro x
    rw [pay_pair3]
    exact piece_val _ _ _ _ k 3 (congrFun (off8_eq k) 0) (congrFun (off6_eq k) 1) rfl rfl rfl rfl rfl _ _ _ _ _ _ _ _ x
  · intro x
    rw [pay_pair2]
    exact piece_val _ _ _ _ k 2 (congrFun (off8_eq k) 0) (congrFun (off6_eq k) 1) rfl rfl rfl rfl rfl _ _ _ _ _ _ _ _ x
  · intro x
    rw [pay_pair1]
    exact piece_val _ _ _ _ k 1 (congrFun (off8_eq k) 0) (congrFun (off6_eq k) 1) rfl rfl rfl rfl rfl _ _ _ _ _ _ _ _ x
  · intro x
    rw [pay_pair0]
    exact piece_val _ _ _ _ k 0 (congrFun (off8_eq k) 0) (congrFun (off6_eq k) 1) rfl rfl rfl rfl rfl _ _ _ _ _ _ _ _ x
end

end Cert.KernelIdeal.Att

end
-- ==== Proof.Norm.lean ====
/-
  The kernel's norm and rotation of a slab of two heads, as an array, and its value at an index; and the two layouts
  in which the keys and the values are kept.
-/
module

public import proofs.«01_k».proof.Proof.Gen.KernelIdeal.Value
public import proofs.«01_k».proof.Proof.Math

@[expose] public section

set_option maxRecDepth 16384

noncomputable section

namespace Cert.KernelIdeal.Att

open Idealize.ShloMosaic Idealize.ShloMosaic.TcCoe Idealize.ShloMosaic.Tactic
open Cert.KernelIdeal Cert.KernelIdeal.Gen

variable {F : FTy → Type} [FloatOps F]

/-- The block diagonal of ones: two lanes of one head. -/
def bd : FVec F S128x128 .bf16 := k0_pay26 k0_pay21 k0_pay22 k0_pay23 k0_pay24 k0_pay25

/-- The lanes of the first half of their head. -/
def firstHalf : IVec S1x128 1 := k0_pay27 (iota .tc S1x128 32 [1] iota_S1x128_d1_w32)

/-- The slab normalised and scaled by its gains. -/
def slabNorm (x : FVec F S2048x128 .f32) (g : FVec F S1x128 .f32) : FVec F S2048x128 .f32 :=
  k0_pay36 bd x g

/-- The slab rotated, half of a head against the other. -/
def slabRot (y cos sin : FVec F S2048x128 .f32) : FVec F S2048x128 .f32 :=
  addf (mulf y cos) (mulf (select (broadcastTo S2048x128 (shapeCast S1x128 firstHalf shapeCasts_S1x128_S1x128)
    broadcasts_S1x128_S2048x128) (dynamicRotate 1 96#32 none y rotates_S2048x128_d1)
    (dynamicRotate 1 32#32 none y rotates_S2048x128_d1)) sin)

/-- A slab of queries as it is kept. -/
def slabQ (x : FVec F S2048x128 .f32) (g : FVec F S1x128 .f32) (cos sin : FVec F S2048x128 .f32) :
    FVec F S2048x128 .bf16 :=
  shapeCast S2048x128 (truncf .bf16 (slabRot (slabNorm x g) (shapeCast S2048x128 cos shapeCasts_S2048x128_S2048x128)
    (shapeCast S2048x128 sin shapeCasts_S2048x128_S2048x128)) bitsLt_bf16_f32) shapeCasts_S2048x128_S2048x128

section
variable (x cos sin : FVec F S2048x128 .f32) (g : FVec F S1x128 .f32)

theorem pay_slab0 : k0_pay35 (bd (F := F)) firstHalf (k0_pay28 cos) (k0_pay29 sin) x (k0_pay30 g) (k0_pay33 x)
    (k0_pay34 k0_pay21 k0_pay22 k0_pay23 k0_pay24 k0_pay25 x) = slabQ x g cos sin := rfl

theorem pay_slab1 : k0_pay38 firstHalf (k0_pay28 cos) (k0_pay29 sin) (k0_pay36 bd x g) (k0_pay37 bd x g) 32#32
    = slabQ x g cos sin := rfl

theorem pay_slab2 : k0_pay39 bd firstHalf (k0_pay28 cos) (k0_pay29 sin) x g = slabQ x g cos sin := rfl

theorem pay_slab3 : k0_pay40 bd firstHalf (k0_pay28 cos) (k0_pay29 sin) x g = slabQ x g cos sin := rfl

theorem pay_slabK : k0_pay43 firstHalf (k0_pay28 cos) (k0_pay29 sin) x (k0_pay41 g) (k0_pay42 bd x)
    (Scalar.ofBits .f32 1015021568#32) = slabRot (slabNorm x g) (shapeCast S2048x128 cos shapeCasts_S2048x128_S2048x128)
      (shapeCast S2048x128 sin shapeCasts_S2048x128_S2048x128) := rfl
end

/-! ### At the extended reals -/

/-- The head of a lane, as the kernel's words compute it. -/
def blk (r : Fin 128) : BitVec 32 :=
  Scalar.select
    (IntOp.andi
      (IntOp.cmpi CmpIPredicate.ne
        (IntOp.subi (BitVec.setWidth 32 (IntOp.cmpi CmpIPredicate.sgt (BitVec.ofNat 32 r.val) 0#32))
          (BitVec.setWidth 32 (IntOp.cmpi CmpIPredicate.slt (BitVec.ofNat 32 r.val) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 r.val) 64#32) 0#32))
    (IntOp.subi (IntOp.divsi ArithUnit.vector (BitVec.ofNat 32 r.val) 64#32) 1#32)
    (IntOp.divsi ArithUnit.vector (BitVec.ofNat 32 r.val) 64#32)

theorem blk_eq (r : Fin 128) : blk r = if r.val < 64 then 0#32 else 1#32 := by
  revert r; decide +kernel

/-- Two lanes are of one head, or not. -/
theorem bd_apply (r c : Fin 128) : (bd (F := Ideal)) (ix2 r c) = (if r.val / 64 = c.val / 64 then 1 else 0 : EReal) := by
  pointwise [bd, k0_pay26, k0_pay21, k0_pay22, k0_pay23, k0_pay24, k0_pay25]
  change Scalar.select (IntOp.cmpi CmpIPredicate.eq (blk r) (blk c)) (1 : EReal) 0 = _
  rw [blk_eq, blk_eq]
  by_cases h : r.val < 64 <;> by_cases h' : c.val < 64
  · rw [if_pos h, if_pos h', if_pos (by omega)]; rfl
  · rw [if_pos h, if_neg h', if_neg (by omega)]; rfl
  · rw [if_neg h, if_pos h', if_neg (by omega)]; rfl
  · rw [if_neg h, if_neg h', if_pos (by omega)]; rfl

theorem firstHalf_apply (c : Fin 128) : firstHalf (ix2 0 c) = if c.val % 64 < 32 then 1#1 else 0#1 := by
  pointwise [firstHalf, k0_pay27]
  revert c; decide +kernel

theorem slabNorm_apply (x : FVec Ideal S2048x128 .f32) (g : FVec Ideal S1x128 .f32) (t : Fin 2048) (c : Fin 128) :
    slabNorm x g (ix2 t c) = x (ix2 t c) * Ideal.rsqrt (((∑ r, x (ix2 t r) * x (ix2 t r) * (bd (F := Ideal) (ix2 r c) : EReal)) +
      (∑ r, (x (ix2 t r) * x (ix2 t r) - x (ix2 t r) * x (ix2 t r)) * (bd (F := Ideal) (ix2 r c) : EReal))) *
        Ideal.ofBits .f32 0x3C800000#32 + Ideal.ofBits .f32 0x358637BD#32) * g (ix2 0 c) := by
  pointwise [slabNorm, k0_pay36]

theorem slabRot_apply (y cos sin : FVec Ideal S2048x128 .f32) (t : Fin 2048) (c : Fin 128) :
    slabRot y cos sin (ix2 t c) = y (ix2 t c) * cos (ix2 t c) +
      (if c.val % 64 < 32 then y (ix2 t ⟨(c.val + 128 - 96) % 128, by omega⟩)
        else y (ix2 t ⟨(c.val + 128 - 32) % 128, by omega⟩)) * sin (ix2 t c) := by
  pointwise [slabRot]
  rw [firstHalf_apply]
  by_cases h : c.val % 64 < 32
  · rw [if_pos h, if_pos h]; rfl
  · rw [if_neg h, if_neg h]; rfl

/-- The vector of the lane's head in a row of a slab. -/
def hv (x : FVec Ideal S2048x128 .f32) (t : Fin 2048) (a : ℕ) (d : Fin 64) : EReal :=
  x (ix2 t ⟨(64 * a + d.val) % 128, by omega⟩)

variable {x cos sin : FVec Ideal S2048x128 .f32} {g : FVec Ideal S1x128 .f32} {t : Fin 2048}
  {G : Fin 64 → EReal} {C S : Fin 32 → EReal}

/-- A finite slab's normalised value: its head's normalised vector. -/
theorem slabNorm_eq (hx : ∀ c, Cert.Att.IsReal (x (ix2 t c)))
    (hg : ∀ c : Fin 128, g (ix2 0 c) = G ⟨c.val % 64, by omega⟩) (c : Fin 128) :
    slabNorm x g (ix2 t c) = Cert.Att.nrm (hv x t (c.val / 64)) G ⟨c.val % 64, by omega⟩ := by
  have hlo : (∑ r, (x (ix2 t r) * x (ix2 t r) - x (ix2 t r) * x (ix2 t r)) * (bd (F := Ideal) (ix2 r c) : EReal)) = 0 :=
    Finset.sum_eq_zero fun r _ => by rw [((hx r).mul (hx r)).sub_self, zero_mul]
  have hhi : (∑ r, x (ix2 t r) * x (ix2 t r) * (bd (F := Ideal) (ix2 r c) : EReal)) =
      ∑ d, hv x t (c.val / 64) d * hv x t (c.val / 64) d := by
    have hs := Cert.Att.sum_heads (fun r => x (ix2 t r) * x (ix2 t r)) (c.val / 64) (by omega)
    have hm : ∀ d : Fin 64, (64 * (c.val / 64) + d.val) % 128 = 64 * (c.val / 64) + d.val := fun d => by omega
    simp only [hv, hm]
    rw [← hs]
    refine Finset.sum_congr rfl fun r _ => ?_
    rw [bd_apply]
    split
    · rw [mul_one]
    · rw [mul_zero]
  rw [slabNorm_apply, hlo, hhi, add_zero, hg, Cert.Att.nrm, Cert.Att.inv_eq]
  congr 2
  rw [hv]
  congr 2
  exact Fin.ext (by simp only; omega)

/-- A finite slab's rotated value: its head's rotated vector. -/
theorem slab_eq (hx : ∀ c, Cert.Att.IsReal (x (ix2 t c)))
    (hg : ∀ c : Fin 128, g (ix2 0 c) = G ⟨c.val % 64, by omega⟩)
    (hcos : ∀ c : Fin 128, cos (ix2 t c) = C ⟨c.val % 32, by omega⟩)
    (hsin : ∀ c : Fin 128, sin (ix2 t c) = if c.val % 64 < 32 then -S ⟨c.val % 32, by omega⟩ else S ⟨c.val % 32, by omega⟩)
    (c : Fin 128) : slabRot (slabNorm x g) cos sin (ix2 t c) =
      Cert.Att.rot (hv x t (c.val / 64)) G C S ⟨c.val % 64, by omega⟩ := by
  rw [slabRot_apply, Cert.Att.rot_eq, hcos, hsin, slabNorm_eq hx hg, slabNorm_eq hx hg, slabNorm_eq hx hg]
  have h1 : c.val % 64 % 32 = c.val % 32 := by omega
  by_cases h : c.val % 64 < 32
  · have h2 : (c.val + 128 - 96) % 128 / 64 = c.val / 64 := by omega
    have h3 : (c.val + 128 - 96) % 128 % 64 = (c.val % 64 + 32) % 64 := by omega
    simp only [if_pos h, h1, h2, h3]
  · have h2 : (c.val + 128 - 32) % 128 / 64 = c.val / 64 := by omega
    have h3 : (c.val + 128 - 32) % 128 % 64 = (c.val % 64 + 32) % 64 := by omega
    simp only [if_neg h, h1, h2, h3]

end Cert.KernelIdeal.Att

end
-- ==== Proof.Keep.lean ====
/-
  What the kernel keeps between its two parts: the queries, column by column, and the keys and the values in four
  copies, each with the lanes of one head and zeros beside them.
-/
module

public import proofs.«01_k».proof.Proof.Trip
public import proofs.«01_k».proof.Proof.Norm

@[expose] public section

set_option maxRecDepth 16384

noncomputable section

namespace Cert.KernelIdeal.Att

open Idealize.ShloMosaic Idealize.ShloMosaic.TcCoe Idealize.ShloMosaic.Tactic
open Cert.KernelIdeal Cert.KernelIdeal.Gen

/-- The four copies: copy `2k + a` has head `k` in lanes `64a …` and zeros in the others. -/
def slot (val : S2048x128.Idx → EReal) (y : S4x2048x128.Idx) : EReal :=
  if (y 2).val / 64 = (y 0).val % 2 then val (ix2 ⟨(y 1).val, (y 1).isLt⟩
    ⟨64 * ((y 0).val / 2) + (y 2).val % 64, by have : (y 0).val < 4 := (y 0).isLt; omega⟩) else 0

theorem slot_apply (val : S2048x128.Idx → EReal) (s : Fin 4) (t : Fin 2048) (c : Fin 128) : slot val (ix3 s t c) =
    if c.val / 64 = s.val % 2 then val (ix2 t ⟨64 * (s.val / 2) + c.val % 64, by omega⟩) else 0 := rfl

/-- The lanes of the left head. -/
abbrev left : IVec S1x128 1 := k0_pay44 (iota .tc S1x128 32 [1] iota_S1x128_d1_w32)

theorem left_apply (c : Fin 128) : left (ix2 0 c) = if c.val < 64 then 1#1 else 0#1 := by
  pointwise [left, k0_pay44]
  revert c; decide +kernel

/-- A copy's rows in the array of the four. -/
theorem slot_emb (val : S2048x128.Idx → EReal) {s : ℕ} (hs : s < 4) (inb : ∀ a, ![s, 0, 0] a + S1x2048x128.size a ≤ S4x2048x128.size a)
    (t : Fin 2048) (c : Fin 128) : slot val ((Rect.unit (s := S4x2048x128) ![s, 0, 0] S1x2048x128.size inb).emb (ix3 0 t c)) =
      slot val (ix3 ⟨s, hs⟩ t c) :=
  congrArg (slot val) (funext fun a => Fin.ext ((unit_emb _ _ inb (ix3 0 t c) a).trans (by fin_cases a <;> simp)))

section
variable (val : FVec Ideal S2048x128 .f32) (x : S1x2048x128.Idx)

theorem keep0 (inb) : k0_pay52 (F := Ideal) left val x =
    slot val ((Rect.unit (s := S4x2048x128) ![0, 0, 0] S1x2048x128.size inb).emb x) := by
  obtain ⟨o, t, c, rfl⟩ : ∃ (o : Fin 1) (t : Fin 2048) (c : Fin 128), x = ix3 o t c := ⟨x 0, x 1, x 2, eq_ix3 x⟩
  obtain rfl : o = 0 := Subsingleton.elim _ _
  rw [slot_emb val (by omega), slot_apply]
  pointwise [k0_pay52]
  rw [left_apply]
  have hc : c.val < 128 := c.isLt
  by_cases h : c.val < 64
  · rw [if_pos h]
    refine Eq.trans ?_ (if_pos ?_).symm
    · exact congrArg val (congrArg (ix2 t) (Fin.ext (by simp only; omega)))
    · omega
  · rw [if_neg h]
    refine Eq.trans ?_ (if_neg ?_).symm
    · rfl
    · omega

theorem keep1 (inb) : k0_pay53 (F := Ideal) left val x =
    slot val ((Rect.unit (s := S4x2048x128) ![1, 0, 0] S1x2048x128.size inb).emb x) := by
  obtain ⟨o, t, c, rfl⟩ : ∃ (o : Fin 1) (t : Fin 2048) (c : Fin 128), x = ix3 o t c := ⟨x 0, x 1, x 2, eq_ix3 x⟩
  obtain rfl : o = 0 := Subsingleton.elim _ _
  rw [slot_emb val (by omega), slot_apply]
  pointwise [k0_pay53, k0_pay51]
  rw [left_apply]
  have hc : c.val < 128 := c.isLt
  by_cases h : c.val < 64
  · rw [if_pos h]
    refine Eq.trans ?_ (if_neg ?_).symm
    · rfl
    · omega
  · rw [if_neg h]
    refine Eq.trans ?_ (if_pos ?_).symm
    · exact congrArg val (congrArg (ix2 t) (Fin.ext (by simp only; omega)))
    · omega

theorem keep2 (inb) : k0_pay54 (F := Ideal) left val x =
    slot val ((Rect.unit (s := S4x2048x128) ![2, 0, 0] S1x2048x128.size inb).emb x) := by
  obtain ⟨o, t, c, rfl⟩ : ∃ (o : Fin 1) (t : Fin 2048) (c : Fin 128), x = ix3 o t c := ⟨x 0, x 1, x 2, eq_ix3 x⟩
  obtain rfl : o = 0 := Subsingleton.elim _ _
  rw [slot_emb val (by omega), slot_apply]
  pointwise [k0_pay54, k0_pay51]
  rw [left_apply]
  have hc : c.val < 128 := c.isLt
  by_cases h : c.val < 64
  · rw [if_pos h]
    refine Eq.trans ?_ (if_pos ?_).symm
    · exact congrArg val (congrArg (ix2 t) (Fin.ext (by simp only; omega)))
    · omega
  · rw [if_neg h]
    refine Eq.trans ?_ (if_neg ?_).symm
    · rfl
    · omega

theorem keep3 (inb) : k0_pay1 (F := Ideal) left val x =
    slot val ((Rect.unit (s := S4x2048x128) ![3, 0, 0] S1x2048x128.size inb).emb x) := by
  obtain ⟨o, t, c, rfl⟩ : ∃ (o : Fin 1) (t : Fin 2048) (c : Fin 128), x = ix3 o t c := ⟨x 0, x 1, x 2, eq_ix3 x⟩
  obtain rfl : o = 0 := Subsingleton.elim _ _
  rw [slot_emb val (by omega), slot_apply]
  pointwise [k0_pay1]
  rw [left_apply]
  have hc : c.val < 128 := c.isLt
  by_cases h : c.val < 64
  · rw [if_pos h]
    refine Eq.trans ?_ (if_neg ?_).symm
    · rfl
    · omega
  · rw [if_neg h]
    refine Eq.trans ?_ (if_pos ?_).symm
    · exact congrArg val (congrArg (ix2 t) (Fin.ext (by simp only; omega)))
    · omega
end

/-- The keys as they are kept: rotated. -/
abbrev keyK (x cos sin : FVec Ideal S2048x128 .f32) (g : FVec Ideal S1x128 .f32) : FVec Ideal S2048x128 .f32 :=
  slabRot (slabNorm x g) cos sin

theorem cast_self (x : FVec Ideal S2048x128 .f32) : shapeCast S2048x128 x shapeCasts_S2048x128_S2048x128 = x := by
  funext z
  obtain ⟨t, c, rfl⟩ : ∃ (t : Fin 2048) (c : Fin 128), z = ix2 t c := ⟨z 0, z 1, eq_ix2 z⟩
  pointwise

section
variable (x cos sin : FVec Ideal S2048x128 .f32) (g : FVec Ideal S1x128 .f32)

theorem slabQ_eq (z : S2048x128.Idx) : slabQ x g cos sin z = slabRot (slabNorm x g) cos sin z := by
  obtain ⟨t, c, rfl⟩ : ∃ (t : Fin 2048) (c : Fin 128), z = ix2 t c := ⟨z 0, z 1, eq_ix2 z⟩
  unfold slabQ
  rw [cast_self, cast_self]
  pointwise

/-- The kept keys' values before they are copied. -/
theorem key_eq : k0_pay43 firstHalf (k0_pay28 cos) (k0_pay29 sin) x (k0_pay41 g) (k0_pay42 bd x)
    (Scalar.ofBits .f32 1015021568#32) = keyK x cos sin g := by
  rw [pay_slabK, cast_self, cast_self]

theorem key0 : k0_pay46 (iota .tc S1x128 32 [1] iota_S1x128_d1_w32) firstHalf (k0_pay28 cos) (k0_pay29 sin) x (k0_pay41 g)
    (k0_pay42 bd x) (Scalar.ofBits .f32 1015021568#32) = k0_pay52 (F := Ideal) left (keyK x cos sin g) := by
  rw [← key_eq]; rfl

theorem key1 : k0_pay47 (iota .tc S1x128 32 [1] iota_S1x128_d1_w32) firstHalf (k0_pay28 cos) (k0_pay29 sin) x (k0_pay41 g)
    (k0_pay42 bd x) (Scalar.ofBits .f32 1015021568#32) = k0_pay53 (F := Ideal) left (keyK x cos sin g) := by
  rw [← key_eq]; rfl

theorem key2 : k0_pay49 (k0_pay48 (iota .tc S1x128 32 [1] iota_S1x128_d1_w32) firstHalf (k0_pay28 cos) (k0_pay29 sin) x
    (k0_pay41 g) (k0_pay42 bd x) (Scalar.ofBits .f32 1015021568#32)) = k0_pay54 (F := Ideal) left (keyK x cos sin g) := by
  rw [← key_eq]; rfl

theorem key3 : k0_pay50 (k0_pay43 firstHalf (k0_pay28 cos) (k0_pay29 sin) x (k0_pay41 g) (k0_pay42 bd x)
    (Scalar.ofBits .f32 1015021568#32)) left = k0_pay1 (F := Ideal) left (keyK x cos sin g) := by
  rw [← key_eq]; rfl
end

end Cert.KernelIdeal.Att

end
-- ==== Proof.Run.lean ====
/-
  One run of the kernel's body: the block it stores, index by index.
-/
module

public import proofs.«01_k».proof.Proof.Keep

@[expose] public section

set_option maxRecDepth 16384

noncomputable section

namespace Cert.KernelIdeal.Att

open Idealize.ShloMosaic Idealize.ShloMosaic.TcCoe Idealize.ShloMosaic.Tactic
open Cert.KernelIdeal Cert.KernelIdeal.Gen

/-- A slab of two heads of the queries. -/
def slabX (x0 : S2048x512.Idx → EReal) (p : Fin 4) : FVec Ideal S2048x128 .f32 := fun z =>
  x0 (ix2 ⟨(z 0).val, (z 0).isLt⟩ ⟨128 * p.val + (z 1).val, by have : (z 1).val < 128 := (z 1).isLt; omega⟩)

/-- The queries as they are kept. -/
def keptQ (x0 : S2048x512.Idx → EReal) (cos sin : FVec Ideal S2048x128 .f32) (g : FVec Ideal S1x128 .f32)
    (y : S2048x512.Idx) : EReal :=
  slabQ (slabX x0 ⟨(y 1).val / 128, by have : (y 1).val < 512 := (y 1).isLt; omega⟩) g cos sin
    (ix2 ⟨(y 0).val, (y 0).isLt⟩ ⟨(y 1).val % 128, by omega⟩)

/-- A slab's rows in the array of the kept queries. -/
theorem keptQ_emb (x0 : S2048x512.Idx → EReal) (cos sin : FVec Ideal S2048x128 .f32) (g : FVec Ideal S1x128 .f32)
    (p : Fin 4) {co : ℕ} (hco : co = 128 * p.val) (inb : ∀ a, ![0, co] a + S2048x128.size a ≤ S2048x512.size a)
    (x : S2048x128.Idx) : slabQ (slabX x0 p) g cos sin x =
      keptQ x0 cos sin g ((Rect.unit (s := S2048x512) ![0, co] S2048x128.size inb).emb x) := by
  obtain ⟨t, c, rfl⟩ : ∃ (t : Fin 2048) (c : Fin 128), x = ix2 t c := ⟨x 0, x 1, eq_ix2 x⟩
  have h0 : ((Rect.unit (s := S2048x512) ![0, co] S2048x128.size inb).emb (ix2 t c) 0).val = t.val :=
    (unit_emb (S := S2048x512) ![0, co] S2048x128.size inb (ix2 t c) 0).trans (Nat.zero_add _)
  have h1 : ((Rect.unit (s := S2048x512) ![0, co] S2048x128.size inb).emb (ix2 t c) 1).val = 128 * p.val + c.val :=
    (unit_emb (S := S2048x512) ![0, co] S2048x128.size inb (ix2 t c) 1).trans (congrArg (· + c.val) hco)
  have b0 : (128 * p.val + c.val) / 128 = p.val := by omega
  have b1 : (128 * p.val + c.val) % 128 = c.val := by omega
  unfold keptQ
  simp only [h0, h1, b0, b1]

theorem ld_slabX (x0 : S2048x512.Idx → EReal) (p : Fin 4) {co : ℕ} (hco : co = 128 * p.val) (inb : ∀ a, ![0, co] a + S2048x128.size a ≤ S2048x512.size a) :
    View.ld (Val := Elt Ideal) (e' := .f32) x0 (Rect.unit (s := S2048x512) ![0, co] ![2048, 128] inb) = slabX x0 p := by
  funext z
  refine ld_at _ _ _ _ _ _ fun a => ?_
  subst hco
  fin_cases a
  · exact Nat.zero_add _
  · rfl

theorem ld_all {m n : ℕ} {e : EltTy} (x : (⟨2, ![m, n]⟩ : Shape).Idx → Elt Ideal e) (inb) :
    View.ld (Val := Elt Ideal) (e' := e) x (Rect.unit (s := ⟨2, ![m, n]⟩) ![0, 0] ![m, n] inb) = x := by
  funext z
  refine ld_at _ _ _ _ _ _ fun a => ?_
  fin_cases a <;> exact Nat.zero_add _

/-- The four copies cover their array. -/
theorem slots_cover (y : S4x2048x128.Idx) {i3 i2 i1 i0}
    {w3 w2 w1 w0 : S1x2048x128.Idx → Elt Ideal .bf16} :
    ∃ p ∈ ([⟨Rect.unit (s := S4x2048x128) ![3, 0, 0] ![1, 2048, 128] i3, w3⟩, ⟨Rect.unit (s := S4x2048x128) ![2, 0, 0] ![1, 2048, 128] i2, w2⟩,
      ⟨Rect.unit (s := S4x2048x128) ![1, 0, 0] ![1, 2048, 128] i1, w1⟩, ⟨Rect.unit (s := S4x2048x128) ![0, 0, 0] ![1, 2048, 128] i0, w0⟩] :
      List (View.Piece (Elt Ideal) S4x2048x128 .bf16)), y ∈ p.1.set := by
  have hy0 : (y 0).val < 4 := (y 0).isLt
  have hy1 : (y 1).val < 2048 := (y 1).isLt
  have hy2 : (y 2).val < 128 := (y 2).isLt
  simp only [List.exists_mem_cons_iff, Rect.mem_set_unit]
  rcases (by omega : (y 0).val = 3 ∨ (y 0).val = 2 ∨ (y 0).val = 1 ∨ (y 0).val = 0) with h | h | h | h
  · refine Or.inl fun a => ?_
    fin_cases a <;> simp <;> omega
  · refine Or.inr (Or.inl fun a => ?_)
    fin_cases a <;> simp <;> omega
  · refine Or.inr (Or.inr (Or.inl fun a => ?_))
    fin_cases a <;> simp <;> omega
  · refine Or.inr (Or.inr (Or.inr (Or.inl fun a => ?_)))
    fin_cases a <;> simp <;> omega

section
variable (c : Dev nD) (i : grid0.Coords)
  (arg1 : Memref sig .tc .vmem S2048x512 .f32) (harg1 : arg1.IsWhole)
  (arg2 : Memref sig .tc .vmem S2048x128 .f32) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S2048x128 .f32) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S8x128 .f32) (harg8 : arg8.IsWhole)
  (arg9 : Memref sig .tc .vmem S2048x512 .f32) (harg9 : arg9.IsWhole)
  (arg10 : Memref sig .tc .vmem S2048x512 .bf16) (harg10 : arg10.IsWhole)
  (arg11 : Memref sig .tc .vmem S4x2048x128 .bf16) (harg11 : arg11.IsWhole)
  (arg12 : Memref sig .tc .vmem S4x2048x128 .bf16) (harg12 : arg12.IsWhole)

/-- Every block stored by the first `n` trips holds the output at the indices it covers. -/
theorem pb_pieces (v : Variants) (b : Option v.V) (X_arg8 : BufTy.Contents (Elt Ideal) arg8.view.ty)
    (X_arg10 : BufTy.Contents (Elt Ideal) arg10.view.ty) (X_arg11 : BufTy.Contents (Elt Ideal) arg11.view.ty)
    (X_arg12 : BufTy.Contents (Elt Ideal) arg12.view.ty) {A8 A10 A11 A12}
    (h8 : arg8.view.read (Elt Ideal) X_arg8 = A8) (h10 : arg10.view.read (Elt Ideal) X_arg10 = A10)
    (h11 : arg11.view.read (Elt Ideal) X_arg11 = A11) (h12 : arg12.view.read (Elt Ideal) X_arg12 = A12) (n : ℕ)
    (hn : n ≤ k0_t1_loop.trips) :
    ∀ pc ∈ pb_k0_t1 v c b i arg1 harg1 arg2 harg2 arg3 harg3 arg4 harg4 arg5 harg5 arg6 harg6 arg7 harg7 arg8 harg8 arg9 harg9
      arg10 harg10 arg11 harg11 arg12 harg12 (iota .tc S128x384 32 [0] iota_S128x384_d0_w32)
      (iota .tc S128x384 32 [1] iota_S128x384_d1_w32) X_arg8 X_arg10 X_arg11 X_arg12 n,
    ∀ x : pc.1.shape.Idx, pc.2 x = outv A8 A10 A11 A12 (pc.1.emb x) := by
  subst h8 h10 h11 h12
  induction n with
  | zero => exact fun _ h => absurd h List.not_mem_nil
  | succ n ih =>
    rw [show n + 1 = (⟨n, hn⟩ : Fin k0_t1_loop.trips).val + 1 from rfl, pb_k0_t1_succ]
    intro pc hpc
    rcases List.mem_append.mp hpc with h | h
    · exact trip_pieces v c b i arg1 harg1 arg2 harg2 arg3 harg3 arg4 harg4 arg5 harg5 arg6 harg6 arg7 harg7 arg8 harg8 arg9 harg9
        arg10 harg10 arg11 harg11 arg12 harg12 X_arg8 X_arg10 X_arg11 X_arg12 ⟨n, hn⟩ pc h
    · exact ih (Nat.le_of_succ_le hn) pc h

variable (x0 : Vec Ideal S2048x512 .f32) (x1 : Vec Ideal S2048x128 .f32) (x2 : Vec Ideal S2048x128 .f32)
  (x3 : Vec Ideal S2048x128 .f32) (x4 : Vec Ideal S2048x128 .f32) (x5 : Vec Ideal S1x128 .f32) (x6 : Vec Ideal S1x128 .f32)
  (x7 : Vec Ideal S8x128 .f32)

/-- Every block stored by the body holds the output at the indices it covers. -/
theorem run_pieces : ∀ pc ∈ (kernelRun0_A c i arg1 harg1 arg2 harg2 arg3 harg3 arg4 harg4 arg5 harg5 arg6 harg6 arg7 harg7
      arg8 harg8 arg9 harg9 arg10 harg10 arg11 harg11 arg12 harg12 x0 x1 x2 x3 x4 x5 x6 x7).1,
    ∀ x : pc.1.shape.Idx, pc.2 x = outv x7 (keptQ x0 x3 x4 x5) (slot (keyK x1 x3 x4 x6)) (slot x2) (pc.1.emb x) := by
  unfold kernelRun0_A
  dsimp only
  sl_unfold_words
  simp only [View.readAt_eq_ld, harg1.read_unread, harg2.read_unread, harg3.read_unread, harg4.read_unread, harg5.read_unread,
    harg6.read_unread, harg7.read_unread, harg8.read_unread]
  refine pb_pieces c i arg1 harg1 arg2 harg2 arg3 harg3 arg4 harg4 arg5 harg5 arg6 harg6 arg7 harg7 arg8 harg8 arg9 harg9
    arg10 harg10 arg11 harg11 arg12 harg12 _ _ _ _ _ _ (harg8.read_unread _) ?_ ?_ ?_ _ (by decide)
  · funext y
    have hy0 : (y 0).val < 2048 := (y 0).isLt
    have hy1 : (y 1).val < 512 := (y 1).isLt
    refine View.read_writes_apply_of_pieces _ _ _ _ ?_ y ?_
    · simp only [List.forall_mem_cons]
      refine ⟨?_, ?_, ?_, ?_, fun _ h => absurd h List.not_mem_nil⟩
      all_goals intro x
      · exact (congrFun (pay_slab3 _ _ _ _) x).trans (by
          rw [ld_all, ld_all, ld_all, ld_slabX x0 3 (co := 384) rfl]; exact keptQ_emb x0 x3 x4 x5 3 (co := 384) rfl _ x)
      · exact (congrFun (pay_slab2 _ _ _ _) x).trans (by
          rw [ld_all, ld_all, ld_all, ld_slabX x0 2 (co := 256) rfl]; exact keptQ_emb x0 x3 x4 x5 2 (co := 256) rfl _ x)
      · exact (congrFun (pay_slab1 _ _ _ _) x).trans (by
          rw [ld_all, ld_all, ld_all, ld_slabX x0 1 (co := 128) rfl]; exact keptQ_emb x0 x3 x4 x5 1 (co := 128) rfl _ x)
      · exact (congrFun (pay_slab0 _ _ _ _) x).trans (by
          rw [ld_all, ld_all, ld_all, ld_slabX x0 0 (co := 0) rfl]; exact keptQ_emb x0 x3 x4 x5 0 (co := 0) rfl _ x)
    · simp only [List.exists_mem_cons_iff, Rect.mem_set_unit]
      rcases (by omega : (y 1).val / 128 = 3 ∨ (y 1).val / 128 = 2 ∨ (y 1).val / 128 = 1 ∨ (y 1).val / 128 = 0) with
        h | h | h | h
      · refine Or.inl fun a => ?_
        fin_cases a <;> simp <;> omega
      · refine Or.inr (Or.inl fun a => ?_)
        fin_cases a <;> simp <;> omega
      · refine Or.inr (Or.inr (Or.inl fun a => ?_))
        fin_cases a <;> simp <;> omega
      · refine Or.inr (Or.inr (Or.inr (Or.inl fun a => ?_)))
        fin_cases a <;> simp <;> omega
  · funext y
    refine View.read_writes_apply_of_pieces _ _ _ _ ?_ y ?_
    · simp only [List.forall_mem_cons]
      refine ⟨?_, ?_, ?_, ?_, fun _ h => absurd h List.not_mem_nil⟩
      all_goals intro x
      · exact (congrFun (key3 _ _ _ _) x).trans (by rw [ld_all, ld_all, ld_all, ld_all]; exact keep3 _ x _)
      · exact (congrFun (key2 _ _ _ _) x).trans (by rw [ld_all, ld_all, ld_all, ld_all]; exact keep2 _ x _)
      · exact (congrFun (key1 _ _ _ _) x).trans (by rw [ld_all, ld_all, ld_all, ld_all]; exact keep1 _ x _)
      · exact (congrFun (key0 _ _ _ _) x).trans (by rw [ld_all, ld_all, ld_all, ld_all]; exact keep0 _ x _)
    · exact slots_cover y
  · funext y
    refine View.read_writes_apply_of_pieces _ _ _ _ ?_ y ?_
    · simp only [List.forall_mem_cons]
      refine ⟨?_, ?_, ?_, ?_, fun _ h => absurd h List.not_mem_nil⟩
      all_goals intro x
      · rw [ld_all]; exact keep3 x2 x _
      · rw [ld_all]; exact keep2 x2 x _
      · rw [ld_all]; exact keep1 x2 x _
      · rw [ld_all]; exact keep0 x2 x _
    · exact slots_cover y
/-- The block the body stores, at an index. -/
theorem out_apply (y : S2048x512.Idx) : out0_A_8 c i arg1 harg1 arg2 harg2 arg3 harg3 arg4 harg4 arg5 harg5 arg6 harg6 arg7 harg7
      arg8 harg8 arg9 harg9 arg10 harg10 arg11 harg11 arg12 harg12 x0 x1 x2 x3 x4 x5 x6 x7 y =
    outv x7 (keptQ x0 x3 x4 x5) (slot (keyK x1 x3 x4 x6)) (slot x2) y :=
  View.read_writes_apply_of_pieces VO0_8 _ _ _ (run_pieces c i arg1 harg1 arg2 harg2 arg3 harg3 arg4 harg4 arg5 harg5 arg6 harg6
    arg7 harg7 arg8 harg8 arg9 harg9 arg10 harg10 arg11 harg11 arg12 harg12 x0 x1 x2 x3 x4 x5 x6 x7) y
    (cover0_A_8 c i arg1 harg1 arg2 harg2 arg3 harg3 arg4 harg4 arg5 harg5 arg6 harg6
    arg7 harg7 arg8 harg8 arg9 harg9 arg10 harg10 arg11 harg11 arg12 harg12 x0 x1 x2 x3 x4 x5 x6 x7 y)
end

end Cert.KernelIdeal.Att

end
-- ==== Proof.Out.lean ====
/-
  The block the kernel's body stores, as the attention of each head over its window.
-/
module

public import proofs.«01_k».proof.Proof.Run

@[expose] public section

set_option maxRecDepth 16384

noncomputable section

namespace Cert.KernelIdeal.Att

open Idealize.ShloMosaic Idealize.ShloMosaic.TcCoe Idealize.ShloMosaic.Tactic
open Cert.KernelIdeal Cert.KernelIdeal.Gen

section
variable {x0 : S2048x512.Idx → EReal} {x1 x2 cos sin : S2048x128.Idx → EReal} {gq gk : S1x128.Idx → EReal}
  {x7 : S8x128.Idx → EReal} {GQ GK : Fin 64 → EReal} {C S : Fin 2048 → Fin 32 → EReal} {sk : Fin 8 → EReal}

/-- The kept queries of a head: its vector, rotated. -/
theorem keptQ_eq (hx : ∀ y, Cert.Att.IsReal (x0 y)) (hg : ∀ c : Fin 128, gq (ix2 0 c) = GQ ⟨c.val % 64, by omega⟩)
    (hcos : ∀ (t : Fin 2048) (c : Fin 128), cos (ix2 t c) = C t ⟨c.val % 32, by omega⟩)
    (hsin : ∀ (t : Fin 2048) (c : Fin 128), sin (ix2 t c) =
      if c.val % 64 < 32 then -S t ⟨c.val % 32, by omega⟩ else S t ⟨c.val % 32, by omega⟩)
    (t : Fin 2048) (h : Fin 8) (d : Fin 64) (col : Fin 512) (hcol : col.val = 64 * h.val + d.val) :
    keptQ x0 cos sin gq (ix2 t col) =
      Cert.Att.rot (fun e => x0 (ix2 t ⟨64 * h.val + e.val, by omega⟩)) GQ (C t) (S t) d := by
  unfold keptQ
  rw [slabQ_eq]
  refine (slab_eq (G := GQ) (C := C t) (S := S t) (fun c => hx _) hg (fun c => hcos t c) (fun c => hsin t c) _).trans ?_
  have e : hv (slabX x0 ⟨col.val / 128, by omega⟩) t (col.val % 128 / 64) =
      fun e : Fin 64 => x0 (ix2 t ⟨64 * h.val + e.val, by omega⟩) := by
    funext e
    exact congrArg x0 (congrArg (ix2 t) (Fin.ext (show 128 * (col.val / 128) + (64 * (col.val % 128 / 64) + e.val) % 128 = _ by
      simp only; omega)))
  have e' : (⟨col.val % 128 % 64, by omega⟩ : Fin 64) = d := Fin.ext (by simp only; omega)
  exact congrArg₂ (fun u w => Cert.Att.rot u GQ (C t) (S t) w) e e'

/-- The kept keys of a head: its vector, rotated. -/
theorem keyK_eq (hx : ∀ y, Cert.Att.IsReal (x1 y)) (hg : ∀ c : Fin 128, gk (ix2 0 c) = GK ⟨c.val % 64, by omega⟩)
    (hcos : ∀ (t : Fin 2048) (c : Fin 128), cos (ix2 t c) = C t ⟨c.val % 32, by omega⟩)
    (hsin : ∀ (t : Fin 2048) (c : Fin 128), sin (ix2 t c) =
      if c.val % 64 < 32 then -S t ⟨c.val % 32, by omega⟩ else S t ⟨c.val % 32, by omega⟩)
    (t : Fin 2048) (g : Fin 2) (d : Fin 64) (col : Fin 128) (hcol : col.val = 64 * g.val + d.val) :
    keyK x1 cos sin gk (ix2 t col) =
      Cert.Att.rot (fun e => x1 (ix2 t ⟨64 * g.val + e.val, by omega⟩)) GK (C t) (S t) d := by
  refine (slab_eq (G := GK) (C := C t) (S := S t) (fun c => hx _) hg (fun c => hcos t c) (fun c => hsin t c) _).trans ?_
  have e : hv x1 t (col.val / 64) = fun e : Fin 64 => x1 (ix2 t ⟨64 * g.val + e.val, by omega⟩) := by
    funext e
    exact congrArg x1 (congrArg (ix2 t) (Fin.ext (show (64 * (col.val / 64) + e.val) % 128 = _ by simp only; omega)))
  have e' : (⟨col.val % 64, by omega⟩ : Fin 64) = d := Fin.ext (by simp only; omega)
  exact congrArg₂ (fun u w => Cert.Att.rot u GK (C t) (S t) w) e e'

theorem outv_ix2 (X8 : S8x128.Idx → EReal) (X10 : S2048x512.Idx → EReal) (X11 X12 : S4x2048x128.Idx → EReal)
    (r : Fin 2048) (c : Fin 512) : outv X8 X10 X11 X12 (ix2 r c) =
      headv X8 X10 X11 X12 ⟨r.val / 128, by omega⟩ ⟨c.val / 128, by omega⟩ 0 ⟨r.val % 128, by omega⟩ ⟨c.val % 128, by omega⟩ +
      headv X8 X10 X11 X12 ⟨r.val / 128, by omega⟩ ⟨c.val / 128, by omega⟩ 1 ⟨r.val % 128, by omega⟩ ⟨c.val % 128, by omega⟩ :=
  rfl

/-- The stored block at a query and a lane of a head: the attention of that head over the query's window. -/
theorem out_head (hq : ∀ y, Cert.Att.IsReal (x0 y)) (hk : ∀ y, Cert.Att.IsReal (x1 y))
    (hgq : ∀ c : Fin 128, gq (ix2 0 c) = GQ ⟨c.val % 64, by omega⟩)
    (hgk : ∀ c : Fin 128, gk (ix2 0 c) = GK ⟨c.val % 64, by omega⟩)
    (hcos : ∀ (t : Fin 2048) (c : Fin 128), cos (ix2 t c) = C t ⟨c.val % 32, by omega⟩)
    (hsin : ∀ (t : Fin 2048) (c : Fin 128), sin (ix2 t c) =
      if c.val % 64 < 32 then -S t ⟨c.val % 32, by omega⟩ else S t ⟨c.val % 32, by omega⟩)
    (hsk : ∀ h : Fin 8, x7 (ix2 h 0) = sk h) (n : Fin 16) (i : Fin 128) (h : Fin 8) (d : Fin 64) :
    outv x7 (keptQ x0 cos sin gq) (slot (keyK x1 cos sin gk)) (slot x2)
      (ix2 ⟨128 * n.val + i.val, by omega⟩ ⟨64 * h.val + d.val, by omega⟩) =
    Cert.Att.att (okN n.val i)
      (fun j => (∑ e : Fin 64,
        Cert.Att.rot (fun e => x0 (ix2 ⟨128 * n.val + i.val, by omega⟩ ⟨64 * h.val + e.val, by omega⟩)) GQ
            (C ⟨128 * n.val + i.val, by omega⟩) (S ⟨128 * n.val + i.val, by omega⟩) e *
          Cert.Att.rot (fun e => x1 (ix2 ⟨startN n.val + j.val, by have := startN_le n.val; omega⟩ ⟨64 * (h.val / 4) + e.val, by omega⟩)) GK
            (C ⟨startN n.val + j.val, by have := startN_le n.val; omega⟩)
            (S ⟨startN n.val + j.val, by have := startN_le n.val; omega⟩) e) * Ideal.ofBits .f32 0x3E000000#32)
      (sk h)
      (fun j => x2 (ix2 ⟨startN n.val + j.val, by have := startN_le n.val; omega⟩ ⟨64 * (h.val / 4) + d.val, by omega⟩)) := by
  have hst := startN_le n.val
  have r0 : (128 * n.val + i.val) / 128 = n.val := by omega
  have r1 : (128 * n.val + i.val) % 128 = i.val := by omega
  have c0 : (64 * h.val + d.val) / 128 = h.val / 2 := by omega
  have c1 : (64 * h.val + d.val) % 128 = 64 * (h.val % 2) + d.val := by omega
  -- the other head of the pair has zeros in these lanes
  have zero : ∀ a : Fin 2, a.val ≠ h.val % 2 → headv x7 (keptQ x0 cos sin gq) (slot (keyK x1 cos sin gk)) (slot x2) n
      ⟨h.val / 2, by omega⟩ a i ⟨64 * (h.val % 2) + d.val, by omega⟩ = 0 := by
    intro a ha
    refine Cert.Att.att_zero fun j => ?_
    rw [slot_apply]
    exact if_neg (by simp only; omega)
  have this : ∀ a : Fin 2, a.val = h.val % 2 → headv x7 (keptQ x0 cos sin gq) (slot (keyK x1 cos sin gk)) (slot x2) n
      ⟨h.val / 2, by omega⟩ a i ⟨64 * (h.val % 2) + d.val, by omega⟩ = Cert.Att.att (okN n.val i)
      (fun j => (∑ e : Fin 64,
        Cert.Att.rot (fun e => x0 (ix2 ⟨128 * n.val + i.val, by omega⟩ ⟨64 * h.val + e.val, by omega⟩)) GQ
            (C ⟨128 * n.val + i.val, by omega⟩) (S ⟨128 * n.val + i.val, by omega⟩) e *
          Cert.Att.rot (fun e => x1 (ix2 ⟨startN n.val + j.val, by omega⟩ ⟨64 * (h.val / 4) + e.val, by omega⟩)) GK
            (C ⟨startN n.val + j.val, by omega⟩) (S ⟨startN n.val + j.val, by omega⟩) e) * Ideal.ofBits .f32 0x3E000000#32)
      (sk h) (fun j => x2 (ix2 ⟨startN n.val + j.val, by omega⟩ ⟨64 * (h.val / 4) + d.val, by omega⟩)) := by
    intro a ha
    unfold headv
    have es : (⟨2 * (h.val / 2) + a.val, by omega⟩ : Fin 8) = h := Fin.ext (by simp only; omega)
    have ek : ∀ (j : Fin 384), (∑ l : Fin 128, keptQ x0 cos sin gq (ix2 ⟨128 * n.val + i.val, by omega⟩
          ⟨128 * (h.val / 2) + l.val, by omega⟩) *
        slot (keyK x1 cos sin gk) (ix3 ⟨2 * (h.val / 2 / 2) + a.val, by omega⟩ ⟨startN n.val + j.val, by omega⟩ l)) =
      ∑ e : Fin 64,
        Cert.Att.rot (fun e => x0 (ix2 ⟨128 * n.val + i.val, by omega⟩ ⟨64 * h.val + e.val, by omega⟩)) GQ
            (C ⟨128 * n.val + i.val, by omega⟩) (S ⟨128 * n.val + i.val, by omega⟩) e *
          Cert.Att.rot (fun e => x1 (ix2 ⟨startN n.val + j.val, by omega⟩ ⟨64 * (h.val / 4) + e.val, by omega⟩)) GK
            (C ⟨startN n.val + j.val, by omega⟩) (S ⟨startN n.val + j.val, by omega⟩) e := by
      intro j
      refine Eq.trans (Finset.sum_congr rfl fun l _ => ?_) ((Cert.Att.sum_heads (fun l =>
        keptQ x0 cos sin gq (ix2 ⟨128 * n.val + i.val, by omega⟩ ⟨128 * (h.val / 2) + l.val, by omega⟩) *
        keyK x1 cos sin gk (ix2 ⟨startN n.val + j.val, by omega⟩ ⟨64 * (h.val / 4) + l.val % 64, by omega⟩)) a.val
          (by omega)).trans (Finset.sum_congr rfl fun e _ => ?_))
      · rw [slot_apply]
        have e1 : (2 * (h.val / 2 / 2) + a.val) % 2 = a.val := by omega
        have e2 : (2 * (h.val / 2 / 2) + a.val) / 2 = h.val / 4 := by omega
        simp only [e1, e2]
        split
        · rfl
        · exact mul_zero _
      · rw [keptQ_eq (GQ := GQ) hq hgq hcos hsin _ h e _ (by simp only; omega),
          keyK_eq (GK := GK) hk hgk hcos hsin _ ⟨h.val / 4, by omega⟩ e _ (by simp only; omega)]
    have ev : ∀ (j : Fin 384), slot x2 (ix3 ⟨2 * (h.val / 2 / 2) + a.val, by omega⟩ ⟨startN n.val + j.val, by omega⟩
        ⟨64 * (h.val % 2) + d.val, by omega⟩) =
          x2 (ix2 ⟨startN n.val + j.val, by omega⟩ ⟨64 * (h.val / 4) + d.val, by omega⟩) := by
      intro j
      rw [slot_apply]
      refine (if_pos (by simp only; omega)).trans ?_
      exact congrArg x2 (congrArg (ix2 _) (Fin.ext (by simp only; omega)))
    simp only [ek, ev, es, hsk]
  rw [outv_ix2]
  simp only [r0, r1, c0, c1]
  rcases (by omega : h.val % 2 = 0 ∨ h.val % 2 = 1) with hh | hh
  · rw [zero 1 (by rw [hh]; decide), add_zero]
    exact this 0 hh.symm
  · rw [zero 0 (by rw [hh]; decide), zero_add]
    exact this 1 hh.symm
end

end Cert.KernelIdeal.Att

end
-- ==== Proof.Host.lean ====
/-
  What the kernel's host code prepares: the two tables of the rotation, the gains beside each other, and the sinks along
  the lanes.
-/
module

public import proofs.«01_k».proof.Proof.Out
public import Idealize.ShloMosaic.Lib.StableHlo.RunRead

@[expose] public section

set_option maxRecDepth 16384

noncomputable section

namespace Cert.KernelIdeal.Att

open Idealize.ShloMosaic Idealize.ShloMosaic.TcCoe Idealize.ShloMosaic.Tactic
open Cert.KernelIdeal Cert.KernelIdeal.Gen

variable (m : (ℓ : Loc nD τ sig) → Buf (Elt Ideal) ℓ) (c : Dev nD)

theorem V_cos (t : Fin 2048) (k : Fin 128) : (V m c main_v19 : FVec Ideal S2048x128 .f32) (ix2 t k) =
    Ideal.cos (Cert.Att.ang t ⟨k.val % 32, by omega⟩) := by
  unfold V
  after_reads_simp
  pointwise
  rfl

theorem V_sin (t : Fin 2048) (k : Fin 128) : (V m c main_v25 : FVec Ideal S2048x128 .f32) (ix2 t k) =
    if k.val % 64 < 32 then -Ideal.sin (Cert.Att.ang t ⟨k.val % 32, by omega⟩)
    else Ideal.sin (Cert.Att.ang t ⟨k.val % 32, by omega⟩) := by
  unfold V
  after_reads_simp
  pointwise
  by_cases h : k.val % 64 < 32
  · rw [dif_pos h, if_pos h]
    simp only [StableHlo.upto, List.take]
    after_reads_simp
    pointwise
    have e : (⟨k.val % 64, by omega⟩ : Fin 32) = ⟨k.val % 32, by omega⟩ := Fin.ext (by simp only; omega)
    rw [← e]
    rfl
  · rw [dif_neg h, if_neg h]
    simp only [StableHlo.upto, List.take]
    after_reads_simp
    pointwise
    have e : (⟨k.val % 64 - 32, by omega⟩ : Fin 32) = ⟨k.val % 32, by omega⟩ := Fin.ext (by simp only; omega)
    rw [← e]
    rfl

theorem V_gq (k : Fin 128) : (V m c main_v29 : FVec Ideal S1x128 .f32) (ix2 0 k) =
    (m (c, Proc.tc.devRef main_arg3) : FVec Ideal S64 .f32) (ix1 ⟨k.val % 64, by omega⟩) := by
  unfold V
  after_reads_simp
  pointwise

theorem V_gk (k : Fin 128) : (V m c main_v33 : FVec Ideal S1x128 .f32) (ix2 0 k) =
    (m (c, Proc.tc.devRef main_arg4) : FVec Ideal S64 .f32) (ix1 ⟨k.val % 64, by omega⟩) := by
  unfold V
  after_reads_simp
  pointwise

theorem V_sk (h : Fin 8) : (V m c main_v35 : FVec Ideal S8x128 .f32) (ix2 h 0) =
    (m (c, Proc.tc.devRef main_arg5) : FVec Ideal S8 .f32) (ix1 h) := by
  unfold V
  after_reads_simp
  pointwise

end Cert.KernelIdeal.Att

end
-- ==== Proof.Array.lean ====
/-
  The kernel's result array: each grid point writes the attention of one sequence of the batch.
-/
module

public import proofs.«01_k».proof.Proof.Host

@[expose] public section

set_option maxRecDepth 16384

noncomputable section

namespace Cert.KernelIdeal.Att

open Idealize.ShloMosaic Idealize.ShloMosaic.TcCoe Idealize.ShloMosaic.Tactic
open Cert.KernelIdeal Cert.KernelIdeal.Gen Cert.KernelIdeal.Value

/-- The kernel's attention: sequence `b`, block `n` of queries, query `i` of the block, head `h`, coordinate `d`. -/
def kval (q : S49152x512.Idx → EReal) (k v : S49152x128.Idx → EReal) (gq gk : S64.Idx → EReal) (sk : S8.Idx → EReal)
    (b : Fin 24) (n : Fin 16) (i : Fin 128) (h : Fin 8) (d : Fin 64) : EReal :=
  Cert.Att.att (okN n.val i)
    (fun j => (∑ e : Fin 64,
      Cert.Att.rot (fun e => q (ix2 ⟨2048 * b.val + (128 * n.val + i.val), by omega⟩ ⟨64 * h.val + e.val, by omega⟩))
          (fun e => gq (ix1 e))
          (fun p => Ideal.cos (Cert.Att.ang ⟨128 * n.val + i.val, by omega⟩ p))
          (fun p => Ideal.sin (Cert.Att.ang ⟨128 * n.val + i.val, by omega⟩ p)) e *
        Cert.Att.rot (fun e => k (ix2 ⟨2048 * b.val + (startN n.val + j.val), by have := startN_le n.val; omega⟩
            ⟨64 * (h.val / 4) + e.val, by omega⟩))
          (fun e => gk (ix1 e))
          (fun p => Ideal.cos (Cert.Att.ang ⟨startN n.val + j.val, by have := startN_le n.val; omega⟩ p))
          (fun p => Ideal.sin (Cert.Att.ang ⟨startN n.val + j.val, by have := startN_le n.val; omega⟩ p)) e) *
      Ideal.ofBits .f32 0x3E000000#32)
    (sk (ix1 h))
    (fun j => v (ix2 ⟨2048 * b.val + (startN n.val + j.val), by have := startN_le n.val; omega⟩
      ⟨64 * (h.val / 4) + d.val, by omega⟩))

/-- The result array of the kernel, as a function of its arguments. -/
def kout (q : S49152x512.Idx → EReal) (k v : S49152x128.Idx → EReal) (gq gk : S64.Idx → EReal) (sk : S8.Idx → EReal) :
    S49152x512.Idx → EReal := fun y =>
  kval q k v gq gk sk ⟨(y 0).val / 2048, by have := (y 0).isLt; change (y 0).val < 49152 at this; omega⟩
    ⟨(y 0).val % 2048 / 128, by omega⟩ ⟨(y 0).val % 128, by omega⟩
    ⟨(y 1).val / 64, by have := (y 1).isLt; change (y 1).val < 512 at this; omega⟩ ⟨(y 1).val % 64, by omega⟩

variable (m : (ℓ : Loc nD τ sig) → Buf (Elt Ideal) ℓ) (c : Dev nD)

theorem idx_row0 : ∀ t : Fin cfg0.N, win0_0.index t (0 : Fin 2) = t.val ∧ win0_0.index t (1 : Fin 2) = 0 := by decide +kernel
theorem idx_row1 : ∀ t : Fin cfg0.N, win0_1.index t (0 : Fin 2) = t.val ∧ win0_1.index t (1 : Fin 2) = 0 := by decide +kernel
theorem idx_row2 : ∀ t : Fin cfg0.N, win0_2.index t (0 : Fin 2) = t.val ∧ win0_2.index t (1 : Fin 2) = 0 := by decide +kernel
theorem idx_row3 : ∀ t : Fin cfg0.N, win0_3.index t (0 : Fin 2) = 0 ∧ win0_3.index t (1 : Fin 2) = 0 := by decide +kernel
theorem idx_row4 : ∀ t : Fin cfg0.N, win0_4.index t (0 : Fin 2) = 0 ∧ win0_4.index t (1 : Fin 2) = 0 := by decide +kernel
theorem idx_row5 : ∀ t : Fin cfg0.N, win0_5.index t (0 : Fin 2) = 0 ∧ win0_5.index t (1 : Fin 2) = 0 := by decide +kernel
theorem idx_row6 : ∀ t : Fin cfg0.N, win0_6.index t (0 : Fin 2) = 0 ∧ win0_6.index t (1 : Fin 2) = 0 := by decide +kernel
theorem idx_row7 : ∀ t : Fin cfg0.N, win0_7.index t (0 : Fin 2) = 0 ∧ win0_7.index t (1 : Fin 2) = 0 := by decide +kernel
theorem idx_row8 : ∀ t : Fin cfg0.N, win0_8.index t (0 : Fin 2) = t.val ∧ win0_8.index t (1 : Fin 2) = 0 := by decide +kernel

theorem N24 (t : Fin cfg0.N) : t.val < 24 := lt_of_lt_of_le t.isLt (le_of_eq (by decide +kernel))

theorem emb0 (t : Fin cfg0.N) (j : S2048x512.Idx) : ((cfg0.win 0).blk t).view.emb j =
    (ix2 (⟨2048 * t.val + (j 0).val, by have := N24 t; have : (j 0).val < 2048 := (j 0).isLt; omega⟩ : Fin 49152) (j 1) : S49152x512.Idx) := by
  obtain ⟨e0, e1⟩ := idx_row0 t
  funext a; apply Fin.ext
  match a with
  | ⟨0, _⟩ => show win0_0.index t (0 : Fin 2) * 2048 + 1 * (j 0).val = 2048 * t.val + (j 0).val; omega
  | ⟨1, _⟩ => show win0_0.index t (1 : Fin 2) * 512 + 1 * (j 1).val = (j 1).val; omega

theorem emb8 (t : Fin cfg0.N) (j : S2048x512.Idx) : ((cfg0.win 8).blk t).view.emb j =
    (ix2 (⟨2048 * t.val + (j 0).val, by have := N24 t; have : (j 0).val < 2048 := (j 0).isLt; omega⟩ : Fin 49152) (j 1) : S49152x512.Idx) := by
  obtain ⟨e0, e1⟩ := idx_row8 t
  funext a; apply Fin.ext
  match a with
  | ⟨0, _⟩ => show win0_8.index t (0 : Fin 2) * 2048 + 1 * (j 0).val = 2048 * t.val + (j 0).val; omega
  | ⟨1, _⟩ => show win0_8.index t (1 : Fin 2) * 512 + 1 * (j 1).val = (j 1).val; omega

theorem emb1 (t : Fin cfg0.N) (j : S2048x128.Idx) : ((cfg0.win 1).blk t).view.emb j =
    (ix2 (⟨2048 * t.val + (j 0).val, by have := N24 t; have : (j 0).val < 2048 := (j 0).isLt; omega⟩ : Fin 49152) (j 1) : S49152x128.Idx) := by
  obtain ⟨e0, e1⟩ := idx_row1 t
  funext a; apply Fin.ext
  match a with
  | ⟨0, _⟩ => show win0_1.index t (0 : Fin 2) * 2048 + 1 * (j 0).val = 2048 * t.val + (j 0).val; omega
  | ⟨1, _⟩ => show win0_1.index t (1 : Fin 2) * 128 + 1 * (j 1).val = (j 1).val; omega

theorem emb2 (t : Fin cfg0.N) (j : S2048x128.Idx) : ((cfg0.win 2).blk t).view.emb j =
    (ix2 (⟨2048 * t.val + (j 0).val, by have := N24 t; have : (j 0).val < 2048 := (j 0).isLt; omega⟩ : Fin 49152) (j 1) : S49152x128.Idx) := by
  obtain ⟨e0, e1⟩ := idx_row2 t
  funext a; apply Fin.ext
  match a with
  | ⟨0, _⟩ => show win0_2.index t (0 : Fin 2) * 2048 + 1 * (j 0).val = 2048 * t.val + (j 0).val; omega
  | ⟨1, _⟩ => show win0_2.index t (1 : Fin 2) * 128 + 1 * (j 1).val = (j 1).val; omega

theorem emb3 (t : Fin cfg0.N) (j : S2048x128.Idx) : ((cfg0.win 3).blk t).view.emb j = j := by
  obtain ⟨e0, e1⟩ := idx_row3 t
  funext a; apply Fin.ext
  match a with
  | ⟨0, _⟩ => show win0_3.index t (0 : Fin 2) * 2048 + 1 * (j 0).val = (j 0).val; omega
  | ⟨1, _⟩ => show win0_3.index t (1 : Fin 2) * 128 + 1 * (j 1).val = (j 1).val; omega

theorem emb4 (t : Fin cfg0.N) (j : S2048x128.Idx) : ((cfg0.win 4).blk t).view.emb j = j := by
  obtain ⟨e0, e1⟩ := idx_row4 t
  funext a; apply Fin.ext
  match a with
  | ⟨0, _⟩ => show win0_4.index t (0 : Fin 2) * 2048 + 1 * (j 0).val = (j 0).val; omega
  | ⟨1, _⟩ => show win0_4.index t (1 : Fin 2) * 128 + 1 * (j 1).val = (j 1).val; omega

theorem emb5 (t : Fin cfg0.N) (j : S1x128.Idx) : ((cfg0.win 5).blk t).view.emb j = j := by
  obtain ⟨e0, e1⟩ := idx_row5 t
  funext a; apply Fin.ext
  match a with
  | ⟨0, _⟩ => show win0_5.index t (0 : Fin 2) * 1 + 1 * (j 0).val = (j 0).val; omega
  | ⟨1, _⟩ => show win0_5.index t (1 : Fin 2) * 128 + 1 * (j 1).val = (j 1).val; omega

theorem emb6 (t : Fin cfg0.N) (j : S1x128.Idx) : ((cfg0.win 6).blk t).view.emb j = j := by
  obtain ⟨e0, e1⟩ := idx_row6 t
  funext a; apply Fin.ext
  match a with
  | ⟨0, _⟩ => show win0_6.index t (0 : Fin 2) * 1 + 1 * (j 0).val = (j 0).val; omega
  | ⟨1, _⟩ => show win0_6.index t (1 : Fin 2) * 128 + 1 * (j 1).val = (j 1).val; omega

theorem emb7 (t : Fin cfg0.N) (j : S8x128.Idx) : ((cfg0.win 7).blk t).view.emb j = j := by
  obtain ⟨e0, e1⟩ := idx_row7 t
  funext a; apply Fin.ext
  match a with
  | ⟨0, _⟩ => show win0_7.index t (0 : Fin 2) * 8 + 1 * (j 0).val = (j 0).val; omega
  | ⟨1, _⟩ => show win0_7.index t (1 : Fin 2) * 128 + 1 * (j 1).val = (j 1).val; omega

section
variable (t : Fin cfg0.N)

theorem iblk0_eq (r : Fin 2048) (k : Fin 512) : (iblk m c 0 t : FVec Ideal S2048x512 .f32) (ix2 r k) =
    (m (c, Proc.tc.devRef main_arg0) : FVec Ideal S49152x512 .f32) (ix2 ⟨2048 * t.val + r.val, by have := N24 t; omega⟩ k) := by
  show (V m c main_arg0 : FVec Ideal S49152x512 .f32) (((cfg0.win 0).blk t).view.emb (ix2 r k : S2048x512.Idx)) = _
  rw [emb0, V_main_arg0]; rfl

theorem iblk1_eq (r : Fin 2048) (k : Fin 128) : (iblk m c 1 t : FVec Ideal S2048x128 .f32) (ix2 r k) =
    (m (c, Proc.tc.devRef main_arg1) : FVec Ideal S49152x128 .f32) (ix2 ⟨2048 * t.val + r.val, by have := N24 t; omega⟩ k) := by
  show (V m c main_arg1 : FVec Ideal S49152x128 .f32) (((cfg0.win 1).blk t).view.emb (ix2 r k : S2048x128.Idx)) = _
  rw [emb1, V_main_arg1]; rfl

theorem iblk2_eq (r : Fin 2048) (k : Fin 128) : (iblk m c 2 t : FVec Ideal S2048x128 .f32) (ix2 r k) =
    (m (c, Proc.tc.devRef main_arg2) : FVec Ideal S49152x128 .f32) (ix2 ⟨2048 * t.val + r.val, by have := N24 t; omega⟩ k) := by
  show (V m c main_arg2 : FVec Ideal S49152x128 .f32) (((cfg0.win 2).blk t).view.emb (ix2 r k : S2048x128.Idx)) = _
  rw [emb2, V_main_arg2]; rfl

theorem iblk3_eq (y : S2048x128.Idx) : (iblk m c 3 t : FVec Ideal S2048x128 .f32) y = (V m c main_v19 : FVec Ideal S2048x128 .f32) y := by
  show (V m c main_v19 : FVec Ideal S2048x128 .f32) (((cfg0.win 3).blk t).view.emb y) = _
  rw [emb3]

theorem iblk4_eq (y : S2048x128.Idx) : (iblk m c 4 t : FVec Ideal S2048x128 .f32) y = (V m c main_v25 : FVec Ideal S2048x128 .f32) y := by
  show (V m c main_v25 : FVec Ideal S2048x128 .f32) (((cfg0.win 4).blk t).view.emb y) = _
  rw [emb4]

theorem iblk5_eq (y : S1x128.Idx) : (iblk m c 5 t : FVec Ideal S1x128 .f32) y = (V m c main_v29 : FVec Ideal S1x128 .f32) y := by
  show (V m c main_v29 : FVec Ideal S1x128 .f32) (((cfg0.win 5).blk t).view.emb y) = _
  rw [emb5]

theorem iblk6_eq (y : S1x128.Idx) : (iblk m c 6 t : FVec Ideal S1x128 .f32) y = (V m c main_v33 : FVec Ideal S1x128 .f32) y := by
  show (V m c main_v33 : FVec Ideal S1x128 .f32) (((cfg0.win 6).blk t).view.emb y) = _
  rw [emb6]

theorem iblk7_eq (y : S8x128.Idx) : (iblk m c 7 t : FVec Ideal S8x128 .f32) y = (V m c main_v35 : FVec Ideal S8x128 .f32) y := by
  show (V m c main_v35 : FVec Ideal S8x128 .f32) (((cfg0.win 7).blk t).view.emb y) = _
  rw [emb7]
end

variable (hq : ∀ y, Cert.Att.IsReal ((m (c, Proc.tc.devRef main_arg0) : FVec Ideal S49152x512 .f32) y))
  (hk : ∀ y, Cert.Att.IsReal ((m (c, Proc.tc.devRef main_arg1) : FVec Ideal S49152x128 .f32) y))

theorem iblk0_real (t : Fin cfg0.N) (hq : ∀ y, Cert.Att.IsReal ((m (c, Proc.tc.devRef main_arg0) : FVec Ideal S49152x512 .f32) y))
    (y : S2048x512.Idx) : Cert.Att.IsReal ((iblk m c 0 t : FVec Ideal S2048x512 .f32) y) := by
  obtain ⟨r, k, rfl⟩ : ∃ (r : Fin 2048) (k : Fin 512), y = ix2 r k := ⟨y 0, y 1, eq_ix2 y⟩
  rw [iblk0_eq]; exact hq _

theorem iblk1_real (t : Fin cfg0.N) (hk : ∀ y, Cert.Att.IsReal ((m (c, Proc.tc.devRef main_arg1) : FVec Ideal S49152x128 .f32) y))
    (y : S2048x128.Idx) : Cert.Att.IsReal ((iblk m c 1 t : FVec Ideal S2048x128 .f32) y) := by
  obtain ⟨r, k, rfl⟩ : ∃ (r : Fin 2048) (k : Fin 128), y = ix2 r k := ⟨y 0, y 1, eq_ix2 y⟩
  rw [iblk1_eq]; exact hk _

/-- The kernel's result of the arguments in memory. -/
abbrev kmem : S49152x512.Idx → EReal :=
  kout (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5))

include hq hk in
/-- What grid point `t` writes back is its block of the result. -/
theorem flushed_eq (t : Fin cfg0.N) :
    (dats m 0 c).flushed 8 t = ((cfg0.win 8).blk t).view.read (Elt Ideal) (kmem m c) := by
  rw [flushed8_A]
  funext (y : S2048x512.Idx)
  refine (out_apply _ _ _ _ _ _ _ _ _ _ _ _ _ _ _ _ _ _ _ _ _ _ _ _ _ _ _ _ _ _ _ _ _ _ y).trans ?_
  show _ = kmem m c (((cfg0.win 8).blk t).view.emb y)
  rw [emb8]
  obtain ⟨r, k, rfl⟩ : ∃ (r : Fin 2048) (k : Fin 512), y = ix2 r k := ⟨y 0, y 1, eq_ix2 y⟩
  have ht := N24 t
  obtain ⟨n, hn⟩ : ∃ n : Fin 16, n.val = r.val / 128 := ⟨⟨r.val / 128, by omega⟩, rfl⟩
  obtain ⟨i, hi⟩ : ∃ i : Fin 128, i.val = r.val % 128 := ⟨⟨r.val % 128, by omega⟩, rfl⟩
  obtain ⟨h, hh⟩ : ∃ h : Fin 8, h.val = k.val / 64 := ⟨⟨k.val / 64, by omega⟩, rfl⟩
  obtain ⟨d, hd⟩ : ∃ d : Fin 64, d.val = k.val % 64 := ⟨⟨k.val % 64, by omega⟩, rfl⟩
  have er : r = ⟨128 * n.val + i.val, by omega⟩ := Fin.ext (by simp only; omega)
  have ek : k = ⟨64 * h.val + d.val, by omega⟩ := Fin.ext (by simp only; omega)
  have eG : kmem m c (ix2 (⟨2048 * t.val + r.val, by omega⟩ : Fin 49152) k : S49152x512.Idx) =
      kval (m (c, Proc.tc.devRef main_arg0)) (m (c, Proc.tc.devRef main_arg1)) (m (c, Proc.tc.devRef main_arg2))
        (m (c, Proc.tc.devRef main_arg3)) (m (c, Proc.tc.devRef main_arg4)) (m (c, Proc.tc.devRef main_arg5))
        ⟨t.val, ht⟩ n i h d := by
    unfold kmem kout
    congr 1
    · exact Fin.ext (show (2048 * t.val + r.val) / 2048 = t.val by omega)
    · exact Fin.ext (show (2048 * t.val + r.val) % 2048 / 128 = n.val by omega)
    · exact Fin.ext (show (2048 * t.val + r.val) % 128 = i.val by omega)
    · exact Fin.ext hh.symm
    · exact Fin.ext hd.symm
  refine Eq.trans ?_ eG.symm
  conv_lhs => rw [er, ek]
  refine (out_head (GQ := fun e => (m (c, Proc.tc.devRef main_arg3) : FVec Ideal S64 .f32) (ix1 e))
    (GK := fun e => (m (c, Proc.tc.devRef main_arg4) : FVec Ideal S64 .f32) (ix1 e))
    (C := fun t p => Ideal.cos (Cert.Att.ang t p)) (S := fun t p => Ideal.sin (Cert.Att.ang t p))
    (sk := fun h => (m (c, Proc.tc.devRef main_arg5) : FVec Ideal S8 .f32) (ix1 h))
    (iblk0_real m c t hq) (iblk1_real m c t hk)
    (fun k => (iblk5_eq m c t _).trans (V_gq m c k)) (fun k => (iblk6_eq m c t _).trans (V_gk m c k))
    (fun r k => (iblk3_eq m c t _).trans (V_cos m c r k)) (fun r k => (iblk4_eq m c t _).trans (V_sin m c r k))
    (fun h => (iblk7_eq m c t _).trans (V_sk m c h)) n i h d).trans ?_
  unfold kval
  simp only [iblk0_eq, iblk1_eq, iblk2_eq]

/-- Every index of the result array is in some point's block. -/
theorem cover (y : S49152x512.Idx) : ∃ t : Fin cfg0.N, (cfg0.win 8).flush t = true ∧ y ∈ ((cfg0.win 8).blk t).view.set := by
  obtain ⟨r, k, rfl⟩ : ∃ (r : Fin 49152) (k : Fin 512), y = ix2 r k := ⟨y 0, y 1, eq_ix2 y⟩
  obtain ⟨t, ht⟩ : ∃ t : Fin cfg0.N, t.val = r.val / 2048 :=
    ⟨⟨r.val / 2048, lt_of_lt_of_eq (by omega : r.val / 2048 < 24) (by decide +kernel)⟩, rfl⟩
  refine ⟨t, flush0_8 t, ?_⟩
  have h := ((cfg0.win 8).blk t).view.emb_mem_set (ix2 (⟨r.val % 2048, by omega⟩ : Fin 2048) k : S2048x512.Idx)
  rw [emb8] at h
  have e : (⟨2048 * t.val + r.val % 2048, by omega⟩ : Fin 49152) = r := Fin.ext (by simp only; omega)
  exact (congrArg (fun a => (ix2 a k : S49152x512.Idx)) e) ▸ h

include hq hk in
/-- The result array after the run: the attention of the arguments. -/
theorem final_eq : (dats m 0 c).arrAt 8 cfg0.N = kmem m c :=
  (dats m 0 c).arrAt_eq_of_cover 8 (kmem m c) (fun t _ => flushed_eq m c hq hk t) cover

end Cert.KernelIdeal.Att

end
-- ==== Proof.RefRope.lean ====
/-
  The reference's queries and keys: each head's vector normalised, scaled, and rotated by the angle of its position.
-/
module

public import proofs.«01_k».proof.Proof.Math
public import proofs.«01_k».proof.Proof.Gen.ReferenceIdeal.Read
public import Idealize.ShloMosaic.Lib.Pointwise

@[expose] public section

set_option maxRecDepth 16384

noncomputable section

namespace Cert.ReferenceIdeal.Att

open Idealize.ShloMosaic Idealize.ShloMosaic.TcCoe Idealize.ShloMosaic.Tactic
open Cert.ReferenceIdeal Cert.ReferenceIdeal.Gen Cert.ReferenceIdeal.Read

/-- The table of cosines, by position and coordinate pair. -/
theorem cos_q (t : Fin 2048) (p : Fin 32) : val_main_v30 (F := Ideal) (ix2 t p) = Ideal.cos (Cert.Att.ang t p) := by
  pointwise [val_main_v30, val_main_v29, val_main_v28, val_main_v27, val_main_v26, val_main_v25, val_main_v24, val_main_v23,
    val_main_v22, val_main_cst_5, val_main_v21, val_main_v20, val_main_cst_4, val_main_v19, val_main_v18, val_main_v17,
    val_main_cst_3, val_main_v16, val_main_v15, val_main_cst_2, val_main_v14]
  rfl

/-- The table of sines. -/
theorem sin_q (t : Fin 2048) (p : Fin 32) : val_main_v32 (F := Ideal) (ix2 t p) = Ideal.sin (Cert.Att.ang t p) := by
  pointwise [val_main_v32, val_main_v29, val_main_v28, val_main_v27, val_main_v26, val_main_v25, val_main_v24, val_main_v23,
    val_main_v22, val_main_cst_5, val_main_v21, val_main_v20, val_main_cst_4, val_main_v19, val_main_v18, val_main_v17,
    val_main_cst_3, val_main_v16, val_main_v15, val_main_cst_2, val_main_v14]
  rfl

theorem cos_k (t : Fin 2048) (p : Fin 32) : val_main_v77 (F := Ideal) (ix2 t p) = Ideal.cos (Cert.Att.ang t p) := by
  pointwise [val_main_v77, val_main_v76, val_main_v75, val_main_v74, val_main_v73, val_main_v72, val_main_v71, val_main_v70,
    val_main_v69, val_main_cst_12, val_main_v68, val_main_v67, val_main_cst_11, val_main_v66, val_main_v65, val_main_v64,
    val_main_cst_10, val_main_v63, val_main_v62, val_main_cst_9, val_main_v61]
  rfl

theorem sin_k (t : Fin 2048) (p : Fin 32) : val_main_v79 (F := Ideal) (ix2 t p) = Ideal.sin (Cert.Att.ang t p) := by
  pointwise [val_main_v79, val_main_v76, val_main_v75, val_main_v74, val_main_v73, val_main_v72, val_main_v71, val_main_v70,
    val_main_v69, val_main_cst_12, val_main_v68, val_main_v67, val_main_cst_11, val_main_v66, val_main_v65, val_main_v64,
    val_main_cst_10, val_main_v63, val_main_v62, val_main_cst_9, val_main_v61]
  rfl

variable (x0 : FVec Ideal S49152x512 .f32) (x1 : FVec Ideal S49152x128 .f32) (x3 x4 : FVec Ideal S64 .f32)

/-- A normalised and scaled query. -/
theorem nrm_q (b : Fin 24) (t : Fin 2048) (h : Fin 8) (d : Fin 64) : val_main_v13 (F := Ideal) x0 x3 (ix4 b t h d) =
    Cert.Att.nrm (fun e => x0 (ix2 ⟨2048 * b.val + t.val, by omega⟩ ⟨64 * h.val + e.val, by omega⟩)) (fun e => x3 (ix1 e)) d := by
  pointwise [val_main_v13, val_main_v12, val_main_v11, val_main_v10, val_main_v9, val_main_v8, val_main_v7, val_main_v6,
    val_main_cst_1, val_main_v5, val_main_v4, val_main_cst_0, val_main_v3, val_main_v2, val_main_cst, val_main_v1, val_main_v0]
  simp only [Nat.mul_comm _ 2048, Nat.mul_comm _ 64]
  rfl

/-- A normalised and scaled key. -/
theorem nrm_k (b : Fin 24) (t : Fin 2048) (h : Fin 2) (d : Fin 64) : val_main_v60 (F := Ideal) x1 x4 (ix4 b t h d) =
    Cert.Att.nrm (fun e => x1 (ix2 ⟨2048 * b.val + t.val, by omega⟩ ⟨64 * h.val + e.val, by omega⟩)) (fun e => x4 (ix1 e)) d := by
  pointwise [val_main_v60, val_main_v59, val_main_v58, val_main_v57, val_main_v56, val_main_v55, val_main_v54, val_main_v53,
    val_main_cst_8, val_main_v52, val_main_v51, val_main_cst_7, val_main_v50, val_main_v49, val_main_cst_6, val_main_v48, val_main_v47]
  simp only [Nat.mul_comm _ 2048, Nat.mul_comm _ 64]
  rfl

/-- A rotated query. -/
theorem rot_q (b : Fin 24) (t : Fin 2048) (h : Fin 8) (d : Fin 64) : val_main_v46 (F := Ideal) x0 x3 (ix4 b t h d) =
    Cert.Att.rot (fun e => x0 (ix2 ⟨2048 * b.val + t.val, by omega⟩ ⟨64 * h.val + e.val, by omega⟩)) (fun e => x3 (ix1 e))
      (fun p => Ideal.cos (Cert.Att.ang t p)) (fun p => Ideal.sin (Cert.Att.ang t p)) d := by
  pointwise [val_main_v46, val_main_v45, val_main_v44, val_main_v43, val_main_v42, val_main_v41, val_main_v40, val_main_v39,
    val_main_v38, val_main_v37, val_main_v36, val_main_v35, val_main_v34, val_main_v33, val_main_v31]
  simp only [nrm_q, cos_q, sin_q]
  unfold Cert.Att.rot
  split
  · next hd => simp only [Nat.add_comm 32]
  · next hd =>
    have e : (⟨32 + (d.val - 32), by omega⟩ : Fin 64) = d := Fin.ext (by simp only; omega)
    rw [e]

/-- A rotated key. -/
theorem rot_k (b : Fin 24) (t : Fin 2048) (h : Fin 2) (d : Fin 64) : val_main_v93 (F := Ideal) x1 x4 (ix4 b t h d) =
    Cert.Att.rot (fun e => x1 (ix2 ⟨2048 * b.val + t.val, by omega⟩ ⟨64 * h.val + e.val, by omega⟩)) (fun e => x4 (ix1 e))
      (fun p => Ideal.cos (Cert.Att.ang t p)) (fun p => Ideal.sin (Cert.Att.ang t p)) d := by
  pointwise [val_main_v93, val_main_v92, val_main_v91, val_main_v90, val_main_v89, val_main_v88, val_main_v87, val_main_v86,
    val_main_v85, val_main_v84, val_main_v83, val_main_v82, val_main_v81, val_main_v80, val_main_v78]
  simp only [nrm_k, cos_k, sin_k]
  unfold Cert.Att.rot
  split
  · next hd => simp only [Nat.add_comm 32]
  · next hd =>
    have e : (⟨32 + (d.val - 32), by omega⟩ : Fin 64) = d := Fin.ext (by simp only; omega)
    rw [e]

end Cert.ReferenceIdeal.Att

end
-- ==== Proof.RefWindow.lean ====
/-
  The reference's windows: the keys and values of three neighbouring blocks, with zeros outside the sequence, and the mask.
-/
module

public import proofs.«01_k».proof.Proof.RefRope

@[expose] public section

set_option maxRecDepth 16384

noncomputable section

namespace Cert.ReferenceIdeal.Att

open Idealize.ShloMosaic Idealize.ShloMosaic.TcCoe Idealize.ShloMosaic.Tactic
open Cert.ReferenceIdeal Cert.ReferenceIdeal.Gen Cert.ReferenceIdeal.Read

variable (x0 : FVec Ideal S49152x512 .f32) (x1 x2 : FVec Ideal S49152x128 .f32) (x3 x4 : FVec Ideal S64 .f32)
  (x5 : FVec Ideal S8 .f32)

/-- A window's row `j`: the sequence at `128 n + j - 128`, and zero outside it. -/
def pw (f : Fin 2048 → EReal) (n : Fin 16) (j : Fin 384) : EReal :=
  if h : 128 ≤ 128 * n.val + j.val ∧ 128 * n.val + j.val < 2176 then f ⟨128 * n.val + j.val - 128, by omega⟩ else 0

/-- The mask: the key is in the sequence and within 128 of the query. -/
def okR (n : Fin 16) (i : Fin 128) (j : Fin 384) : BitVec 1 :=
  if (i.val ≤ j.val ∧ j.val ≤ i.val + 256) ∧ 128 ≤ 128 * n.val + j.val ∧ 128 * n.val + j.val < 2176 then 1#1 else 0#1

/-- One block of a window. -/
theorem pw_at (f : Fin 2048 → EReal) (n : Fin 16) (j : Fin 384) (q : ℕ) (hq : q = 128 * n.val + j.val) :
    (if h : 128 ≤ q ∧ q - 128 < 2048 then f ⟨q - 128, h.2⟩ else FloatOps.sitofp (F := Ideal) .f32 0#32) = pw f n j := by
  subst hq
  unfold pw
  by_cases h : 128 ≤ 128 * n.val + j.val ∧ 128 * n.val + j.val < 2176
  · rw [dif_pos (by omega), dif_pos h]
  · rw [dif_neg (by omega), dif_neg h]
    show (((BitVec.toInt 0#32 : ℤ) : ℝ) : EReal) = 0
    simp

/-- Three neighbouring blocks side by side are the window. -/
theorem pw_blocks (f : Fin 2048 → EReal) (n : Fin 16) (j : Fin 384) :
    (if _h : j.val < 128 then
      if h : 128 ≤ n.val * 128 + j.val ∧ n.val * 128 + j.val - 128 < 2048 then f ⟨n.val * 128 + j.val - 128, h.2⟩
      else FloatOps.sitofp (F := Ideal) .f32 0#32
    else if _h : j.val - 128 < 128 then
      if h : 128 ≤ (1 + n.val) * 128 + (j.val - 128) ∧ (1 + n.val) * 128 + (j.val - 128) - 128 < 2048 then
        f ⟨(1 + n.val) * 128 + (j.val - 128) - 128, h.2⟩
      else FloatOps.sitofp (F := Ideal) .f32 0#32
    else
      if h : 128 ≤ (2 + n.val) * 128 + (j.val - 128 - 128) ∧ (2 + n.val) * 128 + (j.val - 128 - 128) - 128 < 2048 then
        f ⟨(2 + n.val) * 128 + (j.val - 128 - 128) - 128, h.2⟩
      else FloatOps.sitofp (F := Ideal) .f32 0#32) = pw f n j := by
  split
  · exact pw_at f n j _ (by omega)
  · split
    · exact pw_at f n j _ (by omega)
    · exact pw_at f n j _ (by omega)

/-- The keys of a window. -/
theorem win_k (b : Fin 24) (n : Fin 16) (j : Fin 384) (g : Fin 2) (d : Fin 64) :
    val_main_v103 (F := Ideal) x1 x4 (ix5 b n j g d) = pw (fun t => val_main_v93 (F := Ideal) x1 x4 (ix4 b t g d)) n j := by
  pointwise [val_main_v103, val_main_v102, val_main_v101, val_main_v100, val_main_v97, val_main_v96, val_main_call0_v0, val_main_c]
  exact pw_blocks (fun t => val_main_v93 (F := Ideal) x1 x4 (ix4 b t g d)) n j

/-- The values of a window. -/
theorem win_v (b : Fin 24) (n : Fin 16) (j : Fin 384) (g : Fin 2) (d : Fin 64) :
    val_main_v107 (F := Ideal) x2 (ix5 b n j g d) =
      pw (fun t => x2 (ix2 ⟨2048 * b.val + t.val, by omega⟩ ⟨64 * g.val + d.val, by omega⟩)) n j := by
  pointwise [val_main_v107, val_main_v106, val_main_v105, val_main_v104, val_main_v99, val_main_v98, val_main_v94, val_main_call1_v0, val_main_c_13]
  simp only [Nat.mul_comm _ 2048, Nat.mul_comm _ 64]
  exact pw_blocks (fun t => x2 (ix2 ⟨2048 * b.val + t.val, by omega⟩ ⟨64 * g.val + d.val, by omega⟩)) n j

theorem andi_if (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

/-- The mask of a window. -/
theorem mask (n : Fin 16) (i : Fin 128) (j : Fin 384) :
    val_main_v141 (F := Ideal) (ix3 n i j) = okR n i j := by
  pointwise [val_main_v141, val_main_v140, val_main_v139, val_main_v138, val_main_c_19, val_main_v137, val_main_v136, val_main_v135,
    val_main_v134, val_main_c_18, val_main_v133, val_main_v132, val_main_c_17, val_main_v131, val_main_v130, val_main_v129,
    val_main_v128, val_main_v127, val_main_v126, val_main_v125, val_main_v124, val_main_v123, val_main_v122, val_main_v121,
    val_main_c_16, val_main_v120, val_main_v119, val_main_v118, val_main_v117, val_main_v116, val_main_v115, val_main_v114,
    val_main_c_15, val_main_v113, val_main_v112]
  have h0 : (0#32 : BitVec 32) = BitVec.ofInt 32 0 := rfl
  have h1 : (128#32 : BitVec 32) = BitVec.ofInt 32 128 := rfl
  have h2 : (2048#32 : BitVec 32) = BitVec.ofInt 32 2048 := rfl
  have hn := Cert.Att.ofNat_ofInt n.val
  have hi := Cert.Att.ofNat_ofInt i.val
  have hj := Cert.Att.ofNat_ofInt j.val
  have hb := Cert.Att.band_ofInt ((n.val : ℤ) * 128 - 128 + j.val - (n.val * 128 + i.val)) (by omega)
  rw [h1] at hb ⊢
  rw [h0, h2, hn, hi, hj]
  simp only [Cert.Att.muli_ofInt, Cert.Att.addi_ofInt, Cert.Att.subi_ofInt]
  rw [hb, Cert.Att.sge_ofInt _ _ (by omega) (by omega), Cert.Att.slt_ofInt _ _ (by omega) (by omega), andi_if, andi_if]
  exact if_congr (by omega) rfl rfl

/-- The score of a query against a window's key, before the mask. -/
def dotr (b : Fin 24) (n : Fin 16) (g : Fin 2) (k : Fin 4) (i : Fin 128) (j : Fin 384) : EReal :=
  (∑ e : Fin 64, val_main_v46 (F := Ideal) x0 x3 (ix4 b ⟨128 * n.val + i.val, by omega⟩ ⟨4 * g.val + k.val, by omega⟩ e) *
    pw (fun t => val_main_v93 (F := Ideal) x1 x4 (ix4 b t g e)) n j) * Ideal.ofBits .f32 0x3E000000#32

/-- The masked score. -/
theorem score (b : Fin 24) (n : Fin 16) (g : Fin 2) (k : Fin 4) (i : Fin 128) (j : Fin 384) :
    val_main_v143 (F := Ideal) x0 x1 x3 x4 (ix6 b n g k i j) =
      Cert.Att.score (okR n i) (dotr x0 x1 x3 x4 b n g k i) j := by
  pointwise [val_main_v143, val_main_call2_v2, val_main_call2_v1, val_main_call2_v0, val_main_cst_20, val_main_v142, val_main_v111,
    val_main_v110, val_main_cst_14, val_main_v109, val_main_v108, val_main_v95]
  simp only [mask, win_k]
  unfold Cert.Att.score dotr
  have e : (id (constant (F := Ideal) S_ FTy.f32 4286578688#32) ix0 : EReal) = ⊥ := Cert.Att.lit_ninf
  rw [e]
  simp only [Scalar.select]
  have e2 : ∀ x : Fin 64, pw (fun t => val_main_v93 (F := Ideal) x1 x4 (ix4 b t g x)) n j *
      val_main_v46 (F := Ideal) x0 x3 (ix4 b ⟨n.val * 128 + i.val, by omega⟩ ⟨g.val * 4 + k.val, by omega⟩ x) =
      val_main_v46 (F := Ideal) x0 x3 (ix4 b ⟨128 * n.val + i.val, by omega⟩ ⟨4 * g.val + k.val, by omega⟩ x) *
      pw (fun t => val_main_v93 (F := Ideal) x1 x4 (ix4 b t g x)) n j := fun x => by
    simp only [Nat.mul_comm _ 128, Nat.mul_comm _ 4]
    exact mul_comm _ _
  simp only [e2]
  rfl

theorem sink (b : Fin 24) (n : Fin 16) (g : Fin 2) (k : Fin 4) (i : Fin 128) :
    val_main_v155 (F := Ideal) x5 (ix6 b n g k i 0) = x5 (ix1 ⟨4 * g.val + k.val, by omega⟩) := by
  pointwise [val_main_v155, val_main_v145, val_main_v144]
  simp only [Nat.mul_comm _ 4]

theorem lift6 (h : S24x16x2x4x128x384.Reduces [5] S24x16x2x4x128) (b : Fin 24) (n : Fin 16) (g : Fin 2) (k : Fin 4) (i : Fin 128)
    (j : Fin (S24x16x2x4x128x384.size 5)) : h.lift (ix5 b n g k i) j = ix6 b n g k i (⟨j.val, j.isLt⟩ : Fin 384) := by
  funext c; apply Fin.ext
  fin_cases c <;> rfl

/-- The host's reduction by the maximum over the last of six axes, from `-∞`. -/
theorem reduce_max (y : FVec Ideal S24x16x2x4x128x384 .f32) (b : Fin 24) (n : Fin 16) (g : Fin 2) (k : Fin 4) (i : Fin 128) :
    Host.reduce FloatOps.maximumf y (constant S_ .f32 0xFF800000#32) reducesTo_S24x16x2x4x128x384_S24x16x2x4x128_d5 h_S_
      (ix5 b n g k i) = Finset.univ.fold max ⊥ (fun j : Fin 384 => y (ix6 b n g k i j)) := by
  have h : S24x16x2x4x128x384.Reduces [5] S24x16x2x4x128 := by decide
  rw [Host.reduce_eq_fold_single FloatOps.maximumf y _ reducesTo_S24x16x2x4x128x384_S24x16x2x4x128_d5 h h_S_]
  have hf : (y ∘ h.lift (ix5 b n g k i)) = fun j : Fin 384 => y (ix6 b n g k i j) :=
    funext fun j => congrArg y (lift6 h b n g k i j)
  refine (congrArg (fun f => Finset.fold max (Ideal.ofBits .f32 0xFF800000#32) f (Finset.univ : Finset (Fin 384))) hf).trans ?_
  exact congrArg (fun z => Finset.fold max z (fun j : Fin 384 => y (ix6 b n g k i j)) Finset.univ) Cert.Att.lit_ninf

/-- The largest score of a row. -/
theorem maxr (b : Fin 24) (n : Fin 16) (g : Fin 2) (k : Fin 4) (i : Fin 128) :
    val_main_v146 (F := Ideal) x0 x1 x3 x4 (ix5 b n g k i) =
      Finset.univ.fold max ⊥ (Cert.Att.score (okR n i) (dotr x0 x1 x3 x4 b n g k i)) := by
  have hs := fun j => score x0 x1 x3 x4 b n g k i j
  unfold val_main_v146 val_main_cst_21
  generalize val_main_v143 (F := Ideal) x0 x1 x3 x4 = y at hs ⊢
  refine (reduce_max y b n g k i).trans ?_
  exact congrArg (fun f => Finset.fold max ⊥ f (Finset.univ : Finset (Fin 384))) (funext hs)

end Cert.ReferenceIdeal.Att

end
-- ==== Proof.RefRow.lean ====
/-
  The reference's result: each row is the attention over its window.
-/
module

public import proofs.«01_k».proof.Proof.RefWindow

@[expose] public section

set_option maxRecDepth 16384

noncomputable section

namespace Cert.ReferenceIdeal.Att

open Idealize.ShloMosaic Idealize.ShloMosaic.TcCoe Idealize.ShloMosaic.Tactic
open Cert.ReferenceIdeal Cert.ReferenceIdeal.Gen Cert.ReferenceIdeal.Read

variable (x0 : FVec Ideal S49152x512 .f32) (x1 x2 : FVec Ideal S49152x128 .f32) (x3 x4 : FVec Ideal S64 .f32)
  (x5 : FVec Ideal S8 .f32)

theorem maximumf_at {s : Shape} (u w : FVec Ideal s .f32) (y : s.Idx) : maximumf u w y = max (u y) (w y) := rfl

/-- The larger of a row's largest score and its sink. -/
theorem topr (b : Fin 24) (n : Fin 16) (g : Fin 2) (k : Fin 4) (i : Fin 128) :
    val_main_v149 (F := Ideal) x0 x1 x3 x4 x5 (ix6 b n g k i 0) =
      Cert.Att.top (okR n i) (dotr x0 x1 x3 x4 b n g k i) (x5 (ix1 ⟨4 * g.val + k.val, by omega⟩)) := by
  have hm := maxr x0 x1 x3 x4 b n g k i
  have h1 : val_main_v147 (F := Ideal) x0 x1 x3 x4 (ix6 b n g k i 0) = val_main_v146 (F := Ideal) x0 x1 x3 x4 (ix5 b n g k i) := by
    unfold val_main_v147
    generalize val_main_v146 (F := Ideal) x0 x1 x3 x4 = y
    pointwise
  have h2 : val_main_v148 (F := Ideal) x5 (ix6 b n g k i 0) = x5 (ix1 ⟨4 * g.val + k.val, by omega⟩) := by
    pointwise [val_main_v148, val_main_v145, val_main_v144]
    simp only [Nat.mul_comm _ 4]
  unfold val_main_v149
  generalize val_main_v147 (F := Ideal) x0 x1 x3 x4 = u at h1 ⊢
  generalize val_main_v148 (F := Ideal) x5 = w at h2 ⊢
  unfold Cert.Att.top
  exact (maximumf_at u w _).trans (congrArg₂ max (h1.trans hm) h2)

/-- The exponential of a score less the row's largest. -/
theorem expr (b : Fin 24) (n : Fin 16) (g : Fin 2) (k : Fin 4) (i : Fin 128) (j : Fin 384) :
    val_main_v152 (F := Ideal) x0 x1 x3 x4 x5 (ix6 b n g k i j) =
      Ideal.exp (Cert.Att.score (okR n i) (dotr x0 x1 x3 x4 b n g k i) j -
        Cert.Att.top (okR n i) (dotr x0 x1 x3 x4 b n g k i) (x5 (ix1 ⟨4 * g.val + k.val, by omega⟩))) := by
  pointwise [val_main_v152, val_main_v151, val_main_v150]
  rw [score, topr]

theorem denr (b : Fin 24) (n : Fin 16) (g : Fin 2) (k : Fin 4) (i : Fin 128) :
    val_main_v158 (F := Ideal) x0 x1 x3 x4 x5 (ix6 b n g k i 0) =
      Cert.Att.den (okR n i) (dotr x0 x1 x3 x4 b n g k i) (x5 (ix1 ⟨4 * g.val + k.val, by omega⟩)) := by
  pointwise [val_main_v158, val_main_v157, val_main_v156, val_main_v154]
  rw [sink, topr, val_main_v153_apply]
  have e : ∀ j : Fin 384, idx_main_v153 (ix5 b n g k i) j = ix6 b n g k i j := fun j => funext fun a => Fin.ext (by
      match a with | ⟨0, _⟩ => rfl | ⟨1, _⟩ => rfl | ⟨2, _⟩ => rfl | ⟨3, _⟩ => rfl | ⟨4, _⟩ => rfl | ⟨5, _⟩ => rfl)
  simp only [e, expr]
  have z : (val_main_cst_22 (F := Ideal)) (Shape.Idx.first h_S_) = (0 : EReal) := by
    show Ideal.ofBits .f32 0x00000000#32 = 0
    simp [Ideal.ofBits, Ideal.ieee]
  rw [z, zero_add]
  rfl

/-- The reference's result at an index. -/
theorem outr (b : Fin 24) (n : Fin 16) (i : Fin 128) (g : Fin 2) (k : Fin 4) (d : Fin 64) (r : Fin 49152) (c : Fin 512)
    (hr : r.val = 2048 * b.val + (128 * n.val + i.val)) (hc : c.val = 64 * (4 * g.val + k.val) + d.val) :
    val_main_v163 (F := Ideal) x0 x1 x2 x3 x4 x5 (ix2 r c) =
      Cert.Att.att (okR n i) (dotr x0 x1 x3 x4 b n g k i) (x5 (ix1 ⟨4 * g.val + k.val, by omega⟩))
        (pw (fun t => x2 (ix2 ⟨2048 * b.val + t.val, by omega⟩ ⟨64 * g.val + d.val, by omega⟩)) n) := by
  pointwise [val_main_v163, val_main_v162, val_main_v161, val_main_v160, val_main_v159]
  have e1 : (⟨r.val / 2048, by omega⟩ : Fin 24) = b := Fin.ext (by simp only; omega)
  have e2 : (⟨r.val / 128 % 16, by omega⟩ : Fin 16) = n := Fin.ext (by simp only; omega)
  have e3 : (⟨c.val / 256, by omega⟩ : Fin 2) = g := Fin.ext (by simp only; omega)
  have e4 : (⟨c.val % 64, by omega⟩ : Fin 64) = d := Fin.ext (by simp only; omega)
  have e5 : (⟨c.val / 64 % 4, by omega⟩ : Fin 4) = k := Fin.ext (by simp only; omega)
  have e6 : (⟨r.val % 128, by omega⟩ : Fin 128) = i := Fin.ext (by simp only; omega)
  suffices h : ∀ (b' : Fin 24) (n' : Fin 16) (g' : Fin 2) (d' : Fin 64) (k' : Fin 4) (i' : Fin 128),
      b' = b → n' = n → g' = g → d' = d → k' = k → i' = i →
      ∑ x : Fin 384, val_main_v107 (F := Ideal) x2 (ix5 b' n' x g' d') *
        Ideal.div (val_main_v152 (F := Ideal) x0 x1 x3 x4 x5 (ix6 b' n' g' k' i' x))
          (val_main_v158 (F := Ideal) x0 x1 x3 x4 x5 (ix6 b' n' g' k' i' 0)) =
      Cert.Att.att (okR n i) (dotr x0 x1 x3 x4 b n g k i) (x5 (ix1 ⟨4 * g.val + k.val, by omega⟩))
        (pw (fun t => x2 (ix2 ⟨2048 * b.val + t.val, by omega⟩ ⟨64 * g.val + d.val, by omega⟩)) n) from
    h _ _ _ _ _ _ e1 e2 e3 e4 e5 e6
  rintro _ _ _ _ _ _ rfl rfl rfl rfl rfl rfl
  refine Finset.sum_congr rfl fun j _ => ?_
  rw [win_v, expr, denr]
  exact mul_comm _ _

end Cert.ReferenceIdeal.Att

end
-- ==== Proof.Final.lean ====
/-
  The kernel's result is the reference's: the two read the same keys of each query's window in a different order, and the
  keys outside it weigh nothing in either.
-/
module

public import proofs.«01_k».proof.Proof.Array
public import proofs.«01_k».proof.Proof.RefRow

@[expose] public section

set_option maxRecDepth 16384

noncomputable section

namespace Cert.Final

open Idealize.ShloMosaic Idealize.ShloMosaic.TcCoe Idealize.ShloMosaic.Tactic
open Cert.KernelIdeal.Att Cert.ReferenceIdeal.Att

/-- How far the kernel's window of block `n` is turned against the reference's. -/
def turn (n : Fin 16) : ℕ := if n.val = 0 then 128 else if n.val = 15 then 256 else 0

theorem turn_lt (n : Fin 16) : turn n < 384 := by unfold turn; split <;> [omega; (split <;> omega)]

/-- The row of the reference's window that the kernel's row `j` is. -/
def shift (n : Fin 16) : Fin 384 ≃ Fin 384 where
  toFun j := ⟨(j.val + turn n) % 384, Nat.mod_lt _ (by omega)⟩
  invFun j := ⟨(j.val + (384 - turn n)) % 384, Nat.mod_lt _ (by omega)⟩
  left_inv j := Fin.ext (by have := turn_lt n; simp only; omega)
  right_inv j := Fin.ext (by have := turn_lt n; simp only; omega)

/-- A row inside the kernel's mask is the same position of the sequence in both windows. -/
theorem shift_pos (n : Fin 16) (i : Fin 128) (j : Fin 384) (h : okN n.val i j = 1#1) :
    128 * n.val + (shift n j).val = startN n.val + j.val + 128 := by
  have h' : startN n.val + j.val ≤ 128 * n.val + i.val + 128 ∧ 128 * n.val + i.val ≤ startN n.val + j.val + 128 := by
    by_contra hc
    rw [okN, if_neg hc] at h
    exact absurd h (by decide)
  show 128 * n.val + (j.val + turn n) % 384 = _
  unfold turn
  unfold startN at h' ⊢
  split <;> [omega; (split <;> omega)]

/-- The two masks agree. -/
theorem shift_ok (n : Fin 16) (i : Fin 128) (j : Fin 384) : okR n i (shift n j) = okN n.val i j := by
  unfold okR okN
  refine if_congr ?_ rfl rfl
  show (i.val ≤ (j.val + turn n) % 384 ∧ (j.val + turn n) % 384 ≤ i.val + 256) ∧ 128 ≤ 128 * n.val + (j.val + turn n) % 384 ∧
    128 * n.val + (j.val + turn n) % 384 < 2176 ↔ _
  unfold turn startN
  split <;> [omega; (split <;> omega)]

/-- The reference's window at the kernel's row. -/
theorem pw_shift (f : Fin 2048 → EReal) (n : Fin 16) (i : Fin 128) (j : Fin 384) (h : okN n.val i j = 1#1) :
    pw f n (shift n j) = f ⟨startN n.val + j.val, by have := startN_le n.val; omega⟩ := by
  have hp := shift_pos n i j h
  have := startN_le n.val
  unfold pw
  rw [dif_pos (by omega)]
  exact congrArg f (Fin.ext (by simp only; omega))

variable {q : Cert.KernelIdeal.S49152x512.Idx → EReal} {k v : Cert.KernelIdeal.S49152x128.Idx → EReal}
  {gq gk : Cert.KernelIdeal.S64.Idx → EReal} {sk : Cert.KernelIdeal.S8.Idx → EReal}
  (hq : ∀ y, Cert.Att.IsReal (q y)) (hk : ∀ y, Cert.Att.IsReal (k y)) (hgq : ∀ y, Cert.Att.IsReal (gq y))
  (hgk : ∀ y, Cert.Att.IsReal (gk y)) (hsk : ∀ y, sk y ≠ ⊤)

/-- The kernel's score of a row before the mask. -/
abbrev kscore (q : Cert.KernelIdeal.S49152x512.Idx → EReal) (k : Cert.KernelIdeal.S49152x128.Idx → EReal)
    (gq gk : Cert.KernelIdeal.S64.Idx → EReal) (b : Fin 24) (n : Fin 16) (i : Fin 128) (h : Fin 8) (j : Fin 384) : EReal :=
  (∑ e : Fin 64,
    Cert.Att.rot (fun e => q (ix2 ⟨2048 * b.val + (128 * n.val + i.val), by omega⟩ ⟨64 * h.val + e.val, by omega⟩))
        (fun e => gq (ix1 e))
        (fun p => Ideal.cos (Cert.Att.ang ⟨128 * n.val + i.val, by omega⟩ p))
        (fun p => Ideal.sin (Cert.Att.ang ⟨128 * n.val + i.val, by omega⟩ p)) e *
      Cert.Att.rot (fun e => k (ix2 ⟨2048 * b.val + (startN n.val + j.val), by have := startN_le n.val; omega⟩
          ⟨64 * (h.val / 4) + e.val, by omega⟩))
        (fun e => gk (ix1 e))
        (fun p => Ideal.cos (Cert.Att.ang ⟨startN n.val + j.val, by have := startN_le n.val; omega⟩ p))
        (fun p => Ideal.sin (Cert.Att.ang ⟨startN n.val + j.val, by have := startN_le n.val; omega⟩ p)) e) *
    Ideal.ofBits .f32 0x3E000000#32

/-- The reference's score at the kernel's row. -/
theorem dotr_shift (b : Fin 24) (n : Fin 16) (i : Fin 128) (h : Fin 8) (j : Fin 384) (hj : okN n.val i j = 1#1) :
    dotr q k gq gk b n ⟨h.val / 4, by omega⟩ ⟨h.val % 4, by omega⟩ i (shift n j) = kscore q k gq gk b n i h j := by
  have eh : 4 * (h.val / 4) + h.val % 4 = h.val := by omega
  unfold dotr kscore
  refine congrArg (· * _) (Finset.sum_congr rfl fun e _ => ?_)
  rw [pw_shift _ n i j hj, rot_q, rot_k]
  simp only [eh]

include hq hk hgq hgk hsk in
/-- The kernel's denominator is not zero: the row's own key is inside its mask. -/
theorem kden (b : Fin 24) (n : Fin 16) (i : Fin 128) (h : Fin 8) :
    Cert.Att.den (okN n.val i) (kscore q k gq gk b n i h) (sk (ix1 h)) ≠ 0 := by
  refine Cert.Att.den_ne_zero (fun j _ => ?_) (hsk _)
    (j0 := ⟨128 * n.val + i.val - startN n.val, by unfold startN; omega⟩) ?_
  · exact Cert.Att.IsReal.mul (Cert.Att.IsReal.sum fun e => Cert.Att.IsReal.mul
      (Cert.Att.rot_real (fun _ => hq _) (fun _ => hgq _) (fun _ => Cert.Att.cos_real (Cert.Att.ang_real _ _))
        (fun _ => Cert.Att.sin_real (Cert.Att.ang_real _ _)) e)
      (Cert.Att.rot_real (fun _ => hk _) (fun _ => hgk _) (fun _ => Cert.Att.cos_real (Cert.Att.ang_real _ _))
        (fun _ => Cert.Att.sin_real (Cert.Att.ang_real _ _)) e)) Cert.Att.lit_eighth
  · unfold okN
    refine if_pos ?_
    unfold startN
    simp only
    omega

include hq hk hgq hgk hsk in
/-- The two results are the same array. -/
theorem value_eq : kout q k v gq gk sk = Cert.ReferenceIdeal.Read.val_main_v163 (F := Ideal) q k v gq gk sk := by
  funext (y : Cert.KernelIdeal.S49152x512.Idx)
  obtain ⟨r, c, rfl⟩ : ∃ (r : Fin 49152) (c : Fin 512), y = ix2 r c := ⟨y 0, y 1, eq_ix2 y⟩
  obtain ⟨b, hb⟩ : ∃ b : Fin 24, b = ⟨r.val / 2048, by omega⟩ := ⟨_, rfl⟩
  obtain ⟨n, hn⟩ : ∃ n : Fin 16, n = ⟨r.val % 2048 / 128, by omega⟩ := ⟨_, rfl⟩
  obtain ⟨i, hi⟩ : ∃ i : Fin 128, i = ⟨r.val % 128, by omega⟩ := ⟨_, rfl⟩
  obtain ⟨h, hh⟩ : ∃ h : Fin 8, h = ⟨c.val / 64, by omega⟩ := ⟨_, rfl⟩
  obtain ⟨d, hd⟩ : ∃ d : Fin 64, d = ⟨c.val % 64, by omega⟩ := ⟨_, rfl⟩
  have eK : kout q k v gq gk sk (ix2 r c) = kval q k v gq gk sk b n i h d := by subst hb hn hi hh hd; rfl
  have vb := congrArg Fin.val hb
  have vn := congrArg Fin.val hn
  have vi := congrArg Fin.val hi
  have vh := congrArg Fin.val hh
  have vd := congrArg Fin.val hd
  simp only at vb vn vi vh vd
  have eh : (⟨4 * (h.val / 4) + h.val % 4, by omega⟩ : Fin 8) = h := Fin.ext (by simp only; omega)
  rw [eK]
  refine Eq.trans ?_ (outr q k v gq gk sk b n i ⟨h.val / 4, by omega⟩ ⟨h.val % 4, by omega⟩ d r c (by omega)
    (by simp only; omega)).symm
  simp only [eh]
  exact Cert.Att.att_reindex (shift n) (fun j => shift_ok n i j) (fun j hj => dotr_shift b n i h j hj)
    (fun j hj => pw_shift _ n i j hj) (kden hq hk hgq hgk hsk b n i h)

end Cert.Final

end
-- ==== Proof.Pre.lean ====
/-
  The precondition, read: the queries, the keys and both gains are real, and no sink is `+∞`.
-/
module

public import proofs.«01_k».proof.Pre_finite_inputs
public import proofs.«01_k».proof.Proof.Math
public import Idealize.ShloMosaic.Lib.Pointwise
public import Idealize.ShloMosaic.Lib.Affine
public import Idealize.ShloMosaic.Lib.Decide

@[expose] public section

set_option maxRecDepth 16384

noncomputable section

namespace Cert.Pre_finite_inputs.Att

open Idealize.ShloMosaic Idealize.ShloMosaic.Tactic Cert.Pre_finite_inputs

/-- The shape relations the precondition's operations take. -/
theorem facts : Cert.Pre_finite_inputs.Facts where
  bcast_S_S49152x512 := by decide
  reducesTo_S49152x512_S_d0_1 := by decide
  h_S_ := by decide
  bcast_S_S49152x128 := by decide
  reducesTo_S49152x128_S_d0_1 := by decide
  bcast_S_S64 := by decide
  reducesTo_S64_S_d0 := by decide
  bcast_S_S8 := by decide
  reducesTo_S8_S_d0 := by decide

theorem and_one {a b : BitVec 1} (h : IntOp.andi a b = 1#1) : a = 1#1 ∧ b = 1#1 := by
  revert a b; decide

/-- A conjunction over a finite set holds only if each of its members does. -/
theorem fold_one {ι : Type} [DecidableEq ι] (s : Finset ι) (f : ι → BitVec 1) :
    s.fold IntOp.andi 1#1 f = 1#1 → ∀ i ∈ s, f i = 1#1 := by
  refine Finset.induction_on s (fun _ i hi => absurd hi (Finset.notMem_empty i)) (fun a s ha ih h i hi => ?_)
  rw [Finset.fold_insert ha] at h
  obtain ⟨h1, h2⟩ := and_one h
  rcases Finset.mem_insert.1 hi with rfl | hi
  · exact h1
  · exact ih h2 i hi

theorem all_one {s : Shape} {axes : List (Fin s.rank)} (x : IVec s 1) (h : s.ReducesTo axes S_) (hu : 0 < S_.numel)
    (e : Host.reduce IntOp.andi x (constantI S_ 1 1#1) h hu ix0 = 1#1) (i : s.Idx) : x i = 1#1 := by
  classical
  rw [Host.reduce_eq_fold] at e
  exact fold_one _ x e i (Finset.mem_filter.2 ⟨Finset.mem_univ i, funext fun a => a.elim0⟩)

/-- A magnitude below `+∞` is that of a real. -/
theorem real_of_abs {x : EReal} (h : Ideal.cmp .olt (max x (-x)) (Ideal.ofBits .f32 0x7F800000#32) = 1#1) : Cert.Att.IsReal x := by
  rw [Cert.Att.lit_inf] at h
  have h' : max x (-x) < ⊤ := by
    by_contra hc
    have : Ideal.cmp .olt (max x (-x)) ⊤ = BitVec.ofBool (decide (max x (-x) < ⊤)) := rfl
    rw [this, decide_eq_false hc] at h
    exact absurd h (by decide)
  refine Cert.Att.IsReal.of_ne (fun e => ?_) (fun e => ?_) <;> subst e <;> simp at h'

theorem ne_top_of_lt {x : EReal} (h : Ideal.cmp .olt x (Ideal.ofBits .f32 0x7F800000#32) = 1#1) : x ≠ ⊤ := by
  rw [Cert.Att.lit_inf] at h
  rintro rfl
  have : Ideal.cmp .olt (⊤ : EReal) ⊤ = BitVec.ofBool (decide ((⊤ : EReal) < ⊤)) := rfl
  rw [this, decide_eq_false (lt_irrefl _)] at h
  exact absurd h (by decide)

variable [Cert.Pre_finite_inputs.Facts]

/-- What the precondition says. -/
theorem read (q : FVec Ideal S49152x512 .f32) (k v : FVec Ideal S49152x128 .f32) (gq gk : FVec Ideal S64 .f32)
    (sk : FVec Ideal S8 .f32) (h : fn (F := Ideal) q k v gq gk sk = fun _ => 1#1) :
    (∀ y, Cert.Att.IsReal (q y)) ∧ (∀ y, Cert.Att.IsReal (k y)) ∧ (∀ y, Cert.Att.IsReal (gq y)) ∧
      (∀ y, Cert.Att.IsReal (gk y)) ∧ ∀ y, sk y ≠ ⊤ := by
  have h0 := congrFun h ix0
  unfold fn fn_part1 at h0
  obtain ⟨h1, h5⟩ := and_one h0
  obtain ⟨h1, h4⟩ := and_one h1
  obtain ⟨h1, h3⟩ := and_one h1
  obtain ⟨h1, h2⟩ := and_one h1
  exact ⟨fun y => real_of_abs (all_one _ _ _ h1 y), fun y => real_of_abs (all_one _ _ _ h2 y),
    fun y => real_of_abs (all_one _ _ _ h3 y), fun y => real_of_abs (all_one _ _ _ h4 y),
    fun y => ne_top_of_lt (all_one _ _ _ h5 y)⟩

end Cert.Pre_finite_inputs.Att

end
-- ==== Proof.Attention.lean ====
/-
  The claims about the attention: the frames, and the equality of the kernel's result with the reference's.
-/
module

public import proofs.«01_k».proof.Defs
public import proofs.«01_k».proof.Proof.Final
public import proofs.«01_k».proof.Proof.Pre
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read

@[expose] public section

set_option maxRecDepth 16384

noncomputable section

namespace Cert.Attention

open Idealize.ShloMosaic Idealize.ShloMosaic.TcCoe Idealize.SL.Sem

theorem frame_p : Cert.quiescent_Kernel := fun m ρ _ => Cert.Kernel.Gen.frame m ρ

theorem frame_pi : Cert.quiescent_KernelIdeal := fun m ρ _ => Cert.KernelIdeal.Gen.frame m ρ

theorem frame_pi_pre [Cert.Pre_finite_inputs.Facts] : Cert.quiescent_KernelIdeal_pre_finite_inputs :=
  fun m ρ _ => Cert.KernelIdeal.Gen.frame m ρ

/-- The reference keeps its arguments, and it has no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ri_pre [Cert.Pre_finite_inputs.Facts] : Cert.quiescent_ReferenceIdeal_pre_finite_inputs :=
  fun m ρ _ => frame_ri m ρ trivial

/-- The kernel's result array is the reference's, for real queries, keys and gains and sinks below `+∞`. -/
theorem algebraic [Cert.Pre_finite_inputs.Facts] : Cert.algebraic_KernelIdeal_ReferenceIdeal_pre_finite_inputs := by
  intro m ρ m' ρ' hpre hag
  refine ⟨fun c => Cert.KernelIdeal.Att.kmem m c, ?_, ?_⟩
  · refine (θ_run _ _ _).mono (fun r h c => ?_) (Cert.KernelIdeal.Value.run_blocks m ρ)
    obtain ⟨hq, hk, -, -, -⟩ := Cert.Pre_finite_inputs.Att.read _ _ _ _ _ _ (hpre c)
    exact ⟨(h c).1.trans (Cert.KernelIdeal.Att.final_eq m c hq hk), (h c).2⟩
  · refine (θ_run _ _ _).mono (fun r h c => ?_) (Cert.ReferenceIdeal.Value.run m' ρ')
    obtain ⟨hq, hk, hgq, hgk, hsk⟩ := Cert.Pre_finite_inputs.Att.read _ _ _ _ _ _ (hpre c)
    refine ⟨?_, (h c).2⟩
    refine (h c).1.trans ((Cert.ReferenceIdeal.Read.val_main_v163_eq (F := Ideal)
      (StableHlo.launchContents m' c)).trans ?_)
    obtain ⟨e0, e1, e2, e3, e4, e5⟩ := hag c
    have e := (Cert.Final.value_eq (v := m ((c.tc : Thread Cert.KernelIdeal.nD Cert.KernelIdeal.τ).loc Cert.KernelIdeal.main_arg2))
      hq hk hgq hgk hsk).symm
    rw [← e0, ← e1, ← e2, ← e3, ← e4, ← e5] at e
    refine Eq.trans e ?_
    rw [e0, e1, e2, e3, e4, e5]

end Cert.Attention

end
-- ==== Proof.Inproj.Block.lean ====
/-
  The input projection: its value, and what one block of the kernel computes.
-/
module

public import proofs.«01_k».proof.Proof.Gen.Kernel2Ideal.Value
public import Idealize.ShloMosaic.Lib.Pointwise
public import Idealize.ShloMosaic.Lib.StableHlo.RunRead

@[expose] public section

set_option maxRecDepth 16384

noncomputable section

namespace Cert.Inproj

open Idealize.ShloMosaic Idealize.ShloMosaic.TcCoe Idealize.ShloMosaic.Tactic
open Cert.Kernel2Ideal Cert.Kernel2Ideal.Gen Cert.Kernel2Ideal.Value

/-- A coordinate of the projection of one token: the token `x` over its root mean square, times the gain `g`, scaled by
`1 + sc` and shifted by `sh`, against one column `w` of the weight. The two words are 1024 and the rounding of 1e-6. -/
def cell (x g sc sh w : Fin 1024 → EReal) : EReal :=
  ∑ k, (x k * Ideal.rsqrt (Ideal.div (∑ i, x i * x i) (Ideal.ofBits .f32 0x44800000#32) + Ideal.ofBits .f32 0x358637BD#32)
    * g k * (1 + sc k) + sh k) * w k

/-- The projection of whole arrays, at row `r` and column `j`: token `r`'s sequence is `r / 2048`, the shift and the
scale are the first two of the six parts of its modulation. -/
def proj (x : S49152x1024.Idx → EReal) (md : S24x6144.Idx → EReal) (g : S1024.Idx → EReal)
    (w : S1024x4352.Idx → EReal) (r : Fin 49152) (j : Fin 4352) : EReal :=
  cell (fun k => x (ix2 r k)) (fun k => g (ix1 k))
    (fun k => md (ix2 ⟨r.val / 2048, by omega⟩ ⟨1024 + k.val, by omega⟩))
    (fun k => md (ix2 ⟨r.val / 2048, by omega⟩ ⟨k.val, by omega⟩)) (fun k => w (ix2 k j))

section
variable (x0 : Vec Ideal S256x1024 .f32) (x1 : Vec Ideal S1x6x1024 .f32) (x2 : Vec Ideal S1x1024 .f32)
  (x3 : Vec Ideal S1024x4352 .bf16) (r : Fin 256)

/-- The projection of row `r` of a block, at column `j`. -/
abbrev blockCell (j : Fin 4352) : EReal :=
  cell (fun k => x0 (ix2 r k)) (fun k => x2 (ix2 0 k)) (fun k => x1 (ix3 0 1 k)) (fun k => x1 (ix3 0 0 k))
    (fun k => x3 (ix2 k j))

/-! What the body leaves at a place of each of its six blocks: each is a range of columns of the one product. -/

theorem out4_apply (j : Fin 1536) :
    out0_4 x0 x1 x2 x3 (ix2 r j) = blockCell x0 x1 x2 x3 r ⟨j.val, by omega⟩ := by
  have h2 : (![0, 0] : Fin 2 → ℕ) = fun _ => 0 := by funext a; fin_cases a <;> rfl
  have h3 : (![0, 0, 0] : Fin 3 → ℕ) = fun _ => 0 := by funext a; fin_cases a <;> rfl
  unfold out0_4
  rw [View.canon_cons_unit_zero h2, View.ld_unit_zero h3, View.ld_unit_zero h2, View.ld_unit_zero h2,
    View.ld_unit_zero h2]
  unfold blockCell cell
  pointwise [k0_pay4, k0_pay3]

theorem out5_apply (j : Fin 512) :
    out0_5 x0 x1 x2 x3 (ix2 r j) = blockCell x0 x1 x2 x3 r ⟨1536 + j.val, by omega⟩ := by
  have h2 : (![0, 0] : Fin 2 → ℕ) = fun _ => 0 := by funext a; fin_cases a <;> rfl
  have h3 : (![0, 0, 0] : Fin 3 → ℕ) = fun _ => 0 := by funext a; fin_cases a <;> rfl
  unfold out0_5
  rw [View.canon_cons_unit_zero h2, View.ld_unit_zero h3, View.ld_unit_zero h2, View.ld_unit_zero h2,
    View.ld_unit_zero h2]
  unfold blockCell cell
  pointwise [k0_pay5, k0_pay3]

theorem out6_apply (j : Fin 128) :
    out0_6 x0 x1 x2 x3 (ix2 r j) = blockCell x0 x1 x2 x3 r ⟨2048 + j.val, by omega⟩ := by
  have h2 : (![0, 0] : Fin 2 → ℕ) = fun _ => 0 := by funext a; fin_cases a <;> rfl
  have h3 : (![0, 0, 0] : Fin 3 → ℕ) = fun _ => 0 := by funext a; fin_cases a <;> rfl
  unfold out0_6
  rw [View.canon_cons_unit_zero h2, View.ld_unit_zero h3, View.ld_unit_zero h2, View.ld_unit_zero h2,
    View.ld_unit_zero h2]
  unfold blockCell cell
  pointwise [k0_pay6, k0_pay3]

theorem out7_apply (j : Fin 128) :
    out0_7 x0 x1 x2 x3 (ix2 r j) = blockCell x0 x1 x2 x3 r ⟨2176 + j.val, by omega⟩ := by
  have h2 : (![0, 0] : Fin 2 → ℕ) = fun _ => 0 := by funext a; fin_cases a <;> rfl
  have h3 : (![0, 0, 0] : Fin 3 → ℕ) = fun _ => 0 := by funext a; fin_cases a <;> rfl
  unfold out0_7
  rw [View.canon_cons_unit_zero h2, View.ld_unit_zero h3, View.ld_unit_zero h2, View.ld_unit_zero h2,
    View.ld_unit_zero h2]
  unfold blockCell cell
  pointwise [k0_pay7, k0_pay3]

theorem out8_apply (j : Fin 1024) :
    out0_8 x0 x1 x2 x3 (ix2 r j) = blockCell x0 x1 x2 x3 r ⟨2304 + j.val, by omega⟩ := by
  have h2 : (![0, 0] : Fin 2 → ℕ) = fun _ => 0 := by funext a; fin_cases a <;> rfl
  have h3 : (![0, 0, 0] : Fin 3 → ℕ) = fun _ => 0 := by funext a; fin_cases a <;> rfl
  unfold out0_8 k0_pay8
  rw [View.canon_cons_unit_zero h2, View.ld_unit_zero h3, View.ld_unit_zero h2, View.ld_unit_zero h2,
    View.ld_unit_zero h2]
  unfold blockCell cell
  pointwise [k0_pay1, k0_pay3]

theorem out9_apply (j : Fin 1024) :
    out0_9 x0 x1 x2 x3 (ix2 r j) = blockCell x0 x1 x2 x3 r ⟨3328 + j.val, by omega⟩ := by
  have h2 : (![0, 0] : Fin 2 → ℕ) = fun _ => 0 := by funext a; fin_cases a <;> rfl
  have h3 : (![0, 0, 0] : Fin 3 → ℕ) = fun _ => 0 := by funext a; fin_cases a <;> rfl
  unfold out0_9 k0_pay8
  rw [View.canon_cons_unit_zero h2, View.ld_unit_zero h3, View.ld_unit_zero h2, View.ld_unit_zero h2,
    View.ld_unit_zero h2]
  unfold blockCell cell
  pointwise [k0_pay2, k0_pay3]
end

variable (m : (ℓ : Loc nD τ sig) → Buf (Elt Ideal) ℓ) (c : Dev nD)

theorem V_mod (b : Fin 24) (s : Fin 6) (j : Fin 1024) : (V m c main_v0 : FVec Ideal S24x6x1024 .f32) (ix3 b s j) =
    (m (c, Proc.tc.devRef main_arg1) : FVec Ideal S24x6144 .f32) (ix2 b ⟨s.val * 1024 + j.val, by omega⟩) := by
  unfold V
  after_reads_simp
  pointwise

theorem V_w (i : Fin 1024) (j : Fin 4352) : (V m c main_v1 : FVec Ideal S1024x4352 .bf16) (ix2 i j) =
    (m (c, Proc.tc.devRef main_arg3) : FVec Ideal S1024x4352 .f32) (ix2 i j) := by
  unfold V
  after_reads_simp
  pointwise

theorem V_gain (j : Fin 1024) : (V m c main_v2 : FVec Ideal S1x1024 .f32) (ix2 0 j) =
    (m (c, Proc.tc.devRef main_arg2) : FVec Ideal S1024 .f32) (ix1 j) := by
  unfold V
  after_reads_simp
  pointwise

/-! ## The blocks of the inputs -/

theorem idx_rows : ∀ t : Fin cfg0.N, win0_0.index t (0 : Fin 2) = t.val ∧ win0_0.index t (1 : Fin 2) = 0 := by
  decide +kernel

theorem idx_mod : ∀ t : Fin cfg0.N, win0_1.index t (0 : Fin 3) = t.val / 8 ∧ win0_1.index t (1 : Fin 3) = 0 ∧
    win0_1.index t (2 : Fin 3) = 0 := by decide +kernel

theorem idx_full : ∀ t : Fin cfg0.N,
    (win0_2.index t (0 : Fin 2) = 0 ∧ win0_2.index t (1 : Fin 2) = 0) ∧
    (win0_3.index t (0 : Fin 2) = 0 ∧ win0_3.index t (1 : Fin 2) = 0) := by decide +kernel

theorem N192 (t : Fin cfg0.N) : t.val < 192 := lt_of_lt_of_le t.isLt (le_of_eq (by decide +kernel))

/-- The row of the array that row `r` of block `t` is. -/
abbrev row (t : Fin cfg0.N) (r : Fin 256) : Fin 49152 := ⟨256 * t.val + r.val, by have := N192 t; omega⟩

section
variable (t : Fin cfg0.N)

theorem iblk0_eq (r : Fin 256) (j : Fin 1024) : (iblk m c 0 t : FVec Ideal S256x1024 .f32) (ix2 r j) =
    (m (c, Proc.tc.devRef main_arg0) : FVec Ideal S49152x1024 .f32) (ix2 (row t r) j) := by
  have e : ((cfg0.win 0).blk t).view.emb (ix2 r j : S256x1024.Idx) = (ix2 (row t r) j : S49152x1024.Idx) := by
    obtain ⟨e0, e1⟩ := idx_rows t
    funext a; apply Fin.ext
    match a with
    | ⟨0, _⟩ => show win0_0.index t (0 : Fin 2) * 256 + 1 * r.val = 256 * t.val + r.val; omega
    | ⟨1, _⟩ => show win0_0.index t (1 : Fin 2) * 1024 + 1 * j.val = j.val; omega
  show (V m c main_arg0 : FVec Ideal S49152x1024 .f32) (((cfg0.win 0).blk t).view.emb (ix2 r j : S256x1024.Idx)) = _
  rw [e, V_main_arg0]

theorem iblk1_eq (s : Fin 6) (j : Fin 1024) : (iblk m c 1 t : FVec Ideal S1x6x1024 .f32) (ix3 0 s j) =
    (m (c, Proc.tc.devRef main_arg1) : FVec Ideal S24x6144 .f32)
      (ix2 ⟨t.val / 8, by have := N192 t; omega⟩ ⟨s.val * 1024 + j.val, by omega⟩) := by
  have e : ((cfg0.win 1).blk t).view.emb (ix3 0 s j : S1x6x1024.Idx) =
      (ix3 (⟨t.val / 8, by have := N192 t; omega⟩ : Fin 24) s j : S24x6x1024.Idx) := by
    obtain ⟨e0, e1, e2⟩ := idx_mod t
    funext a; apply Fin.ext
    match a with
    | ⟨0, _⟩ => show win0_1.index t (0 : Fin 3) * 1 + 1 * 0 = t.val / 8; omega
    | ⟨1, _⟩ => show win0_1.index t (1 : Fin 3) * 6 + 1 * s.val = s.val; omega
    | ⟨2, _⟩ => show win0_1.index t (2 : Fin 3) * 1024 + 1 * j.val = j.val; omega
  show (V m c main_v0 : FVec Ideal S24x6x1024 .f32) (((cfg0.win 1).blk t).view.emb (ix3 0 s j : S1x6x1024.Idx)) = _
  rw [e]; exact V_mod m c _ _ _

theorem iblk2_eq (j : Fin 1024) : (iblk m c 2 t : FVec Ideal S1x1024 .f32) (ix2 0 j) =
    (m (c, Proc.tc.devRef main_arg2) : FVec Ideal S1024 .f32) (ix1 j) := by
  have e : ((cfg0.win 2).blk t).view.emb (ix2 0 j : S1x1024.Idx) = (ix2 0 j : S1x1024.Idx) := by
    obtain ⟨⟨e0, e1⟩, -⟩ := idx_full t
    funext a; apply Fin.ext
    match a with
    | ⟨0, _⟩ => show win0_2.index t (0 : Fin 2) * 1 + 1 * 0 = 0; omega
    | ⟨1, _⟩ => show win0_2.index t (1 : Fin 2) * 1024 + 1 * j.val = j.val; omega
  show (V m c main_v2 : FVec Ideal S1x1024 .f32) (((cfg0.win 2).blk t).view.emb (ix2 0 j : S1x1024.Idx)) = _
  rw [e]; exact V_gain m c j

theorem iblk3_eq (i : Fin 1024) (j : Fin 4352) : (iblk m c 3 t : FVec Ideal S1024x4352 .bf16) (ix2 i j) =
    (m (c, Proc.tc.devRef main_arg3) : FVec Ideal S1024x4352 .f32) (ix2 i j) := by
  have e : ((cfg0.win 3).blk t).view.emb (ix2 i j : S1024x4352.Idx) = (ix2 i j : S1024x4352.Idx) := by
    obtain ⟨-, e0, e1⟩ := idx_full t
    funext a; apply Fin.ext
    match a with
    | ⟨0, _⟩ => show win0_3.index t (0 : Fin 2) * 1024 + 1 * i.val = i.val; omega
    | ⟨1, _⟩ => show win0_3.index t (1 : Fin 2) * 4352 + 1 * j.val = j.val; omega
  show (V m c main_v1 : FVec Ideal S1024x4352 .bf16) (((cfg0.win 3).blk t).view.emb (ix2 i j : S1024x4352.Idx)) = _
  rw [e]; exact V_w m c i j
end

/-- The projection of the arguments in memory. -/
abbrev projMem (r : Fin 49152) (j : Fin 4352) : EReal :=
  proj (m (c, Proc.tc.devRef main_arg0)) (m (c, Proc.tc.devRef main_arg1)) (m (c, Proc.tc.devRef main_arg2))
    (m (c, Proc.tc.devRef main_arg3)) r j

/-- The projection of a row of the blocks at point `t` is the projection of that row of the arguments. -/
theorem blockCell_eq (t : Fin cfg0.N) (r : Fin 256) (j : Fin 4352) :
    blockCell (iblk m c 0 t) (iblk m c 1 t) (iblk m c 2 t) (iblk m c 3 t) r j = projMem m c (row t r) j := by
  unfold blockCell
  simp only [iblk0_eq, iblk1_eq, iblk2_eq, iblk3_eq]
  unfold projMem proj
  have ht := N192 t
  have eb : (⟨t.val / 8, by omega⟩ : Fin 24) = ⟨(256 * t.val + r.val) / 2048, by omega⟩ := Fin.ext (by simp only; omega)
  have es : ∀ k : Fin 1024, (⟨(1 : Fin 6).val * 1024 + k.val, by omega⟩ : Fin 6144) = ⟨1024 + k.val, by omega⟩ :=
    fun k => Fin.ext (by simp)
  have e0 : ∀ k : Fin 1024, (⟨(0 : Fin 6).val * 1024 + k.val, by omega⟩ : Fin 6144) = ⟨k.val, by omega⟩ :=
    fun k => Fin.ext (by simp)
  simp only [eb, es, e0]

end Cert.Inproj

end
-- ==== Proof.Inproj.Array.lean ====
/-
  The input projection: the six result arrays of the kernel after the run.
-/
module

public import proofs.«01_k».proof.Proof.Inproj.Block

@[expose] public section

set_option maxRecDepth 16384

noncomputable section

namespace Cert.Inproj

open Idealize.ShloMosaic Idealize.ShloMosaic.TcCoe
open Cert.Kernel2Ideal Cert.Kernel2Ideal.Gen Cert.Kernel2Ideal.Value

variable (m : (ℓ : Loc nD τ sig) → Buf (Elt Ideal) ℓ) (c : Dev nD)

/-- Row `r` is a row of the block `r / 256`. -/
theorem row_of (r : Fin 49152) : ∃ t : Fin cfg0.N, row t ⟨r.val % 256, by omega⟩ = r :=
  ⟨⟨r.val / 256, lt_of_lt_of_eq (by omega : r.val / 256 < 192) (by decide +kernel)⟩, Fin.ext (by simp only [row]; omega)⟩

/-- The `n` columns from `o` on of the projection `z`. -/
abbrev cols (n o : ℕ) (h : o + n ≤ 4352) (z : Fin 49152 → Fin 4352 → EReal) (r : Fin 49152) (j : Fin n) : EReal :=
  z r ⟨o + j.val, by omega⟩

/-! ## Result 0: 1536 columns, from 0 on -/

theorem idx4 : ∀ t : Fin cfg0.N, win0_4.index t (0 : Fin 2) = t.val ∧ win0_4.index t (1 : Fin 2) = 0 := by
  decide +kernel

theorem emb4 (t : Fin cfg0.N) (r : Fin 256) (j : Fin 1536) :
    ((cfg0.win 4).blk t).view.emb (ix2 r j : S256x1536.Idx) = (ix2 (row t r) j : S49152x1536.Idx) := by
  obtain ⟨e0, e1⟩ := idx4 t
  funext a; apply Fin.ext
  match a with
  | ⟨0, _⟩ => show win0_4.index t (0 : Fin 2) * 256 + 1 * r.val = 256 * t.val + r.val; omega
  | ⟨1, _⟩ => show win0_4.index t (1 : Fin 2) * 1536 + 1 * j.val = j.val; omega

/-- Result 0 of the arguments in memory. -/
abbrev res4 : S49152x1536.Idx → EReal := fun y => cols 1536 0 (by decide) (projMem m c) (y 0) (y 1)

theorem flushed4_eq (t : Fin cfg0.N) :
    (dats m 0 c).flushed 4 t = ((cfg0.win 4).blk t).view.read (Elt Ideal) (res4 m c) := by
  rw [flushed4]
  funext (y : S256x1536.Idx)
  obtain ⟨r, j, rfl⟩ : ∃ (r : Fin 256) (j : Fin 1536), y = ix2 r j := ⟨y 0, y 1, eq_ix2 y⟩
  refine (out4_apply _ _ _ _ r j).trans ((blockCell_eq m c t r _).trans ?_)
  show _ = res4 m c (((cfg0.win 4).blk t).view.emb (ix2 r j : S256x1536.Idx))
  rw [emb4]
  exact congrArg (projMem m c (row t r)) (Fin.ext (Nat.zero_add j.val).symm)

theorem cover4 (y : S49152x1536.Idx) :
    ∃ t : Fin cfg0.N, (cfg0.win 4).flush t = true ∧ y ∈ ((cfg0.win 4).blk t).view.set := by
  obtain ⟨r, j, rfl⟩ : ∃ (r : Fin 49152) (j : Fin 1536), y = ix2 r j := ⟨y 0, y 1, eq_ix2 y⟩
  obtain ⟨t, e⟩ := row_of r
  refine ⟨t, flush0_4 t, ?_⟩
  have h := ((cfg0.win 4).blk t).view.emb_mem_set (ix2 (⟨r.val % 256, by omega⟩ : Fin 256) j : S256x1536.Idx)
  rw [emb4] at h
  exact (congrArg (fun a => (ix2 a j : S49152x1536.Idx)) e) ▸ h

theorem final4 : (dats m 0 c).arrAt 4 cfg0.N = res4 m c :=
  (dats m 0 c).arrAt_eq_of_cover 4 (res4 m c) (fun t _ => flushed4_eq m c t) cover4

/-! ## Result 1: 512 columns, from 1536 on -/

theorem idx5 : ∀ t : Fin cfg0.N, win0_5.index t (0 : Fin 2) = t.val ∧ win0_5.index t (1 : Fin 2) = 0 := by
  decide +kernel

theorem emb5 (t : Fin cfg0.N) (r : Fin 256) (j : Fin 512) :
    ((cfg0.win 5).blk t).view.emb (ix2 r j : S256x512.Idx) = (ix2 (row t r) j : S49152x512.Idx) := by
  obtain ⟨e0, e1⟩ := idx5 t
  funext a; apply Fin.ext
  match a with
  | ⟨0, _⟩ => show win0_5.index t (0 : Fin 2) * 256 + 1 * r.val = 256 * t.val + r.val; omega
  | ⟨1, _⟩ => show win0_5.index t (1 : Fin 2) * 512 + 1 * j.val = j.val; omega

/-- Result 1 of the arguments in memory. -/
abbrev res5 : S49152x512.Idx → EReal := fun y => cols 512 1536 (by decide) (projMem m c) (y 0) (y 1)

theorem flushed5_eq (t : Fin cfg0.N) :
    (dats m 0 c).flushed 5 t = ((cfg0.win 5).blk t).view.read (Elt Ideal) (res5 m c) := by
  rw [flushed5]
  funext (y : S256x512.Idx)
  obtain ⟨r, j, rfl⟩ : ∃ (r : Fin 256) (j : Fin 512), y = ix2 r j := ⟨y 0, y 1, eq_ix2 y⟩
  refine (out5_apply _ _ _ _ r j).trans ((blockCell_eq m c t r _).trans ?_)
  show _ = res5 m c (((cfg0.win 5).blk t).view.emb (ix2 r j : S256x512.Idx))
  rw [emb5]
  rfl

theorem cover5 (y : S49152x512.Idx) :
    ∃ t : Fin cfg0.N, (cfg0.win 5).flush t = true ∧ y ∈ ((cfg0.win 5).blk t).view.set := by
  obtain ⟨r, j, rfl⟩ : ∃ (r : Fin 49152) (j : Fin 512), y = ix2 r j := ⟨y 0, y 1, eq_ix2 y⟩
  obtain ⟨t, e⟩ := row_of r
  refine ⟨t, flush0_5 t, ?_⟩
  have h := ((cfg0.win 5).blk t).view.emb_mem_set (ix2 (⟨r.val % 256, by omega⟩ : Fin 256) j : S256x512.Idx)
  rw [emb5] at h
  exact (congrArg (fun a => (ix2 a j : S49152x512.Idx)) e) ▸ h

theorem final5 : (dats m 0 c).arrAt 5 cfg0.N = res5 m c :=
  (dats m 0 c).arrAt_eq_of_cover 5 (res5 m c) (fun t _ => flushed5_eq m c t) cover5

/-! ## Result 2: 128 columns, from 2048 on -/

theorem idx6 : ∀ t : Fin cfg0.N, win0_6.index t (0 : Fin 2) = t.val ∧ win0_6.index t (1 : Fin 2) = 0 := by
  decide +kernel

theorem emb6 (t : Fin cfg0.N) (r : Fin 256) (j : Fin 128) :
    ((cfg0.win 6).blk t).view.emb (ix2 r j : S256x128.Idx) = (ix2 (row t r) j : S49152x128.Idx) := by
  obtain ⟨e0, e1⟩ := idx6 t
  funext a; apply Fin.ext
  match a with
  | ⟨0, _⟩ => show win0_6.index t (0 : Fin 2) * 256 + 1 * r.val = 256 * t.val + r.val; omega
  | ⟨1, _⟩ => show win0_6.index t (1 : Fin 2) * 128 + 1 * j.val = j.val; omega

/-- Result 2 of the arguments in memory. -/
abbrev res6 : S49152x128.Idx → EReal := fun y => cols 128 2048 (by decide) (projMem m c) (y 0) (y 1)

theorem flushed6_eq (t : Fin cfg0.N) :
    (dats m 0 c).flushed 6 t = ((cfg0.win 6).blk t).view.read (Elt Ideal) (res6 m c) := by
  rw [flushed6]
  funext (y : S256x128.Idx)
  obtain ⟨r, j, rfl⟩ : ∃ (r : Fin 256) (j : Fin 128), y = ix2 r j := ⟨y 0, y 1, eq_ix2 y⟩
  refine (out6_apply _ _ _ _ r j).trans ((blockCell_eq m c t r _).trans ?_)
  show _ = res6 m c (((cfg0.win 6).blk t).view.emb (ix2 r j : S256x128.Idx))
  rw [emb6]
  rfl

theorem cover6 (y : S49152x128.Idx) :
    ∃ t : Fin cfg0.N, (cfg0.win 6).flush t = true ∧ y ∈ ((cfg0.win 6).blk t).view.set := by
  obtain ⟨r, j, rfl⟩ : ∃ (r : Fin 49152) (j : Fin 128), y = ix2 r j := ⟨y 0, y 1, eq_ix2 y⟩
  obtain ⟨t, e⟩ := row_of r
  refine ⟨t, flush0_6 t, ?_⟩
  have h := ((cfg0.win 6).blk t).view.emb_mem_set (ix2 (⟨r.val % 256, by omega⟩ : Fin 256) j : S256x128.Idx)
  rw [emb6] at h
  exact (congrArg (fun a => (ix2 a j : S49152x128.Idx)) e) ▸ h

theorem final6 : (dats m 0 c).arrAt 6 cfg0.N = res6 m c :=
  (dats m 0 c).arrAt_eq_of_cover 6 (res6 m c) (fun t _ => flushed6_eq m c t) cover6

/-! ## Result 3: 128 columns, from 2176 on -/

theorem idx7 : ∀ t : Fin cfg0.N, win0_7.index t (0 : Fin 2) = t.val ∧ win0_7.index t (1 : Fin 2) = 0 := by
  decide +kernel

theorem emb7 (t : Fin cfg0.N) (r : Fin 256) (j : Fin 128) :
    ((cfg0.win 7).blk t).view.emb (ix2 r j : S256x128.Idx) = (ix2 (row t r) j : S49152x128.Idx) := by
  obtain ⟨e0, e1⟩ := idx7 t
  funext a; apply Fin.ext
  match a with
  | ⟨0, _⟩ => show win0_7.index t (0 : Fin 2) * 256 + 1 * r.val = 256 * t.val + r.val; omega
  | ⟨1, _⟩ => show win0_7.index t (1 : Fin 2) * 128 + 1 * j.val = j.val; omega

/-- Result 3 of the arguments in memory. -/
abbrev res7 : S49152x128.Idx → EReal := fun y => cols 128 2176 (by decide) (projMem m c) (y 0) (y 1)

theorem flushed7_eq (t : Fin cfg0.N) :
    (dats m 0 c).flushed 7 t = ((cfg0.win 7).blk t).view.read (Elt Ideal) (res7 m c) := by
  rw [flushed7]
  funext (y : S256x128.Idx)
  obtain ⟨r, j, rfl⟩ : ∃ (r : Fin 256) (j : Fin 128), y = ix2 r j := ⟨y 0, y 1, eq_ix2 y⟩
  refine (out7_apply _ _ _ _ r j).trans ((blockCell_eq m c t r _).trans ?_)
  show _ = res7 m c (((cfg0.win 7).blk t).view.emb (ix2 r j : S256x128.Idx))
  rw [emb7]
  rfl

theorem cover7 (y : S49152x128.Idx) :
    ∃ t : Fin cfg0.N, (cfg0.win 7).flush t = true ∧ y ∈ ((cfg0.win 7).blk t).view.set := by
  obtain ⟨r, j, rfl⟩ : ∃ (r : Fin 49152) (j : Fin 128), y = ix2 r j := ⟨y 0, y 1, eq_ix2 y⟩
  obtain ⟨t, e⟩ := row_of r
  refine ⟨t, flush0_7 t, ?_⟩
  have h := ((cfg0.win 7).blk t).view.emb_mem_set (ix2 (⟨r.val % 256, by omega⟩ : Fin 256) j : S256x128.Idx)
  rw [emb7] at h
  exact (congrArg (fun a => (ix2 a j : S49152x128.Idx)) e) ▸ h

theorem final7 : (dats m 0 c).arrAt 7 cfg0.N = res7 m c :=
  (dats m 0 c).arrAt_eq_of_cover 7 (res7 m c) (fun t _ => flushed7_eq m c t) cover7

/-! ## Result 4: 1024 columns, from 2304 on -/

theorem idx8 : ∀ t : Fin cfg0.N, win0_8.index t (0 : Fin 2) = t.val ∧ win0_8.index t (1 : Fin 2) = 0 := by
  decide +kernel

theorem emb8 (t : Fin cfg0.N) (r : Fin 256) (j : Fin 1024) :
    ((cfg0.win 8).blk t).view.emb (ix2 r j : S256x1024.Idx) = (ix2 (row t r) j : S49152x1024.Idx) := by
  obtain ⟨e0, e1⟩ := idx8 t
  funext a; apply Fin.ext
  match a with
  | ⟨0, _⟩ => show win0_8.index t (0 : Fin 2) * 256 + 1 * r.val = 256 * t.val + r.val; omega
  | ⟨1, _⟩ => show win0_8.index t (1 : Fin 2) * 1024 + 1 * j.val = j.val; omega

/-- Result 4 of the arguments in memory. -/
abbrev res8 : S49152x1024.Idx → EReal := fun y => cols 1024 2304 (by decide) (projMem m c) (y 0) (y 1)

theorem flushed8_eq (t : Fin cfg0.N) :
    (dats m 0 c).flushed 8 t = ((cfg0.win 8).blk t).view.read (Elt Ideal) (res8 m c) := by
  rw [flushed8]
  funext (y : S256x1024.Idx)
  obtain ⟨r, j, rfl⟩ : ∃ (r : Fin 256) (j : Fin 1024), y = ix2 r j := ⟨y 0, y 1, eq_ix2 y⟩
  refine (out8_apply _ _ _ _ r j).trans ((blockCell_eq m c t r _).trans ?_)
  show _ = res8 m c (((cfg0.win 8).blk t).view.emb (ix2 r j : S256x1024.Idx))
  rw [emb8]
  rfl

theorem cover8 (y : S49152x1024.Idx) :
    ∃ t : Fin cfg0.N, (cfg0.win 8).flush t = true ∧ y ∈ ((cfg0.win 8).blk t).view.set := by
  obtain ⟨r, j, rfl⟩ : ∃ (r : Fin 49152) (j : Fin 1024), y = ix2 r j := ⟨y 0, y 1, eq_ix2 y⟩
  obtain ⟨t, e⟩ := row_of r
  refine ⟨t, flush0_8 t, ?_⟩
  have h := ((cfg0.win 8).blk t).view.emb_mem_set (ix2 (⟨r.val % 256, by omega⟩ : Fin 256) j : S256x1024.Idx)
  rw [emb8] at h
  exact (congrArg (fun a => (ix2 a j : S49152x1024.Idx)) e) ▸ h

theorem final8 : (dats m 0 c).arrAt 8 cfg0.N = res8 m c :=
  (dats m 0 c).arrAt_eq_of_cover 8 (res8 m c) (fun t _ => flushed8_eq m c t) cover8

/-! ## Result 5: 1024 columns, from 3328 on -/

theorem idx9 : ∀ t : Fin cfg0.N, win0_9.index t (0 : Fin 2) = t.val ∧ win0_9.index t (1 : Fin 2) = 0 := by
  decide +kernel

theorem emb9 (t : Fin cfg0.N) (r : Fin 256) (j : Fin 1024) :
    ((cfg0.win 9).blk t).view.emb (ix2 r j : S256x1024.Idx) = (ix2 (row t r) j : S49152x1024.Idx) := by
  obtain ⟨e0, e1⟩ := idx9 t
  funext a; apply Fin.ext
  match a with
  | ⟨0, _⟩ => show win0_9.index t (0 : Fin 2) * 256 + 1 * r.val = 256 * t.val + r.val; omega
  | ⟨1, _⟩ => show win0_9.index t (1 : Fin 2) * 1024 + 1 * j.val = j.val; omega

/-- Result 5 of the arguments in memory. -/
abbrev res9 : S49152x1024.Idx → EReal := fun y => cols 1024 3328 (by decide) (projMem m c) (y 0) (y 1)

theorem flushed9_eq (t : Fin cfg0.N) :
    (dats m 0 c).flushed 9 t = ((cfg0.win 9).blk t).view.read (Elt Ideal) (res9 m c) := by
  rw [flushed9]
  funext (y : S256x1024.Idx)
  obtain ⟨r, j, rfl⟩ : ∃ (r : Fin 256) (j : Fin 1024), y = ix2 r j := ⟨y 0, y 1, eq_ix2 y⟩
  refine (out9_apply _ _ _ _ r j).trans ((blockCell_eq m c t r _).trans ?_)
  show _ = res9 m c (((cfg0.win 9).blk t).view.emb (ix2 r j : S256x1024.Idx))
  rw [emb9]
  rfl

theorem cover9 (y : S49152x1024.Idx) :
    ∃ t : Fin cfg0.N, (cfg0.win 9).flush t = true ∧ y ∈ ((cfg0.win 9).blk t).view.set := by
  obtain ⟨r, j, rfl⟩ : ∃ (r : Fin 49152) (j : Fin 1024), y = ix2 r j := ⟨y 0, y 1, eq_ix2 y⟩
  obtain ⟨t, e⟩ := row_of r
  refine ⟨t, flush0_9 t, ?_⟩
  have h := ((cfg0.win 9).blk t).view.emb_mem_set (ix2 (⟨r.val % 256, by omega⟩ : Fin 256) j : S256x1024.Idx)
  rw [emb9] at h
  exact (congrArg (fun a => (ix2 a j : S49152x1024.Idx)) e) ▸ h

theorem final9 : (dats m 0 c).arrAt 9 cfg0.N = res9 m c :=
  (dats m 0 c).arrAt_eq_of_cover 9 (res9 m c) (fun t _ => flushed9_eq m c t) cover9

end Cert.Inproj

end
-- ==== Proof.Inproj.Ref.lean ====
/-
  The input projection: the reference's six arrays are the same ranges of columns.
-/
module

public import proofs.«01_k».proof.Proof.Gen.Reference2Ideal.Read
public import proofs.«01_k».proof.Proof.Inproj.Array

@[expose] public section

set_option maxRecDepth 16384

noncomputable section

namespace Cert.Inproj

open Idealize.ShloMosaic Idealize.ShloMosaic.TcCoe Idealize.ShloMosaic.Tactic
open Cert.Reference2Ideal Cert.Reference2Ideal.Read

variable (x0 : (⟨S49152x1024, .f32⟩ : BufTy).Contents (Elt Ideal)) (x1 : (⟨S24x6144, .f32⟩ : BufTy).Contents (Elt Ideal))
  (x2 : (⟨S1024, .f32⟩ : BufTy).Contents (Elt Ideal)) (x3 : (⟨S1024x4352, .f32⟩ : BufTy).Contents (Elt Ideal))

/-- The reference's product, before it is split. -/
theorem ref_apply (r : Fin 49152) (j : Fin 4352) : val_main_v33 (F := Ideal) x0 x1 x2 x3 (ix2 r j) = proj x0 x1 x2 x3 r j := by
  pointwise [val_main_v33, val_main_v32,
    val_main_v31, val_main_v30, val_main_v29, val_main_v28, val_main_v27, val_main_v26, val_main_v25, val_main_v24,
    val_main_v23, val_main_v22, val_main_v21, val_main_v20, val_main_v19, val_main_v18, val_main_v17, val_main_v16,
    val_main_v15, val_main_v14, val_main_v13, val_main_v8, val_main_v7, val_main_v2, val_main_v1, val_main_v0,
    val_main_cst, val_main_cst_0, val_main_cst_1, val_main_cst_2]
  rfl

theorem ref4 : val_main_v34 (F := Ideal) x0 x1 x2 x3 =
    fun y => cols 1536 0 (by decide) (proj x0 x1 x2 x3) (y 0) (y 1) := by
  funext y
  obtain ⟨r, j, rfl⟩ : ∃ (r : Fin 49152) (j : Fin 1536), y = ix2 r j := ⟨y 0, y 1, eq_ix2 y⟩
  refine Eq.trans ?_ (ref_apply x0 x1 x2 x3 r ⟨0 + j.val, by omega⟩)
  pointwise [val_main_v34]

theorem ref5 : val_main_v35 (F := Ideal) x0 x1 x2 x3 =
    fun y => cols 512 1536 (by decide) (proj x0 x1 x2 x3) (y 0) (y 1) := by
  funext y
  obtain ⟨r, j, rfl⟩ : ∃ (r : Fin 49152) (j : Fin 512), y = ix2 r j := ⟨y 0, y 1, eq_ix2 y⟩
  refine Eq.trans ?_ (ref_apply x0 x1 x2 x3 r ⟨1536 + j.val, by omega⟩)
  pointwise [val_main_v35]

theorem ref6 : val_main_v36 (F := Ideal) x0 x1 x2 x3 =
    fun y => cols 128 2048 (by decide) (proj x0 x1 x2 x3) (y 0) (y 1) := by
  funext y
  obtain ⟨r, j, rfl⟩ : ∃ (r : Fin 49152) (j : Fin 128), y = ix2 r j := ⟨y 0, y 1, eq_ix2 y⟩
  refine Eq.trans ?_ (ref_apply x0 x1 x2 x3 r ⟨2048 + j.val, by omega⟩)
  pointwise [val_main_v36]

theorem ref7 : val_main_v37 (F := Ideal) x0 x1 x2 x3 =
    fun y => cols 128 2176 (by decide) (proj x0 x1 x2 x3) (y 0) (y 1) := by
  funext y
  obtain ⟨r, j, rfl⟩ : ∃ (r : Fin 49152) (j : Fin 128), y = ix2 r j := ⟨y 0, y 1, eq_ix2 y⟩
  refine Eq.trans ?_ (ref_apply x0 x1 x2 x3 r ⟨2176 + j.val, by omega⟩)
  pointwise [val_main_v37]

theorem ref8 : val_main_v38 (F := Ideal) x0 x1 x2 x3 =
    fun y => cols 1024 2304 (by decide) (proj x0 x1 x2 x3) (y 0) (y 1) := by
  funext y
  obtain ⟨r, j, rfl⟩ : ∃ (r : Fin 49152) (j : Fin 1024), y = ix2 r j := ⟨y 0, y 1, eq_ix2 y⟩
  refine Eq.trans ?_ (ref_apply x0 x1 x2 x3 r ⟨2304 + j.val, by omega⟩)
  pointwise [val_main_v38]

theorem ref9 : val_main_v39 (F := Ideal) x0 x1 x2 x3 =
    fun y => cols 1024 3328 (by decide) (proj x0 x1 x2 x3) (y 0) (y 1) := by
  funext y
  obtain ⟨r, j, rfl⟩ : ∃ (r : Fin 49152) (j : Fin 1024), y = ix2 r j := ⟨y 0, y 1, eq_ix2 y⟩
  refine Eq.trans ?_ (ref_apply x0 x1 x2 x3 r ⟨3328 + j.val, by omega⟩)
  pointwise [val_main_v39]

end Cert.Inproj

end
-- ==== Proof.Inproj.Claims.lean ====
/-
  The claims about the input projection: the frames, and the equality of the six results with the reference's.
-/
module

public import proofs.«01_k».proof.Defs
public import proofs.«01_k».proof.Proof.Inproj.Ref
public import proofs.«01_k».proof.Proof.Gen.Kernel2.Frame
public import proofs.«01_k».proof.Proof.Gen.Reference2Ideal.Run

@[expose] public section

set_option maxRecDepth 16384

noncomputable section

namespace Cert.Inproj

open Idealize.ShloMosaic Idealize.ShloMosaic.TcCoe Idealize.SL.Sem

theorem frame_p : Cert.quiescent_Kernel2 := fun m ρ _ => Cert.Kernel2.Gen.frame m ρ

theorem frame_pi : Cert.quiescent_Kernel2Ideal := fun m ρ _ => Cert.Kernel2Ideal.Gen.frame m ρ

/-- The reference keeps its arguments, and it has no semaphore. -/
theorem frame_ri : Cert.quiescent_Reference2Ideal := fun m ρ _ =>
  (θ_run Cert.Reference2Ideal.defs _ _).mono
    (fun r h => ⟨fun c => (h c).2.2.2.2.2.2, sem_eq_zero_of_no_sems (by decide) r.2⟩)
    (Cert.Reference2Ideal.Value.run (F := Ideal) m ρ)

open Cert.Reference2Ideal.Read in
/-- The kernel's six result arrays are the reference's. -/
theorem algebraic : Cert.algebraic_Kernel2Ideal_Reference2Ideal := by
  intro m ρ m' ρ' _ hag
  refine ⟨fun c => res4 m c, fun c => res5 m c, fun c => res6 m c, fun c => res7 m c, fun c => res8 m c,
    fun c => res9 m c, ?_, ?_⟩
  · refine (θ_run _ _ _).mono (fun r h c => ?_) (Cert.Kernel2Ideal.Value.run_blocks m ρ)
    obtain ⟨h4, h5, h6, h7, h8, h9, hk⟩ := h c
    exact ⟨h4.trans (final4 m c), h5.trans (final5 m c), h6.trans (final6 m c), h7.trans (final7 m c),
      h8.trans (final8 m c), h9.trans (final9 m c), hk⟩
  · refine (θ_run _ _ _).mono (fun r h c => ?_) (Cert.Reference2Ideal.Value.run m' ρ')
    obtain ⟨h4, h5, h6, h7, h8, h9, hk⟩ := h c
    obtain ⟨e0, e1, e2, e3⟩ := hag c
    refine ⟨?_, ?_, ?_, ?_, ?_, ?_, hk⟩
    · refine h4.trans ((val_main_v34_eq (F := Ideal) _ _ _ _).trans ((ref4 _ _ _ _).trans ?_))
      rw [e0, e1, e2, e3]
    · refine h5.trans ((val_main_v35_eq (F := Ideal) _ _ _ _).trans ((ref5 _ _ _ _).trans ?_))
      rw [e0, e1, e2, e3]
    · refine h6.trans ((val_main_v36_eq (F := Ideal) _ _ _ _).trans ((ref6 _ _ _ _).trans ?_))
      rw [e0, e1, e2, e3]
    · refine h7.trans ((val_main_v37_eq (F := Ideal) _ _ _ _).trans ((ref7 _ _ _ _).trans ?_))
      rw [e0, e1, e2, e3]
    · refine h8.trans ((val_main_v38_eq (F := Ideal) _ _ _ _).trans ((ref8 _ _ _ _).trans ?_))
      rw [e0, e1, e2, e3]
    · refine h9.trans ((val_main_v39_eq (F := Ideal) _ _ _ _).trans ((ref9 _ _ _ _).trans ?_))
      rw [e0, e1, e2, e3]

end Cert.Inproj

end
-- ==== Proof.Merge.Block.lean ====
/-
  The merge of the two branches: its value, and what one block of the kernel computes.
-/
module

public import proofs.«01_k».proof.Proof.Gen.Kernel3Ideal.Value
public import Idealize.ShloMosaic.Lib.Pointwise
public import Idealize.ShloMosaic.Lib.StableHlo.RunRead

@[expose] public section

set_option maxRecDepth 16384

noncomputable section

namespace Cert.Merge

open Idealize.ShloMosaic Idealize.ShloMosaic.TcCoe Idealize.ShloMosaic.Tactic
open Cert.Kernel3Ideal Cert.Kernel3Ideal.Gen Cert.Kernel3Ideal.Value

/-- The logistic function. -/
def logistic (z : EReal) : EReal := Ideal.div 1 (1 + Ideal.exp (-z))

/-- A coordinate of a token after the merge: the token's own value, and its gate times the output projection of the two
branches' projections, each weighted by its own gate. -/
def cell (x gt : EReal) (ya yb : Fin 512 → EReal) (ga gb : Fin 1024 → EReal) (wa wb : Fin 512 → Fin 1024 → EReal)
    (wo : Fin 1024 → EReal) : EReal :=
  x + gt * ∑ k, (logistic (ga k) * ∑ i, ya i * wa i k + logistic (gb k) * ∑ i, yb i * wb i k) * wo k

/-- The merge of whole arrays: token `r`'s sequence is `r / 2048`, and the gate is the third of the six parts of its
modulation. -/
def merge (x : S49152x1024.Idx → EReal) (md : S24x6144.Idx → EReal) (ya yb : S49152x512.Idx → EReal)
    (ga gb : S49152x1024.Idx → EReal) (wa wb : S512x1024.Idx → EReal) (wo : S1024x1024.Idx → EReal) :
    S49152x1024.Idx → EReal := fun y =>
  cell (x y) (md (ix2 ⟨(y 0).val / 2048, by have : (y 0).val < 49152 := (y 0).isLt; omega⟩
      ⟨2048 + (y 1).val, by have : (y 1).val < 1024 := (y 1).isLt; omega⟩))
    (fun i => ya (ix2 (y 0) i)) (fun i => yb (ix2 (y 0) i)) (fun k => ga (ix2 (y 0) k)) (fun k => gb (ix2 (y 0) k))
    (fun i k => wa (ix2 i k)) (fun i k => wb (ix2 i k)) (fun k => wo (ix2 k (y 1)))

/-- What the body leaves at a place of the block, from the blocks of its inputs. -/
theorem out_apply (x0 : Vec Ideal S512x1024 .f32) (x1 : Vec Ideal S1x6x1024 .f32) (x2 x3 : Vec Ideal S512x512 .f32)
    (x4 x5 : Vec Ideal S512x1024 .f32) (x6 x7 : Vec Ideal S512x1024 .bf16) (x8 : Vec Ideal S1024x1024 .bf16)
    (r : Fin 512) (j : Fin 1024) :
    out0_9 x0 x1 x2 x3 x4 x5 x6 x7 x8 (ix2 r j) =
      cell (x0 (ix2 r j)) (x1 (ix3 0 2 j)) (fun i => x2 (ix2 r i)) (fun i => x3 (ix2 r i)) (fun k => x4 (ix2 r k))
        (fun k => x5 (ix2 r k)) (fun i k => x6 (ix2 i k)) (fun i k => x7 (ix2 i k)) (fun k => x8 (ix2 k j)) := by
  have h2 : (![0, 0] : Fin 2 → ℕ) = fun _ => 0 := by funext a; fin_cases a <;> rfl
  have h3 : (![0, 0, 0] : Fin 3 → ℕ) = fun _ => 0 := by funext a; fin_cases a <;> rfl
  unfold out0_9
  rw [View.canon_cons_unit_zero h2]
  rw [View.ld_unit_zero h2, View.ld_unit_zero h2, View.ld_unit_zero h2, View.ld_unit_zero h2,
    View.ld_unit_zero h2, View.ld_unit_zero h2, View.ld_unit_zero h2, View.ld_unit_zero h2,
    View.ld_unit_zero h3]
  unfold cell logistic
  pointwise [k0_pay1, k0_pay2]
  simp only [zero_sub]

variable (m : (ℓ : Loc nD τ sig) → Buf (Elt Ideal) ℓ) (c : Dev nD)

theorem V_mod (b : Fin 24) (s : Fin 6) (j : Fin 1024) : (V m c main_v0 : FVec Ideal S24x6x1024 .f32) (ix3 b s j) =
    (m (c, Proc.tc.devRef main_arg1) : FVec Ideal S24x6144 .f32) (ix2 b ⟨s.val * 1024 + j.val, by omega⟩) := by
  unfold V
  after_reads_simp
  pointwise

theorem V_wa (i : Fin 512) (j : Fin 1024) : (V m c main_v1 : FVec Ideal S512x1024 .bf16) (ix2 i j) =
    (m (c, Proc.tc.devRef main_arg6) : FVec Ideal S512x1024 .f32) (ix2 i j) := by
  unfold V
  after_reads_simp
  pointwise

theorem V_wb (i : Fin 512) (j : Fin 1024) : (V m c main_v2 : FVec Ideal S512x1024 .bf16) (ix2 i j) =
    (m (c, Proc.tc.devRef main_arg7) : FVec Ideal S512x1024 .f32) (ix2 i j) := by
  unfold V
  after_reads_simp
  pointwise

theorem V_wo (i : Fin 1024) (j : Fin 1024) : (V m c main_v3 : FVec Ideal S1024x1024 .bf16) (ix2 i j) =
    (m (c, Proc.tc.devRef main_arg8) : FVec Ideal S1024x1024 .f32) (ix2 i j) := by
  unfold V
  after_reads_simp
  pointwise

/-! ## The blocks of the windows -/

theorem idx_rows : ∀ t : Fin cfg0.N,
    (win0_0.index t (0 : Fin 2) = t.val ∧ win0_0.index t (1 : Fin 2) = 0) ∧
    (win0_2.index t (0 : Fin 2) = t.val ∧ win0_2.index t (1 : Fin 2) = 0) ∧
    (win0_3.index t (0 : Fin 2) = t.val ∧ win0_3.index t (1 : Fin 2) = 0) ∧
    (win0_4.index t (0 : Fin 2) = t.val ∧ win0_4.index t (1 : Fin 2) = 0) ∧
    (win0_5.index t (0 : Fin 2) = t.val ∧ win0_5.index t (1 : Fin 2) = 0) ∧
    (win0_9.index t (0 : Fin 2) = t.val ∧ win0_9.index t (1 : Fin 2) = 0) := by decide +kernel

theorem idx_mod : ∀ t : Fin cfg0.N, win0_1.index t (0 : Fin 3) = t.val / 4 ∧ win0_1.index t (1 : Fin 3) = 0 ∧
    win0_1.index t (2 : Fin 3) = 0 := by decide +kernel

theorem idx_full : ∀ t : Fin cfg0.N,
    (win0_6.index t (0 : Fin 2) = 0 ∧ win0_6.index t (1 : Fin 2) = 0) ∧
    (win0_7.index t (0 : Fin 2) = 0 ∧ win0_7.index t (1 : Fin 2) = 0) ∧
    (win0_8.index t (0 : Fin 2) = 0 ∧ win0_8.index t (1 : Fin 2) = 0) := by decide +kernel

theorem N96 (t : Fin cfg0.N) : t.val < 96 := lt_of_lt_of_le t.isLt (le_of_eq (by decide +kernel))

/-- The row of the array that row `r` of block `t` is. -/
abbrev row (t : Fin cfg0.N) (r : Fin 512) : Fin 49152 := ⟨512 * t.val + r.val, by have := N96 t; omega⟩

theorem emb9 (t : Fin cfg0.N) (r : Fin 512) (j : Fin 1024) :
    ((cfg0.win 9).blk t).view.emb (ix2 r j : S512x1024.Idx) = (ix2 (row t r) j : S49152x1024.Idx) := by
  obtain ⟨-, -, -, -, -, e0, e1⟩ := idx_rows t
  funext a; apply Fin.ext
  match a with
  | ⟨0, _⟩ => show win0_9.index t (0 : Fin 2) * 512 + 1 * r.val = 512 * t.val + r.val; omega
  | ⟨1, _⟩ => show win0_9.index t (1 : Fin 2) * 1024 + 1 * j.val = j.val; omega

section
variable (t : Fin cfg0.N)

theorem iblk0_eq (r : Fin 512) (j : Fin 1024) : (iblk m c 0 t : FVec Ideal S512x1024 .f32) (ix2 r j) =
    (m (c, Proc.tc.devRef main_arg0) : FVec Ideal S49152x1024 .f32) (ix2 (row t r) j) := by
  have e : ((cfg0.win 0).blk t).view.emb (ix2 r j : S512x1024.Idx) = (ix2 (row t r) j : S49152x1024.Idx) := by
    obtain ⟨⟨e0, e1⟩, -⟩ := idx_rows t
    funext a; apply Fin.ext
    match a with
    | ⟨0, _⟩ => show win0_0.index t (0 : Fin 2) * 512 + 1 * r.val = 512 * t.val + r.val; omega
    | ⟨1, _⟩ => show win0_0.index t (1 : Fin 2) * 1024 + 1 * j.val = j.val; omega
  show (V m c main_arg0 : FVec Ideal S49152x1024 .f32) (((cfg0.win 0).blk t).view.emb (ix2 r j : S512x1024.Idx)) = _
  rw [e, V_main_arg0]

theorem iblk1_eq (s : Fin 6) (j : Fin 1024) : (iblk m c 1 t : FVec Ideal S1x6x1024 .f32) (ix3 0 s j) =
    (m (c, Proc.tc.devRef main_arg1) : FVec Ideal S24x6144 .f32)
      (ix2 ⟨t.val / 4, by have := N96 t; omega⟩ ⟨s.val * 1024 + j.val, by omega⟩) := by
  have e : ((cfg0.win 1).blk t).view.emb (ix3 0 s j : S1x6x1024.Idx) =
      (ix3 (⟨t.val / 4, by have := N96 t; omega⟩ : Fin 24) s j : S24x6x1024.Idx) := by
    obtain ⟨e0, e1, e2⟩ := idx_mod t
    funext a; apply Fin.ext
    match a with
    | ⟨0, _⟩ => show win0_1.index t (0 : Fin 3) * 1 + 1 * 0 = t.val / 4; omega
    | ⟨1, _⟩ => show win0_1.index t (1 : Fin 3) * 6 + 1 * s.val = s.val; omega
    | ⟨2, _⟩ => show win0_1.index t (2 : Fin 3) * 1024 + 1 * j.val = j.val; omega
  show (V m c main_v0 : FVec Ideal S24x6x1024 .f32) (((cfg0.win 1).blk t).view.emb (ix3 0 s j : S1x6x1024.Idx)) = _
  rw [e]; exact V_mod m c _ _ _

theorem iblk2_eq (r : Fin 512) (j : Fin 512) : (iblk m c 2 t : FVec Ideal S512x512 .f32) (ix2 r j) =
    (m (c, Proc.tc.devRef main_arg2) : FVec Ideal S49152x512 .f32) (ix2 (row t r) j) := by
  have e : ((cfg0.win 2).blk t).view.emb (ix2 r j : S512x512.Idx) = (ix2 (row t r) j : S49152x512.Idx) := by
    obtain ⟨-, ⟨e0, e1⟩, -⟩ := idx_rows t
    funext a; apply Fin.ext
    match a with
    | ⟨0, _⟩ => show win0_2.index t (0 : Fin 2) * 512 + 1 * r.val = 512 * t.val + r.val; omega
    | ⟨1, _⟩ => show win0_2.index t (1 : Fin 2) * 512 + 1 * j.val = j.val; omega
  show (V m c main_arg2 : FVec Ideal S49152x512 .f32) (((cfg0.win 2).blk t).view.emb (ix2 r j : S512x512.Idx)) = _
  rw [e, V_main_arg2]

theorem iblk3_eq (r : Fin 512) (j : Fin 512) : (iblk m c 3 t : FVec Ideal S512x512 .f32) (ix2 r j) =
    (m (c, Proc.tc.devRef main_arg3) : FVec Ideal S49152x512 .f32) (ix2 (row t r) j) := by
  have e : ((cfg0.win 3).blk t).view.emb (ix2 r j : S512x512.Idx) = (ix2 (row t r) j : S49152x512.Idx) := by
    obtain ⟨-, -, ⟨e0, e1⟩, -⟩ := idx_rows t
    funext a; apply Fin.ext
    match a with
    | ⟨0, _⟩ => show win0_3.index t (0 : Fin 2) * 512 + 1 * r.val = 512 * t.val + r.val; omega
    | ⟨1, _⟩ => show win0_3.index t (1 : Fin 2) * 512 + 1 * j.val = j.val; omega
  show (V m c main_arg3 : FVec Ideal S49152x512 .f32) (((cfg0.win 3).blk t).view.emb (ix2 r j : S512x512.Idx)) = _
  rw [e, V_main_arg3]

theorem iblk4_eq (r : Fin 512) (j : Fin 1024) : (iblk m c 4 t : FVec Ideal S512x1024 .f32) (ix2 r j) =
    (m (c, Proc.tc.devRef main_arg4) : FVec Ideal S49152x1024 .f32) (ix2 (row t r) j) := by
  have e : ((cfg0.win 4).blk t).view.emb (ix2 r j : S512x1024.Idx) = (ix2 (row t r) j : S49152x1024.Idx) := by
    obtain ⟨-, -, -, ⟨e0, e1⟩, -⟩ := idx_rows t
    funext a; apply Fin.ext
    match a with
    | ⟨0, _⟩ => show win0_4.index t (0 : Fin 2) * 512 + 1 * r.val = 512 * t.val + r.val; omega
    | ⟨1, _⟩ => show win0_4.index t (1 : Fin 2) * 1024 + 1 * j.val = j.val; omega
  show (V m c main_arg4 : FVec Ideal S49152x1024 .f32) (((cfg0.win 4).blk t).view.emb (ix2 r j : S512x1024.Idx)) = _
  rw [e, V_main_arg4]

theorem iblk5_eq (r : Fin 512) (j : Fin 1024) : (iblk m c 5 t : FVec Ideal S512x1024 .f32) (ix2 r j) =
    (m (c, Proc.tc.devRef main_arg5) : FVec Ideal S49152x1024 .f32) (ix2 (row t r) j) := by
  have e : ((cfg0.win 5).blk t).view.emb (ix2 r j : S512x1024.Idx) = (ix2 (row t r) j : S49152x1024.Idx) := by
    obtain ⟨-, -, -, -, ⟨e0, e1⟩, -⟩ := idx_rows t
    funext a; apply Fin.ext
    match a with
    | ⟨0, _⟩ => show win0_5.index t (0 : Fin 2) * 512 + 1 * r.val = 512 * t.val + r.val; omega
    | ⟨1, _⟩ => show win0_5.index t (1 : Fin 2) * 1024 + 1 * j.val = j.val; omega
  show (V m c main_arg5 : FVec Ideal S49152x1024 .f32) (((cfg0.win 5).blk t).view.emb (ix2 r j : S512x1024.Idx)) = _
  rw [e, V_main_arg5]

theorem iblk6_eq (i : Fin 512) (j : Fin 1024) : (iblk m c 6 t : FVec Ideal S512x1024 .bf16) (ix2 i j) =
    (m (c, Proc.tc.devRef main_arg6) : FVec Ideal S512x1024 .f32) (ix2 i j) := by
  have e : ((cfg0.win 6).blk t).view.emb (ix2 i j : S512x1024.Idx) = (ix2 i j : S512x1024.Idx) := by
    obtain ⟨⟨e0, e1⟩, -⟩ := idx_full t
    funext a; apply Fin.ext
    match a with
    | ⟨0, _⟩ => show win0_6.index t (0 : Fin 2) * 512 + 1 * i.val = i.val; omega
    | ⟨1, _⟩ => show win0_6.index t (1 : Fin 2) * 1024 + 1 * j.val = j.val; omega
  show (V m c main_v1 : FVec Ideal S512x1024 .bf16) (((cfg0.win 6).blk t).view.emb (ix2 i j : S512x1024.Idx)) = _
  rw [e]; exact V_wa m c i j

theorem iblk7_eq (i : Fin 512) (j : Fin 1024) : (iblk m c 7 t : FVec Ideal S512x1024 .bf16) (ix2 i j) =
    (m (c, Proc.tc.devRef main_arg7) : FVec Ideal S512x1024 .f32) (ix2 i j) := by
  have e : ((cfg0.win 7).blk t).view.emb (ix2 i j : S512x1024.Idx) = (ix2 i j : S512x1024.Idx) := by
    obtain ⟨-, ⟨e0, e1⟩, -⟩ := idx_full t
    funext a; apply Fin.ext
    match a with
    | ⟨0, _⟩ => show win0_7.index t (0 : Fin 2) * 512 + 1 * i.val = i.val; omega
    | ⟨1, _⟩ => show win0_7.index t (1 : Fin 2) * 1024 + 1 * j.val = j.val; omega
  show (V m c main_v2 : FVec Ideal S512x1024 .bf16) (((cfg0.win 7).blk t).view.emb (ix2 i j : S512x1024.Idx)) = _
  rw [e]; exact V_wb m c i j

theorem iblk8_eq (i : Fin 1024) (j : Fin 1024) : (iblk m c 8 t : FVec Ideal S1024x1024 .bf16) (ix2 i j) =
    (m (c, Proc.tc.devRef main_arg8) : FVec Ideal S1024x1024 .f32) (ix2 i j) := by
  have e : ((cfg0.win 8).blk t).view.emb (ix2 i j : S1024x1024.Idx) = (ix2 i j : S1024x1024.Idx) := by
    obtain ⟨-, -, e0, e1⟩ := idx_full t
    funext a; apply Fin.ext
    match a with
    | ⟨0, _⟩ => show win0_8.index t (0 : Fin 2) * 1024 + 1 * i.val = i.val; omega
    | ⟨1, _⟩ => show win0_8.index t (1 : Fin 2) * 1024 + 1 * j.val = j.val; omega
  show (V m c main_v3 : FVec Ideal S1024x1024 .bf16) (((cfg0.win 8).blk t).view.emb (ix2 i j : S1024x1024.Idx)) = _
  rw [e]; exact V_wo m c i j
end

/-! ## The result array -/

/-- The merge of the arguments in memory. -/
abbrev mergeMem : S49152x1024.Idx → EReal :=
  merge (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5))
    (m (c, Proc.tc.devRef main_arg6)) (m (c, Proc.tc.devRef main_arg7)) (m (c, Proc.tc.devRef main_arg8))

/-- What grid point `t` writes back is its block of the merge. -/
theorem flushed_eq (t : Fin cfg0.N) :
    (dats m 0 c).flushed 9 t = ((cfg0.win 9).blk t).view.read (Elt Ideal) (mergeMem m c) := by
  rw [flushed9]
  funext (y : S512x1024.Idx)
  obtain ⟨r, j, rfl⟩ : ∃ (r : Fin 512) (j : Fin 1024), y = ix2 r j := ⟨y 0, y 1, eq_ix2 y⟩
  refine (out_apply _ _ _ _ _ _ _ _ _ r j).trans ?_
  show _ = mergeMem m c (((cfg0.win 9).blk t).view.emb (ix2 r j : S512x1024.Idx))
  rw [emb9]
  simp only [iblk0_eq, iblk1_eq, iblk2_eq, iblk3_eq, iblk4_eq, iblk5_eq, iblk6_eq, iblk7_eq, iblk8_eq]
  unfold mergeMem merge
  have ht := N96 t
  have eb : (⟨t.val / 4, by omega⟩ : Fin 24) = ⟨(512 * t.val + r.val) / 2048, by omega⟩ := Fin.ext (by simp only; omega)
  rw [eb]
  rfl

/-- Every index of the result array is in some point's block. -/
theorem cover (y : S49152x1024.Idx) : ∃ t : Fin cfg0.N, (cfg0.win 9).flush t = true ∧ y ∈ ((cfg0.win 9).blk t).view.set := by
  obtain ⟨r, j, rfl⟩ : ∃ (r : Fin 49152) (j : Fin 1024), y = ix2 r j := ⟨y 0, y 1, eq_ix2 y⟩
  obtain ⟨t, ht⟩ : ∃ t : Fin cfg0.N, t.val = r.val / 512 :=
    ⟨⟨r.val / 512, lt_of_lt_of_eq (by omega : r.val / 512 < 96) (by decide +kernel)⟩, rfl⟩
  refine ⟨t, flush0_9 t, ?_⟩
  have h := ((cfg0.win 9).blk t).view.emb_mem_set (ix2 (⟨r.val % 512, by omega⟩ : Fin 512) j : S512x1024.Idx)
  rw [emb9] at h
  have e : row t ⟨r.val % 512, by omega⟩ = r := Fin.ext (by simp only [row]; omega)
  exact (congrArg (fun a => (ix2 a j : S49152x1024.Idx)) e) ▸ h

/-- The result array after the run: the merge of the arguments. -/
theorem final_eq : (dats m 0 c).arrAt 9 cfg0.N = mergeMem m c :=
  (dats m 0 c).arrAt_eq_of_cover 9 (mergeMem m c) (fun t _ => flushed_eq m c t) cover

end Cert.Merge

end
-- ==== Proof.Merge.Ref.lean ====
/-
  The merge of the two branches: the reference's array is the merge.
-/
module

public import proofs.«01_k».proof.Proof.Gen.Reference3Ideal.Read
public import proofs.«01_k».proof.Proof.Merge.Block

@[expose] public section

set_option maxRecDepth 16384

noncomputable section

namespace Cert.Merge

open Idealize.ShloMosaic Idealize.ShloMosaic.TcCoe Idealize.ShloMosaic.Tactic
open Cert.Reference3Ideal Cert.Reference3Ideal.Read

/-- The reference's last array, at each index, is the merge of its arguments. -/
theorem ref_eq (x0 : (⟨S49152x1024, .f32⟩ : BufTy).Contents (Elt Ideal)) (x1 : (⟨S24x6144, .f32⟩ : BufTy).Contents (Elt Ideal))
    (x2 x3 : (⟨S49152x512, .f32⟩ : BufTy).Contents (Elt Ideal)) (x4 x5 : (⟨S49152x1024, .f32⟩ : BufTy).Contents (Elt Ideal))
    (x6 x7 : (⟨S512x1024, .f32⟩ : BufTy).Contents (Elt Ideal)) (x8 : (⟨S1024x1024, .f32⟩ : BufTy).Contents (Elt Ideal)) :
    val_main_v38 (F := Ideal) x0 x1 x2 x3 x4 x5 x6 x7 x8 = merge x0 x1 x2 x3 x4 x5 x6 x7 x8 := by
  funext y
  obtain ⟨r, j, rfl⟩ : ∃ (r : Fin 49152) (j : Fin 1024), y = ix2 r j := ⟨y 0, y 1, eq_ix2 y⟩
  pointwise [val_main_v38, val_main_v37, val_main_v36, val_main_v35, val_main_v34, val_main_v33, val_main_v32,
    val_main_v31, val_main_v30, val_main_v29, val_main_v28, val_main_v27, val_main_v26, val_main_v25, val_main_v24,
    val_main_v23, val_main_v22, val_main_v21, val_main_v20, val_main_v19, val_main_v18, val_main_v17, val_main_v13,
    val_main_v7, val_main_v4, val_main_v3, val_main_v2, val_main_v1, val_main_v0, val_main_cst, val_main_cst_0,
    val_main_cst_1, val_main_cst_2]
  rfl

end Cert.Merge

end
-- ==== Proof.Merge.Claims.lean ====
/-
  The claims about the merge of the two branches: the frames, and the equality of the kernel's result with the
  reference's.
-/
module

public import proofs.«01_k».proof.Defs
public import proofs.«01_k».proof.Proof.Merge.Ref
public import proofs.«01_k».proof.Proof.Gen.Kernel3.Frame
public import proofs.«01_k».proof.Proof.Gen.Reference3Ideal.Run

@[expose] public section

set_option maxRecDepth 16384

noncomputable section

namespace Cert.Merge

open Idealize.ShloMosaic Idealize.ShloMosaic.TcCoe Idealize.SL.Sem

theorem frame_p : Cert.quiescent_Kernel3 := fun m ρ _ => Cert.Kernel3.Gen.frame m ρ

theorem frame_pi : Cert.quiescent_Kernel3Ideal := fun m ρ _ => Cert.Kernel3Ideal.Gen.frame m ρ

/-- The reference keeps its arguments, and it has no semaphore. -/
theorem frame_ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The kernel's result array is the reference's. -/
theorem algebraic : Cert.algebraic_Kernel3Ideal_Reference3Ideal := by
  intro m ρ m' ρ' _ hag
  refine ⟨fun c => mergeMem m c, ?_, ?_⟩
  · exact (θ_run _ _ _).mono (fun r h c => ⟨(h c).1.trans (final_eq m c), (h c).2⟩)
      (Cert.Kernel3Ideal.Value.run_blocks m ρ)
  · refine (θ_run _ _ _).mono (fun r h c => ⟨?_, (h c).2⟩) (Cert.Reference3Ideal.Value.run m' ρ')
    obtain ⟨e0, e1, e2, e3, e4, e5, e6, e7, e8⟩ := hag c
    refine (h c).1.trans ((Cert.Reference3Ideal.Read.val_main_v38_eq (F := Ideal) _ _ _ _ _ _ _ _ _).trans ?_)
    refine (ref_eq _ _ _ _ _ _ _ _ _).trans ?_
    rw [e0, e1, e2, e3, e4, e5, e6, e7, e8]

end Cert.Merge

end
-- ==== Proof.Modulation.Block.lean ====
/-
  The modulation: its value, what one block of the kernel computes, and the kernel's result array.
-/
module

public import proofs.«01_k».proof.Proof.Gen.Kernel4Ideal.Value
public import Idealize.ShloMosaic.Lib.Pointwise
public import Idealize.ShloMosaic.Lib.StableHlo.RunRead

@[expose] public section

set_option maxRecDepth 16384

noncomputable section

namespace Cert.Modulation

open Idealize.ShloMosaic Idealize.ShloMosaic.TcCoe Idealize.ShloMosaic.Tactic
open Cert.Kernel4Ideal Cert.Kernel4Ideal.Gen Cert.Kernel4Ideal.Value

/-- One entry of the modulation: the vector `c`, each entry times its logistic, against a column `w`, plus a bias. -/
def cell (c w : Fin 1024 → EReal) (b : EReal) : EReal :=
  ∑ k, c k * Ideal.div 1 (1 + Ideal.exp (-c k)) * w k + b

/-- The modulation of both layers, of all sequences. -/
def modulation (c : S24x1024.Idx → EReal) (w : S2x1024x6144.Idx → EReal) (b : S2x6144.Idx → EReal) :
    S2x24x6144.Idx → EReal := fun y =>
  cell (fun k => c (ix2 (y 1) k)) (fun k => w (ix3 (y 0) k (y 2))) (b (ix2 (y 0) (y 2)))

/-- What the body leaves at a place of the block, from the blocks of its inputs. -/
theorem out_apply (x0 : Vec Ideal S24x1024 .f32) (x1 : Vec Ideal S1x1024x1536 .bf16) (x2 : Vec Ideal S1x1x1536 .f32)
    (r : Fin 24) (j : Fin 1536) :
    out0_3 x0 x1 x2 (ix3 0 r j) = cell (fun k => x0 (ix2 r k)) (fun k => x1 (ix3 0 k j)) (x2 (ix3 0 0 j)) := by
  have h2 : (![0, 0] : Fin 2 → ℕ) = fun _ => 0 := by funext a; fin_cases a <;> rfl
  have h3 : (![0, 0, 0] : Fin 3 → ℕ) = fun _ => 0 := by funext a; fin_cases a <;> rfl
  unfold out0_3
  rw [View.canon_cons_unit_zero h3, View.ld_unit_zero h2, View.ld_unit_zero h3, View.ld_unit_zero h3]
  unfold cell
  pointwise [k0_pay1]
  simp only [zero_sub]

variable (m : (ℓ : Loc nD τ sig) → Buf (Elt Ideal) ℓ) (c : Dev nD)

theorem V_w (l : Fin 2) (k : Fin 1024) (j : Fin 6144) : (V m c main_v0 : FVec Ideal S2x1024x6144 .bf16) (ix3 l k j) =
    (m (c, Proc.tc.devRef main_arg1) : FVec Ideal S2x1024x6144 .f32) (ix3 l k j) := by
  unfold V
  after_reads_simp
  pointwise

theorem V_b (l : Fin 2) (j : Fin 6144) : (V m c main_v1 : FVec Ideal S2x1x6144 .f32) (ix3 l 0 j) =
    (m (c, Proc.tc.devRef main_arg2) : FVec Ideal S2x6144 .f32) (ix2 l j) := by
  unfold V
  after_reads_simp
  pointwise

/-! ## The blocks of the windows -/

theorem idx_all : ∀ t : Fin cfg0.N,
    (win0_0.index t (0 : Fin 2) = 0 ∧ win0_0.index t (1 : Fin 2) = 0) ∧
    (win0_1.index t (0 : Fin 3) = t.val / 4 ∧ win0_1.index t (1 : Fin 3) = 0 ∧ win0_1.index t (2 : Fin 3) = t.val % 4) ∧
    (win0_2.index t (0 : Fin 3) = t.val / 4 ∧ win0_2.index t (1 : Fin 3) = 0 ∧ win0_2.index t (2 : Fin 3) = t.val % 4) ∧
    (win0_3.index t (0 : Fin 3) = t.val / 4 ∧ win0_3.index t (1 : Fin 3) = 0 ∧ win0_3.index t (2 : Fin 3) = t.val % 4) := by
  decide +kernel

theorem N8 (t : Fin cfg0.N) : t.val < 8 := lt_of_lt_of_le t.isLt (le_of_eq (by decide +kernel))

/-- The layer and the column of place `j` of block `t`. -/
abbrev lay (t : Fin cfg0.N) : Fin 2 := ⟨t.val / 4, by have := N8 t; omega⟩
abbrev col (t : Fin cfg0.N) (j : Fin 1536) : Fin 6144 := ⟨1536 * (t.val % 4) + j.val, by omega⟩

section
variable (t : Fin cfg0.N)

theorem emb3 (r : Fin 24) (j : Fin 1536) :
    ((cfg0.win 3).blk t).view.emb (ix3 0 r j : S1x24x1536.Idx) = (ix3 (lay t) r (col t j) : S2x24x6144.Idx) := by
  obtain ⟨-, -, -, e0, e1, e2⟩ := idx_all t
  funext a; apply Fin.ext
  match a with
  | ⟨0, _⟩ => show win0_3.index t (0 : Fin 3) * 1 + 1 * 0 = t.val / 4; omega
  | ⟨1, _⟩ => show win0_3.index t (1 : Fin 3) * 24 + 1 * r.val = r.val; omega
  | ⟨2, _⟩ => show win0_3.index t (2 : Fin 3) * 1536 + 1 * j.val = 1536 * (t.val % 4) + j.val; omega

theorem iblk0_eq (r : Fin 24) (k : Fin 1024) : (iblk m c 0 t : FVec Ideal S24x1024 .f32) (ix2 r k) =
    (m (c, Proc.tc.devRef main_arg0) : FVec Ideal S24x1024 .f32) (ix2 r k) := by
  have e : ((cfg0.win 0).blk t).view.emb (ix2 r k : S24x1024.Idx) = (ix2 r k : S24x1024.Idx) := by
    obtain ⟨⟨e0, e1⟩, -⟩ := idx_all t
    funext a; apply Fin.ext
    match a with
    | ⟨0, _⟩ => show win0_0.index t (0 : Fin 2) * 24 + 1 * r.val = r.val; omega
    | ⟨1, _⟩ => show win0_0.index t (1 : Fin 2) * 1024 + 1 * k.val = k.val; omega
  show (V m c main_arg0 : FVec Ideal S24x1024 .f32) (((cfg0.win 0).blk t).view.emb (ix2 r k : S24x1024.Idx)) = _
  rw [e, V_main_arg0]

theorem iblk1_eq (k : Fin 1024) (j : Fin 1536) : (iblk m c 1 t : FVec Ideal S1x1024x1536 .bf16) (ix3 0 k j) =
    (m (c, Proc.tc.devRef main_arg1) : FVec Ideal S2x1024x6144 .f32) (ix3 (lay t) k (col t j)) := by
  have e : ((cfg0.win 1).blk t).view.emb (ix3 0 k j : S1x1024x1536.Idx) = (ix3 (lay t) k (col t j) : S2x1024x6144.Idx) := by
    obtain ⟨-, ⟨e0, e1, e2⟩, -⟩ := idx_all t
    funext a; apply Fin.ext
    match a with
    | ⟨0, _⟩ => show win0_1.index t (0 : Fin 3) * 1 + 1 * 0 = t.val / 4; omega
    | ⟨1, _⟩ => show win0_1.index t (1 : Fin 3) * 1024 + 1 * k.val = k.val; omega
    | ⟨2, _⟩ => show win0_1.index t (2 : Fin 3) * 1536 + 1 * j.val = 1536 * (t.val % 4) + j.val; omega
  show (V m c main_v0 : FVec Ideal S2x1024x6144 .bf16) (((cfg0.win 1).blk t).view.emb (ix3 0 k j : S1x1024x1536.Idx)) = _
  rw [e]; exact V_w m c _ _ _

theorem iblk2_eq (j : Fin 1536) : (iblk m c 2 t : FVec Ideal S1x1x1536 .f32) (ix3 0 0 j) =
    (m (c, Proc.tc.devRef main_arg2) : FVec Ideal S2x6144 .f32) (ix2 (lay t) (col t j)) := by
  have e : ((cfg0.win 2).blk t).view.emb (ix3 0 0 j : S1x1x1536.Idx) = (ix3 (lay t) 0 (col t j) : S2x1x6144.Idx) := by
    obtain ⟨-, -, ⟨e0, e1, e2⟩, -⟩ := idx_all t
    funext a; apply Fin.ext
    match a with
    | ⟨0, _⟩ => show win0_2.index t (0 : Fin 3) * 1 + 1 * 0 = t.val / 4; omega
    | ⟨1, _⟩ => show win0_2.index t (1 : Fin 3) * 1 + 1 * 0 = 0; omega
    | ⟨2, _⟩ => show win0_2.index t (2 : Fin 3) * 1536 + 1 * j.val = 1536 * (t.val % 4) + j.val; omega
  show (V m c main_v1 : FVec Ideal S2x1x6144 .f32) (((cfg0.win 2).blk t).view.emb (ix3 0 0 j : S1x1x1536.Idx)) = _
  rw [e]; exact V_b m c _ _
end

/-! ## The result array -/

/-- The modulation of the arguments in memory. -/
abbrev modMem : S2x24x6144.Idx → EReal :=
  modulation (m (c, Proc.tc.devRef main_arg0)) (m (c, Proc.tc.devRef main_arg1)) (m (c, Proc.tc.devRef main_arg2))

theorem flushed_eq (t : Fin cfg0.N) :
    (dats m 0 c).flushed 3 t = ((cfg0.win 3).blk t).view.read (Elt Ideal) (modMem m c) := by
  rw [flushed3]
  funext (y : S1x24x1536.Idx)
  obtain ⟨z, r, j, rfl⟩ : ∃ (z : Fin 1) (r : Fin 24) (j : Fin 1536), y = ix3 z r j := ⟨y 0, y 1, y 2, eq_ix3 y⟩
  obtain rfl : z = 0 := Subsingleton.elim _ _
  refine (out_apply _ _ _ r j).trans ?_
  show _ = modMem m c (((cfg0.win 3).blk t).view.emb (ix3 0 r j : S1x24x1536.Idx))
  rw [emb3]
  simp only [iblk0_eq, iblk1_eq, iblk2_eq]
  rfl

theorem cover (y : S2x24x6144.Idx) : ∃ t : Fin cfg0.N, (cfg0.win 3).flush t = true ∧ y ∈ ((cfg0.win 3).blk t).view.set := by
  obtain ⟨l, r, j, rfl⟩ : ∃ (l : Fin 2) (r : Fin 24) (j : Fin 6144), y = ix3 l r j := ⟨y 0, y 1, y 2, eq_ix3 y⟩
  obtain ⟨t, ht⟩ : ∃ t : Fin cfg0.N, t.val = 4 * l.val + j.val / 1536 :=
    ⟨⟨4 * l.val + j.val / 1536, lt_of_lt_of_eq (by omega : 4 * l.val + j.val / 1536 < 8) (by decide +kernel)⟩, rfl⟩
  refine ⟨t, flush0_3 t, ?_⟩
  have h := ((cfg0.win 3).blk t).view.emb_mem_set (ix3 0 r (⟨j.val % 1536, by omega⟩ : Fin 1536) : S1x24x1536.Idx)
  rw [emb3] at h
  have e1 : lay t = l := Fin.ext (by simp only [lay]; omega)
  have e2 : col t ⟨j.val % 1536, by omega⟩ = j := Fin.ext (by simp only [col]; omega)
  rw [e1, e2] at h
  exact h

/-- The result array after the run. -/
theorem final_eq : (dats m 0 c).arrAt 3 cfg0.N = modMem m c :=
  (dats m 0 c).arrAt_eq_of_cover 3 (modMem m c) (fun t _ => flushed_eq m c t) cover

end Cert.Modulation

end
-- ==== Proof.Modulation.Ref.lean ====
/-
  The modulation: the reference's array is the same function.
-/
module

public import proofs.«01_k».proof.Proof.Gen.Reference4Ideal.Read
public import proofs.«01_k».proof.Proof.Modulation.Block

@[expose] public section

set_option maxRecDepth 16384

noncomputable section

namespace Cert.Modulation

open Idealize.ShloMosaic Idealize.ShloMosaic.TcCoe Idealize.ShloMosaic.Tactic
open Cert.Reference4Ideal Cert.Reference4Ideal.Read

theorem ref_eq (x0 : (⟨S24x1024, .f32⟩ : BufTy).Contents (Elt Ideal))
    (x1 : (⟨S2x1024x6144, .f32⟩ : BufTy).Contents (Elt Ideal)) (x2 : (⟨S2x6144, .f32⟩ : BufTy).Contents (Elt Ideal)) :
    val_main_v20 (F := Ideal) x0 x1 x2 = modulation x0 x1 x2 := by
  funext y
  obtain ⟨l, r, j, rfl⟩ : ∃ (l : Fin 2) (r : Fin 24) (j : Fin 6144), y = ix3 l r j := ⟨y 0, y 1, y 2, eq_ix3 y⟩
  unfold modulation cell
  fin_cases l <;>
  pointwise [val_main_v20, val_main_v19, val_main_v18, val_main_v17, val_main_v16, val_main_v15, val_main_v14,
    val_main_v13, val_main_v12, val_main_v11, val_main_v10, val_main_v9, val_main_v8, val_main_v7, val_main_v6,
    val_main_v5, val_main_v4, val_main_v3, val_main_v2, val_main_v1, val_main_v0, val_main_call0_v0, val_main_call0_v1,
    val_main_call0_v2, val_main_call0_v3, val_main_call0_v4, val_main_call0_v5, val_main_call0_cst,
    val_main_call0_cst_0, val_main_call1_v0, val_main_call1_v1, val_main_call1_v2, val_main_call1_v3,
    val_main_call1_v4, val_main_call1_v5, val_main_call1_cst, val_main_call1_cst_0]

end Cert.Modulation

end
-- ==== Proof.Modulation.Claims.lean ====
/-
  The claims about the modulation: the frames, and the equality of the kernel's result with the
  reference's.
-/
module

public import proofs.«01_k».proof.Defs
public import proofs.«01_k».proof.Proof.Modulation.Ref
public import proofs.«01_k».proof.Proof.Gen.Kernel4.Frame
public import proofs.«01_k».proof.Proof.Gen.Reference4Ideal.Run

@[expose] public section

set_option maxRecDepth 16384

noncomputable section

namespace Cert.Modulation

open Idealize.ShloMosaic Idealize.ShloMosaic.TcCoe Idealize.SL.Sem

theorem frame_p : Cert.quiescent_Kernel4 := fun m ρ _ => Cert.Kernel4.Gen.frame m ρ

theorem frame_pi : Cert.quiescent_Kernel4Ideal := fun m ρ _ => Cert.Kernel4Ideal.Gen.frame m ρ

/-- The reference keeps its arguments, and it has no semaphore. -/
theorem frame_ri : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The kernel's result array is the reference's. -/
theorem algebraic : Cert.algebraic_Kernel4Ideal_Reference4Ideal := by
  intro m ρ m' ρ' _ hag
  refine ⟨fun c => modMem m c, ?_, ?_⟩
  · exact (θ_run _ _ _).mono (fun r h c => ⟨(h c).1.trans (final_eq m c), (h c).2⟩)
      (Cert.Kernel4Ideal.Value.run_blocks m ρ)
  · refine (θ_run _ _ _).mono (fun r h c => ⟨?_, (h c).2⟩) (Cert.Reference4Ideal.Value.run m' ρ')
    obtain ⟨e0, e1, e2⟩ := hag c
    refine (h c).1.trans ((Cert.Reference4Ideal.Read.val_main_v20_eq (F := Ideal) _ _ _).trans ?_)
    refine (ref_eq _ _ _).trans ?_
    rw [e0, e1, e2]

end Cert.Modulation

end
-- ==== Proof.Filters.Pad.lean ====
/-
  The filters: the entries of a padded array and of a turned one.
-/
module

public import proofs.«01_k».proof.Proof.Gen.Kernel5Ideal.Launch
public import Idealize.ShloMosaic.Lib.Pointwise

@[expose] public section

set_option maxRecDepth 16384

noncomputable section

namespace Cert.Filters

open Idealize.ShloMosaic Idealize.ShloMosaic.TcCoe Idealize.ShloMosaic.Tactic
open Cert.Kernel5Ideal Cert.Kernel5Ideal.Gen

theorem sitofp_zero : (FloatOps.sitofp FTy.f32 0#32 : Ideal .f32) = (0 : EReal) := by
  show (((0#32 : BitVec 32).toInt : ℝ) : EReal) = 0
  simp

theorem pad_cols (x : FVec Ideal S2048x33 .f32) (r : Fin 2048) (i : Fin 128) :
    (pad S2048x128 ![0, 0] ![0, 95] ![0, 0] x (sitofp .f32 (constantI S_ 32 0#32)) pads_S2048x33_S2048x128_000_0950 h_S_ :
      FVec Ideal S2048x128 .f32) (ix2 r i) = if h : i.val < 33 then x (ix2 r ⟨i.val, h⟩) else (0 : EReal) := by
  pointwise
  rw [sitofp_zero]

theorem pad_rows (x : FVec Ideal S33x64 .f32) (i : Fin 128) (j : Fin 64) :
    (pad S128x64 ![0, 0] ![95, 0] ![0, 0] x (sitofp .f32 (constantI S_ 32 0#32)) pads_S33x64_S128x64_0950_000 h_S_ :
      FVec Ideal S128x64 .f32) (ix2 i j) = if h : i.val < 33 then x (ix2 ⟨i.val, h⟩ j) else (0 : EReal) := by
  pointwise
  rw [sitofp_zero]

/-- The rows after the first in the opposite order. -/
theorem turn_rows (x : FVec Ideal S2048x128 .f32) (r : Fin 2048) (i : Fin 128) :
    (concatenate S2048x128 0 [⟨S1x128, extractStridedSlice S1x128 ![0, 0] x slices_S2048x128_S1x128_0_0⟩,
        ⟨S2047x128, Host.reverse [0] (extractStridedSlice S2047x128 ![1, 0] x slices_S2048x128_S2047x128_1_0)⟩]
      concatenates_S1x128_S2047x128_S2048x128_d0 : FVec Ideal S2048x128 .f32) (ix2 r i) =
      x (ix2 (⟨(2048 - r.val) % 2048, by omega⟩ : Fin 2048) i) := by
  pointwise
  by_cases h : r.val < 1
  · rw [dif_pos h]
    exact congrArg (fun a => x (ix2 a i)) (Fin.ext (by show r.val = (2048 - r.val) % 2048; omega))
  · rw [dif_neg h]
    refine congrArg₂ (fun a b => x (ix2 a b)) (Fin.ext ?_) (if_neg (by decide))
    show 1 + (Fin.rev (⟨r.val - 1, _⟩ : Fin 2047)).val = (2048 - r.val) % 2048
    rw [Fin.val_rev]
    show 1 + (2047 - (r.val - 1 + 1)) = (2048 - r.val) % 2048
    omega

end Cert.Filters

end
-- ==== Proof.Filters.Prep.lean ====
/-
  The filters: the arrays the kernel's first part prepares from the arguments.
-/
module

public import proofs.«01_k».proof.Proof.Gen.Kernel5Ideal.Value
public import proofs.«01_k».proof.Proof.Gen.Reference5Ideal.Read
public import proofs.«01_k».proof.Proof.Filters.Pad
public import Idealize.ShloMosaic.Lib.Pointwise
public import Idealize.ShloMosaic.Lib.StableHlo.RunRead

@[expose] public section

set_option maxRecDepth 16384

noncomputable section

namespace Cert.Filters

open Idealize.ShloMosaic Idealize.ShloMosaic.TcCoe Idealize.ShloMosaic.Tactic
open Cert.Kernel5Ideal Cert.Kernel5Ideal.Gen Cert.Kernel5Ideal.Value

/-- The position features: 33 of each of the 2048 positions, the position itself first. -/
abbrev feat : S2048x33.Idx → EReal := Cert.Reference5Ideal.Read.val_main_v19 (F := Ideal)

/-- The decay rates of the 512 channels. -/
abbrev rate : S512.Idx → EReal := Cert.Reference5Ideal.Read.val_main_v40 (F := Ideal)

variable (m : (ℓ : Loc nD τ sig) → Buf (Elt Ideal) ℓ) (c : Dev nD)

/-- The line of operations up to the features, and the two lines after it. -/
abbrev early : List (HloOp τ sig (Elt Ideal)) := List.flatten [hostOps0, hostOps0_1, hostOps0_2, hostOps0_3, hostOps0_4]
abbrev mid : List (HloOp τ sig (Elt Ideal)) := hostOps0_5 ++ List.take 4 hostOps0_6
abbrev late : List (HloOp τ sig (Elt Ideal)) :=
  List.drop 4 hostOps0_6 ++ List.flatten [hostOps0_7, hostOps0_8, hostOps0_9, hostOps0_10]

theorem V_split (b : Ref sig .tc) :
    V m c b =
    StableHlo.after late (StableHlo.after mid (StableHlo.after early (fun b => m (c, b)))) (Proc.devRef .tc b) := by
  rw [← StableHlo.after_append, ← StableHlo.after_append]
  rfl

/-- A line's result of an operation with three operands, each read at its own reference. -/
theorem nary3_result' {x a b y : Ref sig .tc}
    (f : ((k : Fin 3) → ((![x, a, b] : Fin 3 → Ref sig .tc) k).ty.Contents (Elt Ideal)) → y.ty.Contents (Elt Ideal))
    (hxs hy) (F : Valuation τ sig (Elt Ideal)) :
    (StableHlo.nary (τ := τ) ![x, a, b] y f hxs hy).result F (no_index (Proc.devRef .tc y))
      = f (Fin.cons (F (Proc.devRef .tc x)) (Fin.cons (F (Proc.devRef .tc a)) (Fin.cons (F (Proc.devRef .tc b))
          (fun i => i.elim0)))) := by
  rw [StableHlo.nary_result]; congr 1; funext k; fin_cases k <;> rfl

set_option maxHeartbeats 4000000 in
theorem early_feat (W : Valuation τ sig (Elt Ideal)) :
    (StableHlo.after early W (Proc.devRef .tc main_v19) : FVec Ideal S2048x33 .f32) = feat := by
  unfold early
  simp (disch := decide) only [StableHlo.readAfter, StableHlo.readUpto, nary3_result', StableHlo.nullary_result',
    StableHlo.unary_result', StableHlo.binary_result', StableHlo.reshape_result']
  rfl

theorem early_c (W : Valuation τ sig (Elt Ideal)) :
    (StableHlo.after early W (Proc.devRef .tc main_c_4) : IVec S_ 32) = constantI S_ 32 0#32 := by
  unfold early
  after_reads_simp

set_option maxHeartbeats 4000000 in
theorem V_rate : (V m c main_v33 : FVec Ideal S512 .f32) = rate := by
  unfold V
  after_reads_simp
  rfl

theorem V_b1 (j : Fin 64) : (V m c main_v38 : FVec Ideal S1x64 .f32) (ix2 0 j) =
    (m (c, Proc.tc.devRef main_arg1) : FVec Ideal S64 .f32) (ix1 j) := by
  unfold V
  after_reads_simp
  pointwise

theorem V_fr (j : Fin 64) : (V m c main_v39 : FVec Ideal S1x64 .f32) (ix2 0 j) =
    (m (c, Proc.tc.devRef main_arg2) : FVec Ideal S64 .f32) (ix1 j) := by
  unfold V
  after_reads_simp
  pointwise

theorem V_b2 (j : Fin 64) : (V m c main_v40 : FVec Ideal S1x64 .f32) (ix2 0 j) =
    (m (c, Proc.tc.devRef main_arg4) : FVec Ideal S64 .f32) (ix1 j) := by
  unfold V
  after_reads_simp
  pointwise

theorem V_w3 (g : Fin 2) (k : Fin 64) (j : Fin 1024) : (V m c main_v31 : FVec Ideal S2x64x1024 .f32) (ix3 g k j) =
    (m (c, Proc.tc.devRef main_arg5) : FVec Ideal S64x2048 .f32)
      (ix2 k ⟨j.val / 512 * 1024 + g.val * 512 + j.val % 512, by omega⟩) := by
  unfold V
  after_reads_simp
  pointwise

theorem V_ad (j : Fin 1024) : (V m c main_v37 : FVec Ideal S1x1024 .f32) (ix2 0 j) =
    rate (ix1 (⟨j.val % 512, by omega⟩ : Fin 512)) := by
  have e : (V m c main_v37 : FVec Ideal S1x1024 .f32) (ix2 0 j) =
      (V m c main_v33 : FVec Ideal S512 .f32) (ix1 (⟨j.val % 512, by omega⟩ : Fin 512)) := by
    unfold V
    after_reads_simp
    generalize (Host.absf _ : FVec Ideal S512 .f32) = z
    pointwise
  rw [e, V_rate]

/-- The first weights, with rows of zeros from the 33rd on. -/
theorem V_w1 (i : Fin 128) (j : Fin 64) : (V m c main_v28 : FVec Ideal S128x64 .f32) (ix2 i j) =
    if h : i.val < 33 then (m (c, Proc.tc.devRef main_arg0) : FVec Ideal S33x64 .f32) (ix2 ⟨i.val, h⟩ j) else (0 : EReal) := by
  unfold V
  after_reads_simp
  exact pad_rows _ i j

theorem mid_pad (W : Valuation τ sig (Elt Ideal)) (hc : (W (Proc.devRef .tc main_c_4) : IVec S_ 32) = constantI S_ 32 0#32)
    (r : Fin 2048) (i : Fin 128) : (StableHlo.after mid W (Proc.devRef .tc main_v20) : FVec Ideal S2048x128 .f32) (ix2 r i) =
      if h : i.val < 33 then (W (Proc.devRef .tc main_v19) : FVec Ideal S2048x33 .f32) (ix2 r ⟨i.val, h⟩) else (0 : EReal) := by
  unfold mid
  after_reads_simp
  rw [hc]
  exact pad_cols _ r i

theorem mid_turn (W : Valuation τ sig (Elt Ideal)) (r : Fin 2048) (i : Fin 128) :
    (StableHlo.after mid W (Proc.devRef .tc main_v24) : FVec Ideal S2048x128 .f32) (ix2 r i) =
      (StableHlo.after mid W (Proc.devRef .tc main_v20) : FVec Ideal S2048x128 .f32)
        (ix2 (⟨(2048 - r.val) % 2048, by omega⟩ : Fin 2048) i) := by
  unfold mid
  rw [StableHlo.after_append]
  generalize StableHlo.after hostOps0_5 W = U
  after_reads_simp
  exact turn_rows _ r i

theorem late_pair (W : Valuation τ sig (Elt Ideal)) (g : Fin 2) (r : Fin 2048) (i : Fin 128) :
    (StableHlo.after late W (Proc.devRef .tc main_v27) : FVec Ideal S2x2048x128 .f32) (ix3 g r i) =
      if g.val = 0 then (W (Proc.devRef .tc main_v20) : FVec Ideal S2048x128 .f32) (ix2 r i)
      else (W (Proc.devRef .tc main_v24) : FVec Ideal S2048x128 .f32) (ix2 r i) := by
  unfold late
  after_reads_simp
  fin_cases g <;> pointwise

/-- The features of both directions, with columns of zeros from the 33rd on. -/
theorem V_z (g : Fin 2) (r : Fin 2048) (i : Fin 128) : (V m c main_v27 : FVec Ideal S2x2048x128 .f32) (ix3 g r i) =
    if h : i.val < 33 then feat (ix2 (⟨if g.val = 0 then r.val else (2048 - r.val) % 2048, by split <;> omega⟩ : Fin 2048) ⟨i.val, h⟩)
    else (0 : EReal) := by
  rw [V_split, late_pair, mid_turn, mid_pad _ (early_c _), mid_pad _ (early_c _), early_feat]
  by_cases hg : g.val = 0
  · simp only [hg, if_true]
  · simp only [hg, if_false]

end Cert.Filters

end
-- ==== Proof.Filters.Block.lean ====
/-
  The filters: their value, and what one block of the kernel computes.
-/
module

public import proofs.«01_k».proof.Proof.Filters.Prep

@[expose] public section

set_option maxRecDepth 16384

noncomputable section

namespace Cert.Filters

open Idealize.ShloMosaic Idealize.ShloMosaic.TcCoe Idealize.ShloMosaic.Tactic
open Cert.Kernel5Ideal Cert.Kernel5Ideal.Gen Cert.Kernel5Ideal.Value

/-- One layer of sines: `n` inputs to 64 units of frequencies `fr`. -/
def unit {n : ℕ} (z : Fin n → EReal) (w : Fin n → Fin 64 → EReal) (b fr : Fin 64 → EReal) (j : Fin 64) : EReal :=
  Ideal.sin (fr j * (∑ i, z i * w i j + b j))

/-- One entry of a filter: two layers of sines of the features `z`, a column `w3`, and the decay at position `t`. -/
def cell {n : ℕ} (z : Fin n → EReal) (t a : EReal) (w1 : Fin n → Fin 64 → EReal) (b1 fr : Fin 64 → EReal)
    (w2 : Fin 64 → Fin 64 → EReal) (b2 : Fin 64 → EReal) (w3 : Fin 64 → EReal) : EReal :=
  (∑ k, unit (unit z w1 b1 fr) w2 b2 fr k * w3 k) * Ideal.exp (-t * a)

/-- What the body computes at a place of the block, before the dead row is cleared. -/
theorem pay2_apply (x0 : Vec Ideal S1x512x128 .f32) (x3 : Vec Ideal S1x64 .f32) (x1 : Vec Ideal S128x64 .f32)
    (x2 : Vec Ideal S1x64 .f32) (x4 : Vec Ideal S64x64 .f32) (x5 : Vec Ideal S1x64 .f32) (x6 : Vec Ideal S1x64x1024 .f32)
    (x7 : Vec Ideal S1x1024 .f32) (r : Fin 512) (j : Fin 1024) :
    k0_pay2 x0 x3 x1 x2 x4 x5 x6 x7 (ix2 r j) =
      cell (fun i => x0 (ix3 0 r i)) (x0 (ix3 0 r 0)) (x7 (ix2 0 j)) (fun i k => x1 (ix2 i k)) (fun k => x2 (ix2 0 k))
        (fun k => x3 (ix2 0 k)) (fun i k => x4 (ix2 i k)) (fun k => x5 (ix2 0 k)) (fun k => x6 (ix3 0 k j)) := by
  unfold cell unit
  pointwise [k0_pay2]
  simp only [zero_sub]

theorem pay1_apply (a b : BitVec 32) (x : FVec Ideal S512x1024 .f32) (r : Fin 512) (j : Fin 1024) :
    k0_pay1 a b x (ix3 0 r j) = if a = 1#32 ∧ b = 0#32 ∧ r.val = 0 then (0 : EReal) else x (ix2 r j) := by
  pointwise [k0_pay1]
  have hr : (BitVec.ofNat 32 r.val = 0#32) ↔ r.val = 0 := by
    rw [← BitVec.toNat_inj]
    simp only [BitVec.toNat_ofNat]
    omega
  have q : ∀ p q r : Bool, (BitVec.ofBool p &&& BitVec.ofBool q) &&& BitVec.ofBool r = 1#1 ↔
      (p = true ∧ q = true ∧ r = true) := by decide
  show (if (BitVec.ofBool (a == 1#32) &&& BitVec.ofBool (b == 0#32)) &&& BitVec.ofBool (BitVec.ofNat 32 r.val == 0#32) = 1#1
    then (0 : EReal) else x (ix2 r j)) = _
  exact if_congr ((q _ _ _).trans (by simp only [beq_iff_eq, hr])) rfl rfl

theorem out_apply (i : grid0.Coords) (x0 : Vec Ideal S1x512x128 .f32) (x1 : Vec Ideal S128x64 .f32)
    (x2 x3 : Vec Ideal S1x64 .f32) (x4 : Vec Ideal S64x64 .f32) (x5 : Vec Ideal S1x64 .f32) (x6 : Vec Ideal S1x64x1024 .f32)
    (x7 : Vec Ideal S1x1024 .f32) (r : Fin 512) (j : Fin 1024) :
    out0_8 i x0 x1 x2 x3 x4 x5 x6 x7 (ix3 0 r j) =
      if BitVec.ofNat 32 (i 0).val = 1#32 ∧ BitVec.ofNat 32 (i 1).val = 0#32 ∧ r.val = 0 then (0 : EReal) else
      cell (fun i => x0 (ix3 0 r i)) (x0 (ix3 0 r 0)) (x7 (ix2 0 j)) (fun i k => x1 (ix2 i k)) (fun k => x2 (ix2 0 k))
        (fun k => x3 (ix2 0 k)) (fun i k => x4 (ix2 i k)) (fun k => x5 (ix2 0 k)) (fun k => x6 (ix3 0 k j)) := by
  have h2 : (![0, 0] : Fin 2 → ℕ) = fun _ => 0 := by funext a; fin_cases a <;> rfl
  have h3 : (![0, 0, 0] : Fin 3 → ℕ) = fun _ => 0 := by funext a; fin_cases a <;> rfl
  unfold out0_8
  rw [View.canon_cons_unit_zero h3, View.ld_unit_zero h3, View.ld_unit_zero h2, View.ld_unit_zero h2,
    View.ld_unit_zero h2, View.ld_unit_zero h2, View.ld_unit_zero h2, View.ld_unit_zero h3, View.ld_unit_zero h2]
  rw [pay1_apply, pay2_apply]

/-- The features past the 33rd are zero, and so are the weights they meet. -/
theorem cell_pad (z : Fin 128 → EReal) (w1 : Fin 128 → Fin 64 → EReal) (z' : Fin 33 → EReal) (w1' : Fin 33 → Fin 64 → EReal)
    (hz : ∀ i : Fin 128, z i = if h : i.val < 33 then z' ⟨i.val, h⟩ else 0)
    (hw : ∀ (i : Fin 128) j, w1 i j = if h : i.val < 33 then w1' ⟨i.val, h⟩ j else 0)
    (t a : EReal) (b1 fr : Fin 64 → EReal) (w2 : Fin 64 → Fin 64 → EReal) (b2 w3 : Fin 64 → EReal) :
    cell z t a w1 b1 fr w2 b2 w3 = cell z' t a w1' b1 fr w2 b2 w3 := by
  have e (j : Fin 64) : ∑ i : Fin 128, z i * w1 i j = ∑ i : Fin 33, z' i * w1' i j := by
    refine (Fin.sum_univ_add (a := 33) (b := 95) (fun i => z i * w1 i j)).trans ?_
    have e2 : ∑ i : Fin 95, z (Fin.natAdd 33 i) * w1 (Fin.natAdd 33 i) j = 0 :=
      Finset.sum_eq_zero fun i _ => by
        rw [hz, dif_neg (by simp only [Fin.val_natAdd]; omega), zero_mul]
    rw [e2, add_zero]
    refine Finset.sum_congr rfl fun i _ => ?_
    rw [hz, hw, dif_pos (by simp only [Fin.val_castAdd]; omega), dif_pos (by simp only [Fin.val_castAdd]; omega)]
    rfl
  have e' : unit z w1 b1 fr = unit z' w1' b1 fr := funext fun j => by unfold unit; rw [e]
  unfold cell
  rw [e']

/-- The row of the features that entry `r` of direction `g` is of: forward, or backward around the circle. -/
def src (g : Fin 2) (r : Fin 2048) : Fin 2048 :=
  ⟨if g.val = 0 then r.val else (2048 - r.val) % 2048, by split <;> omega⟩

/-- The filters of both directions, from features `z` and decay rates `a`. -/
def filters (z : S2048x33.Idx → EReal) (a : S512.Idx → EReal) (w1 : S33x64.Idx → EReal) (b1 fr : S64.Idx → EReal)
    (w2 : S64x64.Idx → EReal) (b2 : S64.Idx → EReal) (w3 : S64x2048.Idx → EReal) : S2x2048x1024.Idx → EReal := fun y =>
  if (y 0).val = 1 ∧ (y 1).val = 0 then 0 else
  cell (fun i => z (ix2 (src (y 0) (y 1)) i)) (z (ix2 (src (y 0) (y 1)) 0))
    (a (ix1 ⟨(y 2).val % 512, by have := (y 2).isLt; omega⟩)) (fun i k => w1 (ix2 i k)) (fun k => b1 (ix1 k))
    (fun k => fr (ix1 k)) (fun i k => w2 (ix2 i k)) (fun k => b2 (ix1 k))
    (fun k => w3 (ix2 k ⟨(y 2).val / 512 * 1024 + (y 0).val * 512 + (y 2).val % 512, by
      have h0 : (y 0).val < 2 := (y 0).isLt
      have h2 : (y 2).val < 1024 := (y 2).isLt
      omega⟩))

end Cert.Filters

end
-- ==== Proof.Filters.Array.lean ====
/-
  The filters: the kernel's result array after the run.
-/
module

public import proofs.«01_k».proof.Proof.Filters.Block

@[expose] public section

set_option maxRecDepth 16384

noncomputable section

namespace Cert.Filters

open Idealize.ShloMosaic Idealize.ShloMosaic.TcCoe
open Cert.Kernel5Ideal Cert.Kernel5Ideal.Gen Cert.Kernel5Ideal.Value

variable (m : (ℓ : Loc nD τ sig) → Buf (Elt Ideal) ℓ) (c : Dev nD)

/-! ## The blocks of the windows -/

theorem idx0 : ∀ t : Fin cfg0.N, win0_0.index t (0 : Fin 3) = t.val / 4 ∧ win0_0.index t (1 : Fin 3) = t.val % 4 ∧
    win0_0.index t (2 : Fin 3) = 0 := by decide +kernel
theorem idx_whole : ∀ t : Fin cfg0.N, (win0_1.index t (0 : Fin 2) = 0 ∧ win0_1.index t (1 : Fin 2) = 0) ∧
    (win0_2.index t (0 : Fin 2) = 0 ∧ win0_2.index t (1 : Fin 2) = 0) ∧
    (win0_3.index t (0 : Fin 2) = 0 ∧ win0_3.index t (1 : Fin 2) = 0) ∧
    (win0_4.index t (0 : Fin 2) = 0 ∧ win0_4.index t (1 : Fin 2) = 0) ∧
    (win0_5.index t (0 : Fin 2) = 0 ∧ win0_5.index t (1 : Fin 2) = 0) ∧
    (win0_7.index t (0 : Fin 2) = 0 ∧ win0_7.index t (1 : Fin 2) = 0) := by decide +kernel
theorem idx6 : ∀ t : Fin cfg0.N, win0_6.index t (0 : Fin 3) = t.val / 4 ∧ win0_6.index t (1 : Fin 3) = 0 ∧
    win0_6.index t (2 : Fin 3) = 0 := by decide +kernel
theorem idx8 : ∀ t : Fin cfg0.N, win0_8.index t (0 : Fin 3) = t.val / 4 ∧ win0_8.index t (1 : Fin 3) = t.val % 4 ∧
    win0_8.index t (2 : Fin 3) = 0 := by decide +kernel
theorem coords_all : ∀ t : Fin cfg0.N, (grid0.coords t 0).val = t.val / 4 ∧ (grid0.coords t 1).val = t.val % 4 := by
  decide +kernel

theorem N8 (t : Fin cfg0.N) : t.val < 8 := lt_of_lt_of_le t.isLt (le_of_eq (by decide +kernel))

/-- The direction of block `t` and the position of its row `r`. -/
abbrev dir (t : Fin cfg0.N) : Fin 2 := ⟨t.val / 4, by have := N8 t; omega⟩
abbrev row (t : Fin cfg0.N) (r : Fin 512) : Fin 2048 := ⟨512 * (t.val % 4) + r.val, by omega⟩

section
variable (t : Fin cfg0.N)

theorem emb8 (r : Fin 512) (j : Fin 1024) :
    ((cfg0.win 8).blk t).view.emb (ix3 0 r j : S1x512x1024.Idx) = (ix3 (dir t) (row t r) j : S2x2048x1024.Idx) := by
  obtain ⟨e0, e1, e2⟩ := idx8 t
  funext a; apply Fin.ext
  match a with
  | ⟨0, _⟩ => show win0_8.index t (0 : Fin 3) * 1 + 1 * 0 = t.val / 4; omega
  | ⟨1, _⟩ => show win0_8.index t (1 : Fin 3) * 512 + 1 * r.val = 512 * (t.val % 4) + r.val; omega
  | ⟨2, _⟩ => show win0_8.index t (2 : Fin 3) * 1024 + 1 * j.val = j.val; omega

theorem iblk0_eq (r : Fin 512) (i : Fin 128) : (iblk m c 0 t : FVec Ideal S1x512x128 .f32) (ix3 0 r i) =
    if h : i.val < 33 then feat (ix2 (src (dir t) (row t r)) ⟨i.val, h⟩) else (0 : EReal) := by
  have e : ((cfg0.win 0).blk t).view.emb (ix3 0 r i : S1x512x128.Idx) = (ix3 (dir t) (row t r) i : S2x2048x128.Idx) := by
    obtain ⟨e0, e1, e2⟩ := idx0 t
    funext a; apply Fin.ext
    match a with
    | ⟨0, _⟩ => show win0_0.index t (0 : Fin 3) * 1 + 1 * 0 = t.val / 4; omega
    | ⟨1, _⟩ => show win0_0.index t (1 : Fin 3) * 512 + 1 * r.val = 512 * (t.val % 4) + r.val; omega
    | ⟨2, _⟩ => show win0_0.index t (2 : Fin 3) * 128 + 1 * i.val = i.val; omega
  show (V m c main_v27 : FVec Ideal S2x2048x128 .f32) (((cfg0.win 0).blk t).view.emb (ix3 0 r i : S1x512x128.Idx)) = _
  rw [e]; exact V_z m c _ _ _

theorem iblk1_eq (i : Fin 128) (j : Fin 64) : (iblk m c 1 t : FVec Ideal S128x64 .f32) (ix2 i j) =
    if h : i.val < 33 then (m (c, Proc.tc.devRef main_arg0) : FVec Ideal S33x64 .f32) (ix2 ⟨i.val, h⟩ j) else (0 : EReal) := by
  have e : ((cfg0.win 1).blk t).view.emb (ix2 i j : S128x64.Idx) = (ix2 i j : S128x64.Idx) := by
    obtain ⟨⟨e0, e1⟩, -⟩ := idx_whole t
    funext a; apply Fin.ext
    match a with
    | ⟨0, _⟩ => show win0_1.index t (0 : Fin 2) * 128 + 1 * i.val = i.val; omega
    | ⟨1, _⟩ => show win0_1.index t (1 : Fin 2) * 64 + 1 * j.val = j.val; omega
  show (V m c main_v28 : FVec Ideal S128x64 .f32) (((cfg0.win 1).blk t).view.emb (ix2 i j : S128x64.Idx)) = _
  rw [e]; exact V_w1 m c _ _

theorem iblk2_eq (j : Fin 64) : (iblk m c 2 t : FVec Ideal S1x64 .f32) (ix2 0 j) =
    (m (c, Proc.tc.devRef main_arg1) : FVec Ideal S64 .f32) (ix1 j) := by
  have e : ((cfg0.win 2).blk t).view.emb (ix2 0 j : S1x64.Idx) = (ix2 0 j : S1x64.Idx) := by
    obtain ⟨-, ⟨e0, e1⟩, -⟩ := idx_whole t
    funext a; apply Fin.ext
    match a with
    | ⟨0, _⟩ => show win0_2.index t (0 : Fin 2) * 1 + 1 * 0 = 0; omega
    | ⟨1, _⟩ => show win0_2.index t (1 : Fin 2) * 64 + 1 * j.val = j.val; omega
  show (V m c main_v38 : FVec Ideal S1x64 .f32) (((cfg0.win 2).blk t).view.emb (ix2 0 j : S1x64.Idx)) = _
  rw [e]; exact V_b1 m c _

theorem iblk3_eq (j : Fin 64) : (iblk m c 3 t : FVec Ideal S1x64 .f32) (ix2 0 j) =
    (m (c, Proc.tc.devRef main_arg2) : FVec Ideal S64 .f32) (ix1 j) := by
  have e : ((cfg0.win 3).blk t).view.emb (ix2 0 j : S1x64.Idx) = (ix2 0 j : S1x64.Idx) := by
    obtain ⟨-, -, ⟨e0, e1⟩, -⟩ := idx_whole t
    funext a; apply Fin.ext
    match a with
    | ⟨0, _⟩ => show win0_3.index t (0 : Fin 2) * 1 + 1 * 0 = 0; omega
    | ⟨1, _⟩ => show win0_3.index t (1 : Fin 2) * 64 + 1 * j.val = j.val; omega
  show (V m c main_v39 : FVec Ideal S1x64 .f32) (((cfg0.win 3).blk t).view.emb (ix2 0 j : S1x64.Idx)) = _
  rw [e]; exact V_fr m c _

theorem iblk4_eq (i j : Fin 64) : (iblk m c 4 t : FVec Ideal S64x64 .f32) (ix2 i j) =
    (m (c, Proc.tc.devRef main_arg3) : FVec Ideal S64x64 .f32) (ix2 i j) := by
  have e : ((cfg0.win 4).blk t).view.emb (ix2 i j : S64x64.Idx) = (ix2 i j : S64x64.Idx) := by
    obtain ⟨-, -, -, ⟨e0, e1⟩, -⟩ := idx_whole t
    funext a; apply Fin.ext
    match a with
    | ⟨0, _⟩ => show win0_4.index t (0 : Fin 2) * 64 + 1 * i.val = i.val; omega
    | ⟨1, _⟩ => show win0_4.index t (1 : Fin 2) * 64 + 1 * j.val = j.val; omega
  show (V m c main_arg3 : FVec Ideal S64x64 .f32) (((cfg0.win 4).blk t).view.emb (ix2 i j : S64x64.Idx)) = _
  rw [e, V_main_arg3]

theorem iblk5_eq (j : Fin 64) : (iblk m c 5 t : FVec Ideal S1x64 .f32) (ix2 0 j) =
    (m (c, Proc.tc.devRef main_arg4) : FVec Ideal S64 .f32) (ix1 j) := by
  have e : ((cfg0.win 5).blk t).view.emb (ix2 0 j : S1x64.Idx) = (ix2 0 j : S1x64.Idx) := by
    obtain ⟨-, -, -, -, ⟨e0, e1⟩, -⟩ := idx_whole t
    funext a; apply Fin.ext
    match a with
    | ⟨0, _⟩ => show win0_5.index t (0 : Fin 2) * 1 + 1 * 0 = 0; omega
    | ⟨1, _⟩ => show win0_5.index t (1 : Fin 2) * 64 + 1 * j.val = j.val; omega
  show (V m c main_v40 : FVec Ideal S1x64 .f32) (((cfg0.win 5).blk t).view.emb (ix2 0 j : S1x64.Idx)) = _
  rw [e]; exact V_b2 m c _

theorem iblk6_eq (k : Fin 64) (j : Fin 1024) : (iblk m c 6 t : FVec Ideal S1x64x1024 .f32) (ix3 0 k j) =
    (m (c, Proc.tc.devRef main_arg5) : FVec Ideal S64x2048 .f32)
      (ix2 k ⟨j.val / 512 * 1024 + (dir t).val * 512 + j.val % 512, by have := N8 t; simp only [dir]; omega⟩) := by
  have e : ((cfg0.win 6).blk t).view.emb (ix3 0 k j : S1x64x1024.Idx) = (ix3 (dir t) k j : S2x64x1024.Idx) := by
    obtain ⟨e0, e1, e2⟩ := idx6 t
    funext a; apply Fin.ext
    match a with
    | ⟨0, _⟩ => show win0_6.index t (0 : Fin 3) * 1 + 1 * 0 = t.val / 4; omega
    | ⟨1, _⟩ => show win0_6.index t (1 : Fin 3) * 64 + 1 * k.val = k.val; omega
    | ⟨2, _⟩ => show win0_6.index t (2 : Fin 3) * 1024 + 1 * j.val = j.val; omega
  show (V m c main_v31 : FVec Ideal S2x64x1024 .f32) (((cfg0.win 6).blk t).view.emb (ix3 0 k j : S1x64x1024.Idx)) = _
  rw [e]; exact V_w3 m c _ _ _

theorem iblk7_eq (j : Fin 1024) : (iblk m c 7 t : FVec Ideal S1x1024 .f32) (ix2 0 j) =
    rate (ix1 (⟨j.val % 512, by omega⟩ : Fin 512)) := by
  have e : ((cfg0.win 7).blk t).view.emb (ix2 0 j : S1x1024.Idx) = (ix2 0 j : S1x1024.Idx) := by
    obtain ⟨-, -, -, -, -, ⟨e0, e1⟩⟩ := idx_whole t
    funext a; apply Fin.ext
    match a with
    | ⟨0, _⟩ => show win0_7.index t (0 : Fin 2) * 1 + 1 * 0 = 0; omega
    | ⟨1, _⟩ => show win0_7.index t (1 : Fin 2) * 1024 + 1 * j.val = j.val; omega
  show (V m c main_v37 : FVec Ideal S1x1024 .f32) (((cfg0.win 7).blk t).view.emb (ix2 0 j : S1x1024.Idx)) = _
  rw [e]; exact V_ad m c _

/-- The row the body clears is position 0 of the backward direction. -/
theorem dead_iff (r : Fin 512) : (BitVec.ofNat 32 (grid0.coords t 0).val = 1#32 ∧ BitVec.ofNat 32 (grid0.coords t 1).val = 0#32 ∧
    r.val = 0) ↔ ((dir t).val = 1 ∧ (row t r).val = 0) := by
  obtain ⟨e0, e1⟩ := coords_all t
  have h8 := N8 t
  rw [e0, e1, ← BitVec.toNat_inj, ← BitVec.toNat_inj]
  simp only [BitVec.toNat_ofNat, dir, row]
  omega
end

/-! ## The result array -/

/-- The filters of the arguments in memory. -/
abbrev filtersMem : S2x2048x1024.Idx → EReal :=
  filters feat rate (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5))

theorem flushed_eq (t : Fin cfg0.N) :
    (dats m 0 c).flushed 8 t = ((cfg0.win 8).blk t).view.read (Elt Ideal) (filtersMem m c) := by
  rw [flushed8]
  funext (y : S1x512x1024.Idx)
  obtain ⟨z, r, j, rfl⟩ : ∃ (z : Fin 1) (r : Fin 512) (j : Fin 1024), y = ix3 z r j := ⟨y 0, y 1, y 2, eq_ix3 y⟩
  obtain rfl : z = 0 := Subsingleton.elim _ _
  refine (out_apply _ _ _ _ _ _ _ _ _ r j).trans ?_
  show _ = filtersMem m c (((cfg0.win 8).blk t).view.emb (ix3 0 r j : S1x512x1024.Idx))
  rw [emb8]
  refine if_congr (dead_iff t r) rfl ?_
  rw [cell_pad _ _ (fun i => feat (ix2 (src (dir t) (row t r)) i))
    (fun i k => (m (c, Proc.tc.devRef main_arg0) : FVec Ideal S33x64 .f32) (ix2 i k))
    (fun i => iblk0_eq m c t r i) (fun i k => iblk1_eq m c t i k)]
  simp only [iblk2_eq, iblk3_eq, iblk4_eq, iblk5_eq, iblk6_eq, iblk7_eq]
  rw [iblk0_eq, dif_pos (by decide)]
  rfl

theorem cover (y : S2x2048x1024.Idx) : ∃ t : Fin cfg0.N, (cfg0.win 8).flush t = true ∧ y ∈ ((cfg0.win 8).blk t).view.set := by
  obtain ⟨g, r, j, rfl⟩ : ∃ (g : Fin 2) (r : Fin 2048) (j : Fin 1024), y = ix3 g r j := ⟨y 0, y 1, y 2, eq_ix3 y⟩
  obtain ⟨t, ht⟩ : ∃ t : Fin cfg0.N, t.val = 4 * g.val + r.val / 512 :=
    ⟨⟨4 * g.val + r.val / 512, lt_of_lt_of_eq (by omega : 4 * g.val + r.val / 512 < 8) (by decide +kernel)⟩, rfl⟩
  refine ⟨t, flush0_8 t, ?_⟩
  have h := ((cfg0.win 8).blk t).view.emb_mem_set (ix3 0 (⟨r.val % 512, by omega⟩ : Fin 512) j : S1x512x1024.Idx)
  rw [emb8] at h
  have e1 : dir t = g := Fin.ext (by simp only [dir]; omega)
  have e2 : row t ⟨r.val % 512, by omega⟩ = r := Fin.ext (by simp only [row]; omega)
  rw [e1, e2] at h
  exact h

/-- The result array after the run. -/
theorem final_eq : (dats m 0 c).arrAt 8 cfg0.N = filtersMem m c :=
  (dats m 0 c).arrAt_eq_of_cover 8 (filtersMem m c) (fun t _ => flushed_eq m c t) cover

end Cert.Filters

end
-- ==== Proof.Filters.Ref.lean ====
/-
  The filters: the reference's array is the same function.
-/
module

public import proofs.«01_k».proof.Proof.Gen.Reference5Ideal.Read
public import proofs.«01_k».proof.Proof.Filters.Array

@[expose] public section

set_option maxRecDepth 16384

noncomputable section

namespace Cert.Filters

open Idealize.ShloMosaic Idealize.ShloMosaic.TcCoe Idealize.ShloMosaic.Tactic
open Cert.Reference5Ideal Cert.Reference5Ideal.Read

/-- The first feature is the position. -/
theorem pos_eq (r : Fin 2048) : val_main_v1 (F := Ideal) (ix2 r 0) = val_main_v19 (F := Ideal) (ix2 r 0) := by
  symm
  unfold val_main_v19
  generalize val_main_v1 (F := Ideal) = a
  generalize val_main_v13 (F := Ideal) = b
  generalize val_main_v18 (F := Ideal) = d
  pointwise

variable (x0 : (⟨S33x64, .f32⟩ : BufTy).Contents (Elt Ideal)) (x1 x2 : (⟨S64, .f32⟩ : BufTy).Contents (Elt Ideal))
  (x3 : (⟨S64x64, .f32⟩ : BufTy).Contents (Elt Ideal)) (x4 : (⟨S64, .f32⟩ : BufTy).Contents (Elt Ideal))
  (x5 : (⟨S64x2048, .f32⟩ : BufTy).Contents (Elt Ideal))

/-- An entry of the filters by position, order, direction and channel. -/
theorem hf_eq (r : Fin 2048) (o d : Fin 2) (j : Fin 512) :
    val_main_v48 (F := Ideal) x0 x1 x2 x3 x4 x5 (ix4 r o d j) =
      cell (fun i => val_main_v19 (F := Ideal) (ix2 r i)) (val_main_v19 (F := Ideal) (ix2 r 0))
        (val_main_v40 (F := Ideal) (ix1 j)) (fun i k => x0 (ix2 i k)) (fun k => x1 (ix1 k)) (fun k => x2 (ix1 k))
        (fun i k => x3 (ix2 i k)) (fun k => x4 (ix1 k))
        (fun k => x5 (ix2 k ⟨o.val * 1024 + d.val * 512 + j.val, by omega⟩)) := by
  rw [← pos_eq]
  unfold val_main_v48 val_main_v47 val_main_v46 val_main_v45 val_main_v44 val_main_v43 val_main_v42 val_main_v41
    val_main_v39 val_main_v37 val_main_v36 val_main_v35 val_main_v34 val_main_v33 val_main_v32 val_main_v31 val_main_v30
    val_main_v29 val_main_v28 val_main_v27 val_main_v26 val_main_v25 val_main_v24 val_main_v23 val_main_v22 val_main_v21
    val_main_v20
  generalize val_main_v1 (F := Ideal) = a
  generalize val_main_v19 (F := Ideal) = z
  generalize val_main_v40 (F := Ideal) = d
  unfold cell unit
  pointwise

theorem full_eq (g : Fin 2) (r : Fin 2048) (j : Fin 1024) :
    val_main_v56 (F := Ideal) x0 x1 x2 x3 x4 x5 (ix3 g r j) =
      if g.val = 1 ∧ r.val = 0 then (0 : EReal) else
      val_main_v48 (F := Ideal) x0 x1 x2 x3 x4 x5
        (ix4 (src g r) (⟨j.val / 512, by omega⟩ : Fin 2) g (⟨j.val % 512, by omega⟩ : Fin 512)) := by
  unfold val_main_v56 val_main_v55 val_main_v54 val_main_v53 val_main_v52 val_main_v51 val_main_v50 val_main_v49
    val_main_cst_6
  generalize val_main_v48 (F := Ideal) x0 x1 x2 x3 x4 x5 = h
  pointwise
  obtain rfl | rfl : g = 0 ∨ g = 1 := by omega
  · rw [dif_pos (by show 0 * 2048 + r.val < 2048; omega)]
    refine Eq.trans ?_ (if_neg fun e => absurd e.1 (by decide)).symm
    exact congrArg (fun a => h (ix4 a _ 0 _)) (Fin.ext (by show 0 * 2048 + r.val = r.val; omega))
  · rw [dif_neg (by show ¬ 1 * 2048 + r.val < 2048; omega)]
    by_cases hr : r.val = 0
    · rw [dif_pos (by show 1 * 2048 + r.val - 2048 < 1; omega)]
      exact (if_pos ⟨rfl, hr⟩).symm
    · rw [dif_neg (by show ¬ 1 * 2048 + r.val - 2048 < 1; omega)]
      refine Eq.trans (congrArg h ?_) (if_neg fun e => hr e.2).symm
      have e0 : (⟨1 + ((⟨1 * 2048 + r.val - 2048 - 1, by omega⟩ : Fin 2047).rev).val, by omega⟩ : Fin 2048) = src 1 r := by
        refine Fin.ext ?_
        show 1 + (2047 - (1 * 2048 + r.val - 2048 - 1 + 1)) = (2048 - r.val) % 2048
        omega
      funext a
      match a with
      | ⟨0, _⟩ => exact e0
      | ⟨1, _⟩ => rfl
      | ⟨2, _⟩ => rfl
      | ⟨3, _⟩ => rfl

/-- The reference's array is the filters'. -/
theorem ref_eq : val_main_v56 (F := Ideal) x0 x1 x2 x3 x4 x5 = filters feat rate x0 x1 x2 x3 x4 x5 := by
  funext y
  obtain ⟨g, r, j, rfl⟩ : ∃ (g : Fin 2) (r : Fin 2048) (j : Fin 1024), y = ix3 g r j := ⟨y 0, y 1, y 2, eq_ix3 y⟩
  rw [full_eq, hf_eq]
  rfl

end Cert.Filters

end
-- ==== Proof.Filters.Claims.lean ====
/-
  The claims about the filters: the frames, and the equality of the kernel's result with the
  reference's.
-/
module

public import proofs.«01_k».proof.Defs
public import proofs.«01_k».proof.Proof.Filters.Ref
public import proofs.«01_k».proof.Proof.Gen.Kernel5.Frame
public import proofs.«01_k».proof.Proof.Gen.Reference5Ideal.Run

@[expose] public section

set_option maxRecDepth 16384

noncomputable section

namespace Cert.Filters

open Idealize.ShloMosaic Idealize.ShloMosaic.TcCoe Idealize.SL.Sem

theorem frame_p : Cert.quiescent_Kernel5 := fun m ρ _ => Cert.Kernel5.Gen.frame m ρ

theorem frame_pi : Cert.quiescent_Kernel5Ideal := fun m ρ _ => Cert.Kernel5Ideal.Gen.frame m ρ

/-- The reference keeps its arguments, and it has no semaphore. -/
theorem frame_ri : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The kernel's result array is the reference's. -/
theorem algebraic : Cert.algebraic_Kernel5Ideal_Reference5Ideal := by
  intro m ρ m' ρ' _ hag
  refine ⟨fun c => filtersMem m c, ?_, ?_⟩
  · exact (θ_run _ _ _).mono (fun r h c => ⟨(h c).1.trans (final_eq m c), (h c).2⟩)
      (Cert.Kernel5Ideal.Value.run_blocks m ρ)
  · refine (θ_run _ _ _).mono (fun r h c => ⟨?_, (h c).2⟩) (Cert.Reference5Ideal.Value.run m' ρ')
    obtain ⟨e0, e1, e2, e3, e4, e5⟩ := hag c
    refine (h c).1.trans ((Cert.Reference5Ideal.Read.val_main_v56_eq (F := Ideal) _ _).trans ?_)
    refine (ref_eq _ _ _ _ _ _).trans ?_
    rw [e0, e1, e2, e3, e4, e5]

end Cert.Filters

end
-- ==== Proof.Gelu.Block.lean ====
/-
  The gelu gate: its value, what one block of the kernel computes, and the kernel's result array.
-/
module

public import proofs.«01_k».proof.Proof.Gen.Kernel6Ideal.Value
public import Idealize.ShloMosaic.Lib.Pointwise
public import Idealize.ShloMosaic.Lib.WritesUnit

@[expose] public section

set_option maxRecDepth 16384

noncomputable section

namespace Cert.Gelu

open Idealize.ShloMosaic Idealize.ShloMosaic.TcCoe Idealize.ShloMosaic.Tactic
open Cert.Kernel6Ideal Cert.Kernel6Ideal.Gen Cert.Kernel6Ideal.Value

/-- The float32 numbers a half and the root of a half. -/
def half : EReal := Ideal.ofBits .f32 0x3F000000#32
def rootHalf : EReal := Ideal.ofBits .f32 0x3F3504F3#32

/-- A gate times the gelu of `a`. -/
def cell (a g : EReal) : EReal := g * (half * a * (1 + Ideal.erf (a * rootHalf)))

/-- The activations of the last 24576 tokens, each times its gate; the gates are those of all tokens. -/
def gelu (a : S24576x128.Idx → EReal) (g : S49152x128.Idx → EReal) : S24576x128.Idx → EReal := fun y =>
  cell (a y) (g (ix2 ⟨24576 + (y 0).val, by have : (y 0).val < 24576 := (y 0).isLt; omega⟩ (y 1)))

section
variable (c : Dev nD) (i : grid0.Coords) (arg1 : Memref sig .tc .vmem S2048x128 .f32) (harg1 : arg1.IsWhole)
  (arg2 : Memref sig .tc .vmem S2048x128 .f32) (harg2 : arg2.IsWhole) (arg4 : Memref sig .tc .vmem S2048x128 .f32)
  (harg4 : arg4.IsWhole) (x0 x1 : Vec Ideal S2048x128 .f32)

/-- What the body leaves at a place of the block, from the blocks of its inputs. -/
theorem out_apply (r : Fin 2048) (j : Fin 128) :
    out0_A_2 c i arg1 harg1 arg2 harg2 arg4 harg4 x0 x1 (ix2 r j) = cell (x0 (ix2 r j)) (x1 (ix2 r j)) := by
  have h2 : (![0, 0] : Fin 2 → ℕ) = fun _ => 0 := by funext a; fin_cases a <;> rfl
  unfold out0_A_2 kernelRun0_A
  dsimp only
  refine (View.read_writes_cons_unit_of_mem _ _ _ _ _ (ix2 r j) (ix2 r j) h2 (fun a => (Nat.zero_add _).symm)).trans ?_
  simp only [View.readAt_eq_ld, harg1.read_unread, harg2.read_unread]
  rw [View.ld_unit_zero h2, View.ld_unit_zero h2]
  unfold cell half rootHalf
  pointwise [k0_pay1]
  rfl
end

variable (m : (ℓ : Loc nD τ sig) → Buf (Elt Ideal) ℓ) (c : Dev nD)

/-! ## The blocks of the windows -/

theorem idx_all : ∀ t : Fin cfg0.N,
    (win0_0.index t (0 : Fin 2) = t.val ∧ win0_0.index t (1 : Fin 2) = 0) ∧
    (win0_1.index t (0 : Fin 2) = t.val + 12 ∧ win0_1.index t (1 : Fin 2) = 0) ∧
    (win0_2.index t (0 : Fin 2) = t.val ∧ win0_2.index t (1 : Fin 2) = 0) := by decide +kernel

theorem N12 (t : Fin cfg0.N) : t.val < 12 := lt_of_lt_of_le t.isLt (le_of_eq (by decide +kernel))

/-- The row of the result that row `r` of block `t` is. -/
abbrev row (t : Fin cfg0.N) (r : Fin 2048) : Fin 24576 := ⟨2048 * t.val + r.val, by have := N12 t; omega⟩

section
variable (t : Fin cfg0.N)

theorem emb2 (r : Fin 2048) (j : Fin 128) :
    ((cfg0.win 2).blk t).view.emb (ix2 r j : S2048x128.Idx) = (ix2 (row t r) j : S24576x128.Idx) := by
  obtain ⟨-, -, e0, e1⟩ := idx_all t
  funext a; apply Fin.ext
  match a with
  | ⟨0, _⟩ => show win0_2.index t (0 : Fin 2) * 2048 + 1 * r.val = 2048 * t.val + r.val; omega
  | ⟨1, _⟩ => show win0_2.index t (1 : Fin 2) * 128 + 1 * j.val = j.val; omega

theorem iblk0_eq (r : Fin 2048) (j : Fin 128) : (iblk m c 0 t : FVec Ideal S2048x128 .f32) (ix2 r j) =
    (m (c, Proc.tc.devRef main_arg0) : FVec Ideal S24576x128 .f32) (ix2 (row t r) j) := by
  have e : ((cfg0.win 0).blk t).view.emb (ix2 r j : S2048x128.Idx) = (ix2 (row t r) j : S24576x128.Idx) := by
    obtain ⟨⟨e0, e1⟩, -⟩ := idx_all t
    funext a; apply Fin.ext
    match a with
    | ⟨0, _⟩ => show win0_0.index t (0 : Fin 2) * 2048 + 1 * r.val = 2048 * t.val + r.val; omega
    | ⟨1, _⟩ => show win0_0.index t (1 : Fin 2) * 128 + 1 * j.val = j.val; omega
  show (V m c main_arg0 : FVec Ideal S24576x128 .f32) (((cfg0.win 0).blk t).view.emb (ix2 r j : S2048x128.Idx)) = _
  rw [e, V_main_arg0]

theorem iblk1_eq (r : Fin 2048) (j : Fin 128) : (iblk m c 1 t : FVec Ideal S2048x128 .f32) (ix2 r j) =
    (m (c, Proc.tc.devRef main_arg1) : FVec Ideal S49152x128 .f32)
      (ix2 ⟨24576 + (row t r).val, by omega⟩ j) := by
  have e : ((cfg0.win 1).blk t).view.emb (ix2 r j : S2048x128.Idx) =
      (ix2 (⟨24576 + (row t r).val, by omega⟩ : Fin 49152) j : S49152x128.Idx) := by
    obtain ⟨-, ⟨e0, e1⟩, -⟩ := idx_all t
    funext a; apply Fin.ext
    match a with
    | ⟨0, _⟩ => show win0_1.index t (0 : Fin 2) * 2048 + 1 * r.val = 24576 + (2048 * t.val + r.val); omega
    | ⟨1, _⟩ => show win0_1.index t (1 : Fin 2) * 128 + 1 * j.val = j.val; omega
  show (V m c main_arg1 : FVec Ideal S49152x128 .f32) (((cfg0.win 1).blk t).view.emb (ix2 r j : S2048x128.Idx)) = _
  rw [e, V_main_arg1]
end

/-! ## The result array -/

/-- The gated gelu of the arguments in memory. -/
abbrev geluMem : S24576x128.Idx → EReal :=
  gelu (m (c, Proc.tc.devRef main_arg0)) (m (c, Proc.tc.devRef main_arg1))

theorem flushed_eq (t : Fin cfg0.N) :
    (dats m 0 c).flushed 2 t = ((cfg0.win 2).blk t).view.read (Elt Ideal) (geluMem m c) := by
  rw [flushed2_A]
  funext (y : S2048x128.Idx)
  obtain ⟨r, j, rfl⟩ : ∃ (r : Fin 2048) (j : Fin 128), y = ix2 r j := ⟨y 0, y 1, eq_ix2 y⟩
  refine (out_apply _ _ _ _ _ _ _ _ _ _ r j).trans ?_
  show _ = geluMem m c (((cfg0.win 2).blk t).view.emb (ix2 r j : S2048x128.Idx))
  rw [emb2, iblk0_eq, iblk1_eq]
  rfl

theorem cover (y : S24576x128.Idx) : ∃ t : Fin cfg0.N, (cfg0.win 2).flush t = true ∧ y ∈ ((cfg0.win 2).blk t).view.set := by
  obtain ⟨r, j, rfl⟩ : ∃ (r : Fin 24576) (j : Fin 128), y = ix2 r j := ⟨y 0, y 1, eq_ix2 y⟩
  obtain ⟨t, ht⟩ : ∃ t : Fin cfg0.N, t.val = r.val / 2048 :=
    ⟨⟨r.val / 2048, lt_of_lt_of_eq (by omega : r.val / 2048 < 12) (by decide +kernel)⟩, rfl⟩
  refine ⟨t, flush0_2 t, ?_⟩
  have h := ((cfg0.win 2).blk t).view.emb_mem_set (ix2 (⟨r.val % 2048, by omega⟩ : Fin 2048) j : S2048x128.Idx)
  rw [emb2] at h
  have e : row t ⟨r.val % 2048, by omega⟩ = r := Fin.ext (by simp only [row]; omega)
  exact (congrArg (fun a => (ix2 a j : S24576x128.Idx)) e) ▸ h

/-- The result array after the run. -/
theorem final_eq : (dats m 0 c).arrAt 2 cfg0.N = geluMem m c :=
  (dats m 0 c).arrAt_eq_of_cover 2 (geluMem m c) (fun t _ => flushed_eq m c t) cover

end Cert.Gelu

end
-- ==== Proof.Gelu.Ref.lean ====
/-
  The gelu gate: the reference's array is the same function.
-/
module

public import proofs.«01_k».proof.Proof.Gen.Reference6Ideal.Read
public import proofs.«01_k».proof.Proof.Gelu.Block

@[expose] public section

set_option maxRecDepth 16384

noncomputable section

namespace Cert.Gelu

open Idealize.ShloMosaic Idealize.ShloMosaic.TcCoe Idealize.ShloMosaic.Tactic
open Cert.Reference6Ideal Cert.Reference6Ideal.Read

/-- The reference writes `1 + erf z` as the complement at the negated argument. -/
theorem ref_eq (x0 : (⟨S24576x128, .f32⟩ : BufTy).Contents (Elt Ideal))
    (x1 : (⟨S49152x128, .f32⟩ : BufTy).Contents (Elt Ideal)) :
    val_main_v8 (F := Ideal) x0 x1 = gelu x0 x1 := by
  funext y
  obtain ⟨r, j, rfl⟩ : ∃ (r : Fin 24576) (j : Fin 128), y = ix2 r j := ⟨y 0, y 1, eq_ix2 y⟩
  unfold gelu cell half rootHalf
  rw [← Ideal.erfc_neg, ← neg_mul]
  pointwise [val_main_v8, val_main_v7, val_main_v6, val_main_v5, val_main_v4, val_main_v3, val_main_v2, val_main_v1,
    val_main_v0, val_main_cst, val_main_cst_0]

end Cert.Gelu

end
-- ==== Proof.Gelu.Claims.lean ====
/-
  The claims about the gelu gate: the frames, and the equality of the kernel's result with the
  reference's.
-/
module

public import proofs.«01_k».proof.Defs
public import proofs.«01_k».proof.Proof.Gelu.Ref
public import proofs.«01_k».proof.Proof.Gen.Kernel6.Frame
public import proofs.«01_k».proof.Proof.Gen.Reference6Ideal.Run

@[expose] public section

set_option maxRecDepth 16384

noncomputable section

namespace Cert.Gelu

open Idealize.ShloMosaic Idealize.ShloMosaic.TcCoe Idealize.SL.Sem

theorem frame_p : Cert.quiescent_Kernel6 := fun m ρ _ => Cert.Kernel6.Gen.frame m ρ

theorem frame_pi : Cert.quiescent_Kernel6Ideal := fun m ρ _ => Cert.Kernel6Ideal.Gen.frame m ρ

/-- The reference keeps its arguments, and it has no semaphore. -/
theorem frame_ri : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The kernel's result array is the reference's. -/
theorem algebraic : Cert.algebraic_Kernel6Ideal_Reference6Ideal := by
  intro m ρ m' ρ' _ hag
  refine ⟨fun c => geluMem m c, ?_, ?_⟩
  · exact (θ_run _ _ _).mono (fun r h c => ⟨(h c).1.trans (final_eq m c), (h c).2⟩)
      (Cert.Kernel6Ideal.Value.run_blocks m ρ)
  · refine (θ_run _ _ _).mono (fun r h c => ⟨?_, (h c).2⟩) (Cert.Reference6Ideal.Value.run m' ρ')
    obtain ⟨e0, e1, -⟩ := hag c
    refine (h c).1.trans ((Cert.Reference6Ideal.Read.val_main_v8_eq (F := Ideal) _ _).trans ?_)
    refine (ref_eq _ _).trans ?_
    rw [e0, e1]

end Cert.Gelu

end
-- ==== Proof.Residual.Block.lean ====
/-
  The last residual sum: its value, what one block of the kernel computes, and the kernel's result array, of which the
  kernel writes the second half only.
-/
module

public import proofs.«01_k».proof.Proof.Gen.Kernel7Ideal.Value
public import Idealize.ShloMosaic.Lib.Pointwise
public import Idealize.ShloMosaic.Lib.StableHlo.RunRead
public import Idealize.ShloMosaic.Lib.WritesUnit

@[expose] public section

set_option maxRecDepth 16384

noncomputable section

namespace Cert.Residual

open Idealize.ShloMosaic Idealize.ShloMosaic.TcCoe Idealize.ShloMosaic.Tactic
open Cert.Kernel7Ideal Cert.Kernel7Ideal.Gen Cert.Kernel7Ideal.Value

/-- The first 24576 tokens are those of `dst`; a later token is `x` plus its gate times the mixer's output. Token `r`'s
sequence is `r / 2048`, and the gate is the last of the six parts of its modulation. -/
def residual (x : S49152x1024.Idx → EReal) (md : S24x6144.Idx → EReal) (u : S24576x1024.Idx → EReal)
    (dst : S49152x1024.Idx → EReal) : S49152x1024.Idx → EReal := fun y =>
  if (y 0).val < 24576 then dst y else
    x y + md (ix2 ⟨(y 0).val / 2048, by have : (y 0).val < 49152 := (y 0).isLt; omega⟩
        ⟨5120 + (y 1).val, by have : (y 1).val < 1024 := (y 1).isLt; omega⟩) *
      u (ix2 ⟨(y 0).val - 24576, by have : (y 0).val < 49152 := (y 0).isLt; omega⟩ (y 1))

section
variable (c : Dev nD) (i : grid0.Coords) (arg1 : Memref sig .tc .vmem S512x1024 .f32) (harg1 : arg1.IsWhole)
  (arg2 : Memref sig .tc .vmem S1x6x1024 .f32) (harg2 : arg2.IsWhole) (arg3 : Memref sig .tc .vmem S512x1024 .f32)
  (harg3 : arg3.IsWhole) (arg5 : Memref sig .tc .vmem S512x1024 .f32) (harg5 : arg5.IsWhole)
  (x0 : Vec Ideal S512x1024 .f32) (x1 : Vec Ideal S1x6x1024 .f32) (x2 : Vec Ideal S512x1024 .f32)

/-- What the body leaves at a place of the block, from the blocks of its inputs. -/
theorem out_apply (r : Fin 512) (j : Fin 1024) :
    out0_A_3 c i arg1 harg1 arg2 harg2 arg3 harg3 arg5 harg5 x0 x1 x2 (ix2 r j) =
      x0 (ix2 r j) + x1 (ix3 0 5 j) * x2 (ix2 r j) := by
  have h2 : (![0, 0] : Fin 2 → ℕ) = fun _ => 0 := by funext a; fin_cases a <;> rfl
  have h3 : (![0, 0, 0] : Fin 3 → ℕ) = fun _ => 0 := by funext a; fin_cases a <;> rfl
  unfold out0_A_3 kernelRun0_A
  dsimp only
  refine (View.read_writes_cons_unit_of_mem _ _ _ _ _ (ix2 r j) (ix2 r j) h2 (fun a => (Nat.zero_add _).symm)).trans ?_
  simp only [View.readAt_eq_ld, harg1.read_unread, harg2.read_unread, harg3.read_unread]
  rw [View.ld_unit_zero h2, View.ld_unit_zero h3, View.ld_unit_zero h2]
  pointwise [k0_pay1]
end

variable (m : (ℓ : Loc nD τ sig) → Buf (Elt Ideal) ℓ) (c : Dev nD)

theorem V_mod (b : Fin 24) (s : Fin 6) (j : Fin 1024) : (V m c main_v0 : FVec Ideal S24x6x1024 .f32) (ix3 b s j) =
    (m (c, Proc.tc.devRef main_arg1) : FVec Ideal S24x6144 .f32) (ix2 b ⟨s.val * 1024 + j.val, by omega⟩) := by
  unfold V
  after_reads_simp
  pointwise

/-- The result's array starts as a copy of `dst`. -/
theorem V_dst : (V m c main_v1 : FVec Ideal S49152x1024 .f32) =
    (m (c, Proc.tc.devRef main_arg3) : FVec Ideal S49152x1024 .f32) := by
  unfold V
  after_reads_simp
  rfl

/-! ## The blocks of the windows -/

theorem idx_all : ∀ t : Fin cfg0.N,
    (win0_0.index t (0 : Fin 2) = t.val + 48 ∧ win0_0.index t (1 : Fin 2) = 0) ∧
    (win0_1.index t (0 : Fin 3) = (t.val + 48) / 4 ∧ win0_1.index t (1 : Fin 3) = 0 ∧ win0_1.index t (2 : Fin 3) = 0) ∧
    (win0_2.index t (0 : Fin 2) = t.val ∧ win0_2.index t (1 : Fin 2) = 0) ∧
    (win0_3.index t (0 : Fin 2) = t.val + 48 ∧ win0_3.index t (1 : Fin 2) = 0) := by decide +kernel

theorem N48 (t : Fin cfg0.N) : t.val < 48 := lt_of_lt_of_le t.isLt (le_of_eq (by decide +kernel))

/-- The row of the array that row `r` of block `t` is, and the row of the mixer's output. -/
abbrev row (t : Fin cfg0.N) (r : Fin 512) : Fin 49152 := ⟨24576 + (512 * t.val + r.val), by have := N48 t; omega⟩
abbrev urow (t : Fin cfg0.N) (r : Fin 512) : Fin 24576 := ⟨512 * t.val + r.val, by have := N48 t; omega⟩

section
variable (t : Fin cfg0.N)

theorem emb3 (r : Fin 512) (j : Fin 1024) :
    ((cfg0.win 3).blk t).view.emb (ix2 r j : S512x1024.Idx) = (ix2 (row t r) j : S49152x1024.Idx) := by
  obtain ⟨-, -, -, e0, e1⟩ := idx_all t
  funext a; apply Fin.ext
  match a with
  | ⟨0, _⟩ => show win0_3.index t (0 : Fin 2) * 512 + 1 * r.val = 24576 + (512 * t.val + r.val); omega
  | ⟨1, _⟩ => show win0_3.index t (1 : Fin 2) * 1024 + 1 * j.val = j.val; omega

theorem iblk0_eq (r : Fin 512) (j : Fin 1024) : (iblk m c 0 t : FVec Ideal S512x1024 .f32) (ix2 r j) =
    (m (c, Proc.tc.devRef main_arg0) : FVec Ideal S49152x1024 .f32) (ix2 (row t r) j) := by
  have e : ((cfg0.win 0).blk t).view.emb (ix2 r j : S512x1024.Idx) = (ix2 (row t r) j : S49152x1024.Idx) := by
    obtain ⟨⟨e0, e1⟩, -⟩ := idx_all t
    funext a; apply Fin.ext
    match a with
    | ⟨0, _⟩ => show win0_0.index t (0 : Fin 2) * 512 + 1 * r.val = 24576 + (512 * t.val + r.val); omega
    | ⟨1, _⟩ => show win0_0.index t (1 : Fin 2) * 1024 + 1 * j.val = j.val; omega
  show (V m c main_arg0 : FVec Ideal S49152x1024 .f32) (((cfg0.win 0).blk t).view.emb (ix2 r j : S512x1024.Idx)) = _
  rw [e, V_main_arg0]

theorem iblk1_eq (s : Fin 6) (j : Fin 1024) : (iblk m c 1 t : FVec Ideal S1x6x1024 .f32) (ix3 0 s j) =
    (m (c, Proc.tc.devRef main_arg1) : FVec Ideal S24x6144 .f32)
      (ix2 ⟨(t.val + 48) / 4, by have := N48 t; omega⟩ ⟨s.val * 1024 + j.val, by omega⟩) := by
  have e : ((cfg0.win 1).blk t).view.emb (ix3 0 s j : S1x6x1024.Idx) =
      (ix3 (⟨(t.val + 48) / 4, by have := N48 t; omega⟩ : Fin 24) s j : S24x6x1024.Idx) := by
    obtain ⟨-, ⟨e0, e1, e2⟩, -⟩ := idx_all t
    funext a; apply Fin.ext
    match a with
    | ⟨0, _⟩ => show win0_1.index t (0 : Fin 3) * 1 + 1 * 0 = (t.val + 48) / 4; omega
    | ⟨1, _⟩ => show win0_1.index t (1 : Fin 3) * 6 + 1 * s.val = s.val; omega
    | ⟨2, _⟩ => show win0_1.index t (2 : Fin 3) * 1024 + 1 * j.val = j.val; omega
  show (V m c main_v0 : FVec Ideal S24x6x1024 .f32) (((cfg0.win 1).blk t).view.emb (ix3 0 s j : S1x6x1024.Idx)) = _
  rw [e]; exact V_mod m c _ _ _

theorem iblk2_eq (r : Fin 512) (j : Fin 1024) : (iblk m c 2 t : FVec Ideal S512x1024 .f32) (ix2 r j) =
    (m (c, Proc.tc.devRef main_arg2) : FVec Ideal S24576x1024 .f32) (ix2 (urow t r) j) := by
  have e : ((cfg0.win 2).blk t).view.emb (ix2 r j : S512x1024.Idx) = (ix2 (urow t r) j : S24576x1024.Idx) := by
    obtain ⟨-, -, ⟨e0, e1⟩, -⟩ := idx_all t
    funext a; apply Fin.ext
    match a with
    | ⟨0, _⟩ => show win0_2.index t (0 : Fin 2) * 512 + 1 * r.val = 512 * t.val + r.val; omega
    | ⟨1, _⟩ => show win0_2.index t (1 : Fin 2) * 1024 + 1 * j.val = j.val; omega
  show (V m c main_arg2 : FVec Ideal S24576x1024 .f32) (((cfg0.win 2).blk t).view.emb (ix2 r j : S512x1024.Idx)) = _
  rw [e, V_main_arg2]
end

/-! ## The result array -/

/-- The residual sum of the arguments in memory. -/
abbrev resMem : S49152x1024.Idx → EReal :=
  residual (m (c, Proc.tc.devRef main_arg0)) (m (c, Proc.tc.devRef main_arg1)) (m (c, Proc.tc.devRef main_arg2))
    (m (c, Proc.tc.devRef main_arg3))

theorem flushed_eq (t : Fin cfg0.N) :
    (dats m 0 c).flushed 3 t = ((cfg0.win 3).blk t).view.read (Elt Ideal) (resMem m c) := by
  rw [flushed3_A]
  funext (y : S512x1024.Idx)
  obtain ⟨r, j, rfl⟩ : ∃ (r : Fin 512) (j : Fin 1024), y = ix2 r j := ⟨y 0, y 1, eq_ix2 y⟩
  refine (out_apply _ _ _ _ _ _ _ _ _ _ _ _ _ r j).trans ?_
  show _ = resMem m c (((cfg0.win 3).blk t).view.emb (ix2 r j : S512x1024.Idx))
  rw [emb3, iblk0_eq, iblk1_eq, iblk2_eq]
  unfold resMem residual
  refine Eq.trans ?_ (if_neg (by show ¬ 24576 + (512 * t.val + r.val) < 24576; omega)).symm
  have ht := N48 t
  have eb : (⟨(t.val + 48) / 4, by omega⟩ : Fin 24) = ⟨(row t r).val / 2048, by omega⟩ :=
    Fin.ext (by show (t.val + 48) / 4 = (24576 + (512 * t.val + r.val)) / 2048; omega)
  have eu : urow t r = ⟨(row t r).val - 24576, by omega⟩ :=
    Fin.ext (by show 512 * t.val + r.val = 24576 + (512 * t.val + r.val) - 24576; omega)
  rw [eb, eu]
  rfl

/-- The blocks cover the second half of the array. -/
theorem cover (r : Fin 49152) (j : Fin 1024) (hr : 24576 ≤ r.val) :
    ∃ t : Fin cfg0.N, (cfg0.win 3).flush t = true ∧ (ix2 r j : S49152x1024.Idx) ∈ ((cfg0.win 3).blk t).view.set := by
  obtain ⟨t, ht⟩ : ∃ t : Fin cfg0.N, t.val = (r.val - 24576) / 512 :=
    ⟨⟨(r.val - 24576) / 512, lt_of_lt_of_eq (by omega : (r.val - 24576) / 512 < 48) (by decide +kernel)⟩, rfl⟩
  refine ⟨t, flush0_3 t, ?_⟩
  have h := ((cfg0.win 3).blk t).view.emb_mem_set (ix2 (⟨(r.val - 24576) % 512, by omega⟩ : Fin 512) j : S512x1024.Idx)
  rw [emb3] at h
  have e : row t ⟨(r.val - 24576) % 512, by omega⟩ = r := Fin.ext (by simp only [row]; omega)
  exact (congrArg (fun a => (ix2 a j : S49152x1024.Idx)) e) ▸ h

/-- The result array after the run: what the blocks leave in the second half, and `dst` in the first. -/
theorem final_eq : (dats m 0 c).arrAt 3 cfg0.N = resMem m c := by
  funext (y : S49152x1024.Idx)
  refine ((dats m 0 c).arrAt_eq_piecewise 3 (resMem m c) (fun t _ => flushed_eq m c t) y).trans ?_
  split
  · rfl
  · rename_i h
    obtain ⟨r, j, rfl⟩ : ∃ (r : Fin 49152) (j : Fin 1024), y = ix2 r j := ⟨y 0, y 1, eq_ix2 y⟩
    have hr : r.val < 24576 := by
      by_contra hr
      exact h (cover r j (by omega))
    rw [A_eq]
    refine (congrFun (V_dst m c) (ix2 r j)).trans ?_
    exact (if_pos hr).symm

end Cert.Residual

end
-- ==== Proof.Residual.Ref.lean ====
/-
  The last residual sum: the reference's array is the same function.
-/
module

public import proofs.«01_k».proof.Proof.Gen.Reference7Ideal.Read
public import proofs.«01_k».proof.Proof.Residual.Block

@[expose] public section

set_option maxRecDepth 16384

noncomputable section

namespace Cert.Residual

open Idealize.ShloMosaic Idealize.ShloMosaic.TcCoe Idealize.ShloMosaic.Tactic
open Cert.Reference7Ideal Cert.Reference7Ideal.Read

theorem ref_eq (x0 : (⟨S49152x1024, .f32⟩ : BufTy).Contents (Elt Ideal))
    (x1 : (⟨S24x6144, .f32⟩ : BufTy).Contents (Elt Ideal)) (x2 : (⟨S24576x1024, .f32⟩ : BufTy).Contents (Elt Ideal))
    (x3 : (⟨S49152x1024, .f32⟩ : BufTy).Contents (Elt Ideal)) :
    val_main_v13 (F := Ideal) x0 x1 x2 x3 = residual x0 x1 x2 x3 := by
  funext y
  obtain ⟨r, j, rfl⟩ : ∃ (r : Fin 49152) (j : Fin 1024), y = ix2 r j := ⟨y 0, y 1, eq_ix2 y⟩
  unfold residual
  pointwise [val_main_v13, val_main_v12, val_main_v11, val_main_v10, val_main_v9, val_main_v8, val_main_v7,
    val_main_v6, val_main_v5]
  by_cases hr : r.val < 24576
  · rw [dif_pos hr, if_pos hr]
  · rw [dif_neg hr, if_neg hr]
    have er : 24576 + (r.val - 24576) = r.val := by omega
    simp only [er]

end Cert.Residual

end
-- ==== Proof.Residual.Claims.lean ====
/-
  The claims about the last residual sum: the frames, and the equality of the kernel's result with the
  reference's.
-/
module

public import proofs.«01_k».proof.Defs
public import proofs.«01_k».proof.Proof.Residual.Ref
public import proofs.«01_k».proof.Proof.Gen.Kernel7.Frame
public import proofs.«01_k».proof.Proof.Gen.Reference7Ideal.Run

@[expose] public section

set_option maxRecDepth 16384

noncomputable section

namespace Cert.Residual

open Idealize.ShloMosaic Idealize.ShloMosaic.TcCoe Idealize.SL.Sem

theorem frame_p : Cert.quiescent_Kernel7 := fun m ρ _ => Cert.Kernel7.Gen.frame m ρ

theorem frame_pi : Cert.quiescent_Kernel7Ideal := fun m ρ _ => Cert.Kernel7Ideal.Gen.frame m ρ

/-- The reference keeps its arguments, and it has no semaphore. -/
theorem frame_ri : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The kernel's result array is the reference's. -/
theorem algebraic : Cert.algebraic_Kernel7Ideal_Reference7Ideal := by
  intro m ρ m' ρ' _ hag
  refine ⟨fun c => resMem m c, ?_, ?_⟩
  · exact (θ_run _ _ _).mono (fun r h c => ⟨(h c).1.trans (final_eq m c), (h c).2⟩)
      (Cert.Kernel7Ideal.Value.run_blocks m ρ)
  · refine (θ_run _ _ _).mono (fun r h c => ⟨?_, (h c).2⟩) (Cert.Reference7Ideal.Value.run m' ρ')
    obtain ⟨e0, e1, e2, e3⟩ := hag c
    refine (h c).1.trans ((Cert.Reference7Ideal.Read.val_main_v13_eq (F := Ideal) _ _ _ _).trans ?_)
    refine (ref_eq _ _ _ _).trans ?_
    rw [e0, e1, e2, e3]

end Cert.Residual

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Attention
public import proofs.«01_k».proof.Proof.Inproj.Claims
public import proofs.«01_k».proof.Proof.Merge.Claims
public import proofs.«01_k».proof.Proof.Modulation.Claims
public import proofs.«01_k».proof.Proof.Filters.Claims
public import proofs.«01_k».proof.Proof.Gelu.Claims
public import proofs.«01_k».proof.Proof.Residual.Claims
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import Idealize.ShloMosaic.Adequacy
public import Idealize.ShloMosaic.Init

@[expose] public section

noncomputable section

namespace Cert.Proof

open Idealize.ShloMosaic Idealize.SL.Sem Cert.Kernel

/-- The claims about the seven calls. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_finite_inputs.Att.facts,
    Cert.Attention.frame_p, Cert.Attention.frame_pi, @Cert.Attention.frame_pi_pre Cert.Pre_finite_inputs.Att.facts,
    Cert.Attention.frame_ri, @Cert.Attention.frame_ri_pre Cert.Pre_finite_inputs.Att.facts,
    Cert.Inproj.frame_p, Cert.Inproj.frame_pi, Cert.Inproj.frame_ri,
    Cert.Merge.frame_p, Cert.Merge.frame_pi, Cert.Merge.frame_ri,
    Cert.Modulation.frame_p, Cert.Modulation.frame_pi, Cert.Modulation.frame_ri,
    Cert.Filters.frame_p, Cert.Filters.frame_pi, Cert.Filters.frame_ri,
    Cert.Gelu.frame_p, Cert.Gelu.frame_pi, Cert.Gelu.frame_ri,
    Cert.Residual.frame_p, Cert.Residual.frame_pi, Cert.Residual.frame_ri,
    trivial, @Cert.Attention.algebraic Cert.Pre_finite_inputs.Att.facts,
    trivial, Cert.Inproj.algebraic, trivial, Cert.Merge.algebraic,
    trivial, Cert.Modulation.algebraic, trivial, Cert.Filters.algebraic,
    trivial, Cert.Gelu.algebraic, trivial, Cert.Residual.algebraic⟩

end Cert.Proof

end
